-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = Layout.block ⟨3, ![1, 256, 1024]⟩ ⟨3, ![1, 1024, 1024]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![1, 4096, 8, 128]⟩ ⟨4, ![1, 16384, 8, 128]⟩ 1 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![1, 4096, 8, 128]⟩ ⟨4, ![1, 16384, 8, 128]⟩ 1 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = Layout.block ⟨3, ![1, 256, 1024]⟩ ⟨3, ![1, 1024, 1024]⟩ 1 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v44) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S1x256x1024 : Shape := ⟨3, ![1, 256, 1024]⟩
abbrev S1024x1024 : Shape := ⟨2, ![1024, 1024]⟩
abbrev S1x4096x8x128 : Shape := ⟨4, ![1, 4096, 8, 128]⟩
abbrev S_ : Shape := ⟨0, ![]⟩

class Facts : Prop where
  bcast_S_S1x256x1024 : S_.BroadcastsInDim S1x256x1024 (![] : Fin 0 → Fin S1x256x1024.rank)
  bcast_S_S1024x1024 : S_.BroadcastsInDim S1024x1024 (![] : Fin 0 → Fin S1024x1024.rank)
  bcast_S_S1x4096x8x128 : S_.BroadcastsInDim S1x4096x8x128 (![] : Fin 0 → Fin S1x4096x8x128.rank)

variable [Facts]

def fn {F : FTy → Type} [FloatOps F] (main_arg0 : FVec F S1x256x1024 .f32) (main_arg1 : FVec F S1024x1024 .f32) (main_arg2 : FVec F S1x4096x8x128 .f32) (main_arg3 : FVec F S1x4096x8x128 .f32) (main_arg4 : FVec F S1024x1024 .f32) : IVec S1x256x1024 1 × IVec S1024x1024 1 × IVec S1x4096x8x128 1 :=
  let main_v0 : FVec F S1x256x1024 .f32 := Host.absf main_arg0
  let main_cst : FVec F S_ .f32 := constant S_ .f32 0x7F800000#32
  let main_v1 : FVec F S1x256x1024 .f32 := broadcastInDim S1x256x1024 ![] bcast_S_S1x256x1024 main_cst
  let main_v2 : IVec S1x256x1024 1 := cmpf .olt main_v0 main_v1
  let main_v3 : FVec F S1024x1024 .f32 := Host.absf main_arg1
  let main_cst_0 : FVec F S_ .f32 := constant S_ .f32 0x7F800000#32
  let main_v4 : FVec F S1024x1024 .f32 := broadcastInDim S1024x1024 ![] bcast_S_S1024x1024 main_cst_0
  let main_v5 : IVec S1024x1024 1 := cmpf .olt main_v3 main_v4
  let main_v6 : FVec F S1x4096x8x128 .f32 := Host.absf main_arg2
  let main_cst_1 : FVec F S_ .f32 := constant S_ .f32 0x7F800000#32
  let main_v7 : FVec F S1x4096x8x128 .f32 := broadcastInDim S1x4096x8x128 ![] bcast_S_S1x4096x8x128 main_cst_1
  let main_v8 : IVec S1x4096x8x128 1 := cmpf .olt main_v6 main_v7
  (main_v2, main_v5, main_v8)
-- ==== Pre_finite_ReferenceIdeal.lean ====
abbrev S1x1024x1024 : Shape := ⟨3, ![1, 1024, 1024]⟩
abbrev S1024x1024 : Shape := ⟨2, ![1024, 1024]⟩
abbrev S1x16384x8x128 : Shape := ⟨4, ![1, 16384, 8, 128]⟩
abbrev S_ : Shape := ⟨0, ![]⟩

class Facts : Prop where
  bcast_S_S1x1024x1024 : S_.BroadcastsInDim S1x1024x1024 (![] : Fin 0 → Fin S1x1024x1024.rank)
  bcast_S_S1024x1024 : S_.BroadcastsInDim S1024x1024 (![] : Fin 0 → Fin S1024x1024.rank)
  bcast_S_S1x16384x8x128 : S_.BroadcastsInDim S1x16384x8x128 (![] : Fin 0 → Fin S1x16384x8x128.rank)

variable [Facts]

def fn {F : FTy → Type} [FloatOps F] (main_arg0 : FVec F S1x1024x1024 .f32) (main_arg1 : FVec F S1024x1024 .f32) (main_arg2 : FVec F S1x16384x8x128 .f32) (main_arg3 : FVec F S1x16384x8x128 .f32) (main_arg4 : FVec F S1024x1024 .f32) : IVec S1x1024x1024 1 × IVec S1024x1024 1 × IVec S1x16384x8x128 1 :=
  let main_v0 : FVec F S1x1024x1024 .f32 := Host.absf main_arg0
  let main_cst : FVec F S_ .f32 := constant S_ .f32 0x7F800000#32
  let main_v1 : FVec F S1x1024x1024 .f32 := broadcastInDim S1x1024x1024 ![] bcast_S_S1x1024x1024 main_cst
  let main_v2 : IVec S1x1024x1024 1 := cmpf .olt main_v0 main_v1
  let main_v3 : FVec F S1024x1024 .f32 := Host.absf main_arg1
  let main_cst_0 : FVec F S_ .f32 := constant S_ .f32 0x7F800000#32
  let main_v4 : FVec F S1024x1024 .f32 := broadcastInDim S1024x1024 ![] bcast_S_S1024x1024 main_cst_0
  let main_v5 : IVec S1024x1024 1 := cmpf .olt main_v3 main_v4
  let main_v6 : FVec F S1x16384x8x128 .f32 := Host.absf main_arg2
  let main_cst_1 : FVec F S_ .f32 := constant S_ .f32 0x7F800000#32
  let main_v7 : FVec F S1x16384x8x128 .f32 := broadcastInDim S1x16384x8x128 ![] bcast_S_S1x16384x8x128 main_cst_1
  let main_v8 : IVec S1x16384x8x128 1 := cmpf .olt main_v6 main_v7
  (main_v2, main_v5, main_v8)
-- ==== Kernel.lean ====
abbrev S1x256x1024 : Shape := ⟨3, ![1, 256, 1024]⟩
abbrev S1024x1024 : Shape := ⟨2, ![1024, 1024]⟩
abbrev S1x4096x8x128 : Shape := ⟨4, ![1, 4096, 8, 128]⟩
abbrev S256x1024 : Shape := ⟨2, ![256, 1024]⟩
abbrev S256x8x128 : Shape := ⟨3, ![256, 8, 128]⟩
abbrev S8x256x128 : Shape := ⟨3, ![8, 256, 128]⟩
abbrev S4x8x256x128 : Shape := ⟨4, ![4, 8, 256, 128]⟩
abbrev S3x8x256x128 : Shape := ⟨4, ![3, 8, 256, 128]⟩
abbrev S4x256x8 : Shape := ⟨3, ![4, 256, 8]⟩
abbrev S3x256x8 : Shape := ⟨3, ![3, 256, 8]⟩
abbrev S3 : Shape := ⟨1, ![3]⟩
abbrev S3x8 : Shape := ⟨2, ![3, 8]⟩
abbrev S_ : Shape := ⟨0, ![]⟩
abbrev S1x8x256x128 : Shape := ⟨4, ![1, 8, 256, 128]⟩
abbrev S1x4096 : Shape := ⟨2, ![1, 4096]⟩
abbrev S1x8 : Shape := ⟨2, ![1, 8]⟩
abbrev S1 : Shape := ⟨1, ![1]⟩
abbrev S256x1 : Shape := ⟨2, ![256, 1]⟩
abbrev S256x4096 : Shape := ⟨2, ![256, 4096]⟩
abbrev S1x1x256x128 : Shape := ⟨4, ![1, 1, 256, 128]⟩
abbrev S256x128 : Shape := ⟨2, ![256, 128]⟩
abbrev S1x4096x1x128 : Shape := ⟨4, ![1, 4096, 1, 128]⟩
abbrev S4096x128 : Shape := ⟨2, ![4096, 128]⟩
abbrev S1x256x128 : Shape := ⟨3, ![1, 256, 128]⟩
abbrev S256 : Shape := ⟨1, ![256]⟩
abbrev S1x256x8 : Shape := ⟨3, ![1, 256, 8]⟩
abbrev S256x8 : Shape := ⟨2, ![256, 8]⟩
abbrev S1x1 : Shape := ⟨2, ![1, 1]⟩

abbrev nBuf : Space → Nat
  | .hbm => 14
  | .vmem => 9
  | .smem => 0
  | _ => 0

abbrev bufTy : (tb : Table) → Fin (tcTables nBuf tb) → BufTy
  | .hbm, ⟨0, _⟩ => ⟨S1x256x1024, .f32⟩
  | .hbm, ⟨1, _⟩ => ⟨S1024x1024, .f32⟩
  | .hbm, ⟨2, _⟩ => ⟨S1x4096x8x128, .f32⟩
  | .hbm, ⟨3, _⟩ => ⟨S1x4096x8x128, .f32⟩
  | .hbm, ⟨4, _⟩ => ⟨S1024x1024, .f32⟩
  | .hbm, ⟨5, _⟩ => ⟨S256x1024, .f32⟩
  | .hbm, ⟨6, _⟩ => ⟨S256x1024, .f32⟩
  | .hbm, ⟨7, _⟩ => ⟨S256x8x128, .f32⟩
  | .hbm, ⟨8, _⟩ => ⟨S8x256x128, .f32⟩
  | .hbm, ⟨9, _⟩ => ⟨S8x256x128, .f32⟩
  | .hbm, ⟨10, _⟩ => ⟨S256x8x128, .f32⟩
  | .hbm, ⟨11, _⟩ => ⟨S256x1024, .f32⟩
  | .hbm, ⟨12, _⟩ => ⟨S256x1024, .f32⟩
  | .hbm, ⟨13, _⟩ => ⟨S1x256x1024, .f32⟩
  | .local _ .vmem, ⟨0, _⟩ => ⟨S8x256x128, .f32⟩
  | .local _ .vmem, ⟨1, _⟩ => ⟨S1x4096x8x128, .f32⟩
  | .local _ .vmem, ⟨2, _⟩ => ⟨S1x4096x8x128, .f32⟩
  | .local _ .vmem, ⟨3, _⟩ => ⟨S8x256x128, .f32⟩
  | .local _ .vmem, ⟨4, _⟩ => ⟨S4x8x256x128, .f32⟩
  | .local _ .vmem, ⟨5, _⟩ => ⟨S3x8x256x128, .f32⟩
  | .local _ .vmem, ⟨6, _⟩ => ⟨S3x8x256x128, .f32⟩
  | .local _ .vmem, ⟨7, _⟩ => ⟨S4x256x8, .f32⟩
  | .local _ .vmem, ⟨8, _⟩ => ⟨S3x256x8, .f32⟩
  | _, _ => ⟨S1x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 1 → Bool
  | ⟨0, _⟩ => false
  | _ => false

abbrev dmaSemScoped : Fin 64 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | _ => false

abbrev sig : RefSig :=
  (ofTc nBuf bufTy 1 64 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_23 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_14 : BitVec 32 := 1#32
  let v27 : BitVec 32 := Scalar.addi v2 c1_i32_14
  let c4_i32_15 : BitVec 32 := 4#32
  let c0_i32_16 : BitVec 32 := 0#32
  let v28 : BitVec 1 := Scalar.cmpi .eq c4_i32_15 c0_i32_16
  let c1_i32_17 : BitVec 32 := 1#32
  let v29 : BitVec 32 := Scalar.select v28 c1_i32_17 c4_i32_15
  let v30 : BitVec 32 := Scalar.remsi v27 v29
  let c0_i32_19 : BitVec 32 := 0#32
  let v32 : BitVec 1 := Scalar.cmpi .slt v30 c0_i32_19
  let c0_i32_20 : BitVec 32 := 0#32
  let v33 : BitVec 1 := Scalar.cmpi .slt v29 c0_i32_20
  let v34 : BitVec 1 := Scalar.xori v32 v33
  let c0_i32_18 : BitVec 32 := 0#32
  let v31 : BitVec 1 := Scalar.cmpi .ne v30 c0_i32_18
  let v35 : BitVec 1 := Scalar.andi v34 v31
  let v36 : BitVec 32 := Scalar.addi v30 v29
  let v37 : BitVec 32 := Scalar.select v35 v36 v30
  let c1_i32_22 : BitVec 32 := 1#32
  let v38 : BitVec 32 := Scalar.muli v37 c1_i32_22
  let v39 : BitVec 32 := Scalar.addi c0_i32_23 v38
  v39.toNat
def k0_dev2 (d0 : Dev nD) : Nat :=
  let c0_i32_32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v40 : BitVec 32 := Scalar.addi v2 c2_i32
  let c4_i32_24 : BitVec 32 := 4#32
  let c0_i32_25 : BitVec 32 := 0#32
  let v41 : BitVec 1 := Scalar.cmpi .eq c4_i32_24 c0_i32_25
  let c1_i32_26 : BitVec 32 := 1#32
  let v42 : BitVec 32 := Scalar.select v41 c1_i32_26 c4_i32_24
  let v43 : BitVec 32 := Scalar.remsi v40 v42
  let c0_i32_28 : BitVec 32 := 0#32
  let v45 : BitVec 1 := Scalar.cmpi .slt v43 c0_i32_28
  let c0_i32_29 : BitVec 32 := 0#32
  let v46 : BitVec 1 := Scalar.cmpi .slt v42 c0_i32_29
  let v47 : BitVec 1 := Scalar.xori v45 v46
  let c0_i32_27 : BitVec 32 := 0#32
  let v44 : BitVec 1 := Scalar.cmpi .ne v43 c0_i32_27
  let v48 : BitVec 1 := Scalar.andi v47 v44
  let v49 : BitVec 32 := Scalar.addi v43 v42
  let v50 : BitVec 32 := Scalar.select v48 v49 v43
  let c1_i32_31 : BitVec 32 := 1#32
  let v51 : BitVec 32 := Scalar.muli v50 c1_i32_31
  let v52 : BitVec 32 := Scalar.addi c0_i32_32 v51
  v52.toNat
def k0_dev3 (d0 : Dev nD) : Nat :=
  let c0_i32_41 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v53 : BitVec 32 := Scalar.addi v2 c3_i32
  let c4_i32_33 : BitVec 32 := 4#32
  let c0_i32_34 : BitVec 32 := 0#32
  let v54 : BitVec 1 := Scalar.cmpi .eq c4_i32_33 c0_i32_34
  let c1_i32_35 : BitVec 32 := 1#32
  let v55 : BitVec 32 := Scalar.select v54 c1_i32_35 c4_i32_33
  let v56 : BitVec 32 := Scalar.remsi v53 v55
  let c0_i32_37 : BitVec 32 := 0#32
  let v58 : BitVec 1 := Scalar.cmpi .slt v56 c0_i32_37
  let c0_i32_38 : BitVec 32 := 0#32
  let v59 : BitVec 1 := Scalar.cmpi .slt v55 c0_i32_38
  let v60 : BitVec 1 := Scalar.xori v58 v59
  let c0_i32_36 : BitVec 32 := 0#32
  let v57 : BitVec 1 := Scalar.cmpi .ne v56 c0_i32_36
  let v61 : BitVec 1 := Scalar.andi v60 v57
  let v62 : BitVec 32 := Scalar.addi v56 v55
  let v63 : BitVec 32 := Scalar.select v61 v62 v56
  let c1_i32_40 : BitVec 32 := 1#32
  let v64 : BitVec 32 := Scalar.muli v63 c1_i32_40
  let v65 : BitVec 32 := Scalar.addi c0_i32_41 v64
  v65.toNat
def k0_dev4 (d0 : Dev nD) : Nat :=
  let c0_i32_60 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_59 : BitVec 32 := 1#32
  let v100 : BitVec 32 := Scalar.muli v25 c1_i32_59
  let v101 : BitVec 32 := Scalar.addi c0_i32_60 v100
  v101.toNat
@[reducible] def k0_t1_loop : Scf.Loop 32 :=
  let c0_i32_97 : BitVec 32 := 0#32
  let c8_i32 : BitVec 32 := 8#32
  let v198 : BitVec 32 := Scalar.addi c0_i32_97 c8_i32
  let c1_i32_98 : BitVec 32 := 1#32
  ⟨c0_i32_97, v198, c1_i32_98⟩
def k0_off1 (k0_t1 : Fin k0_t1_loop.trips) : Fin 4 → Nat :=
  let c0_406 : Index := 0#32
  let c0_i32_97 : BitVec 32 := 0#32
  let c1_i32_98 : BitVec 32 := 1#32
  let arg15 : BitVec 32 := Scf.iv c0_i32_97 c1_i32_98 k0_t1
  let v617 : Index := Scalar.indexCast arg15
  let c0_407 : Index := 0#32
  let c0_408 : Index := 0#32
  ![0, v617.toNat, 0, 0]
def k0_off2 (k0_t1 : Fin k0_t1_loop.trips) : Fin 4 → Nat :=
  let c0_409 : Index := 0#32
  let c0_410 : Index := 0#32
  let c0_i32_97 : BitVec 32 := 0#32
  let c1_i32_98 : BitVec 32 := 1#32
  let arg15 : BitVec 32 := Scf.iv c0_i32_97 c1_i32_98 k0_t1
  let v620 : Index := Scalar.indexCast arg15
  let c0_411 : Index := 0#32
  ![0, 0, v620.toNat, 0]
def k0_off3 (k0_t1 : Fin k0_t1_loop.trips) : Fin 3 → Nat :=
  let c0_i32_97 : BitVec 32 := 0#32
  let c1_i32_98 : BitVec 32 := 1#32
  let arg15 : BitVec 32 := Scf.iv c0_i32_97 c1_i32_98 k0_t1
  let v633 : Index := Scalar.indexCast arg15
  let c0_418 : Index := 0#32
  let c0_419 : Index := 0#32
  ![v633.toNat, 0, 0]
def k0_dev5 (d0 : Dev nD) : Nat :=
  let c0_i32_117 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_116 : BitVec 32 := 1#32
  let v207 : BitVec 32 := Scalar.muli v25 c1_i32_116
  let v208 : BitVec 32 := Scalar.addi c0_i32_117 v207
  v208.toNat
@[reducible] def k0_t2_loop : Scf.Loop 32 :=
  let c0_i32_156 : BitVec 32 := 0#32
  let c8_i32_157 : BitVec 32 := 8#32
  let v305 : BitVec 32 := Scalar.addi c0_i32_156 c8_i32_157
  let c1_i32_158 : BitVec 32 := 1#32
  ⟨c0_i32_156, v305, c1_i32_158⟩
def k0_off4 (k0_t2 : Fin k0_t2_loop.trips) : Fin 4 → Nat :=
  let c1_406 : Index := 1#32
  let c0_i32_156 : BitVec 32 := 0#32
  let c1_i32_158 : BitVec 32 := 1#32
  let arg15 : BitVec 32 := Scf.iv c0_i32_156 c1_i32_158 k0_t2
  let v617 : Index := Scalar.indexCast arg15
  let c0_407 : Index := 0#32
  let c0_408 : Index := 0#32
  ![1, v617.toNat, 0, 0]
def k0_off5 (k0_t2 : Fin k0_t2_loop.trips) : Fin 4 → Nat :=
  let c0_409 : Index := 0#32
  let c0_410 : Index := 0#32
  let c0_i32_156 : BitVec 32 := 0#32
  let c1_i32_158 : BitVec 32 := 1#32
  let arg15 : BitVec 32 := Scf.iv c0_i32_156 c1_i32_158 k0_t2
  let v620 : Index := Scalar.indexCast arg15
  let c0_411 : Index := 0#32
  ![0, 0, v620.toNat, 0]
def k0_off6 (k0_t2 : Fin k0_t2_loop.trips) : Fin 3 → Nat :=
  let c0_i32_156 : BitVec 32 := 0#32
  let c1_i32_158 : BitVec 32 := 1#32
  let arg15 : BitVec 32 := Scf.iv c0_i32_156 c1_i32_158 k0_t2
  let v635 : Index := Scalar.indexCast arg15
  let c0_421 : Index := 0#32
  let c0_422 : Index := 0#32
  ![v635.toNat, 0, 0]
def k0_off7 (k0_t2 : Fin k0_t2_loop.trips) : Fin 2 → Nat :=
  let c0_i32_434 : BitVec 32 := 0#32
  let c0_i32_156 : BitVec 32 := 0#32
  let c1_i32_158 : BitVec 32 := 1#32
  let arg15 : BitVec 32 := Scf.iv c0_i32_156 c1_i32_158 k0_t2
  ![0, arg15.toNat]
def k0_off8 (k0_t2 : Fin k0_t2_loop.trips) : Fin 4 → Nat :=
  let c0_i32_432 : BitVec 32 := 0#32
  let c0_i32_156 : BitVec 32 := 0#32
  let c1_i32_158 : BitVec 32 := 1#32
  let arg15 : BitVec 32 := Scf.iv c0_i32_156 c1_i32_158 k0_t2
  let c0_i32_437 : BitVec 32 := 0#32
  let c0_i32_438 : BitVec 32 := 0#32
  ![0, arg15.toNat, 0, 0]
def k0_dev6 (d0 : Dev nD) : Nat :=
  let c0_i32_436 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_124 : BitVec 32 := 4#32
  let v217 : BitVec 32 := Scalar.addi v2 c4_i32_124
  let c1_i32_125 : BitVec 32 := 1#32
  let v218 : BitVec 32 := Scalar.subi v217 c1_i32_125
  let c4_i32_126 : BitVec 32 := 4#32
  let c0_i32_127 : BitVec 32 := 0#32
  let v219 : BitVec 1 := Scalar.cmpi .eq c4_i32_126 c0_i32_127
  let c1_i32_128 : BitVec 32 := 1#32
  let v220 : BitVec 32 := Scalar.select v219 c1_i32_128 c4_i32_126
  let v221 : BitVec 32 := Scalar.remsi v218 v220
  let c0_i32_130 : BitVec 32 := 0#32
  let v223 : BitVec 1 := Scalar.cmpi .slt v221 c0_i32_130
  let c0_i32_131 : BitVec 32 := 0#32
  let v224 : BitVec 1 := Scalar.cmpi .slt v220 c0_i32_131
  let v225 : BitVec 1 := Scalar.xori v223 v224
  let c0_i32_129 : BitVec 32 := 0#32
  let v222 : BitVec 1 := Scalar.cmpi .ne v221 c0_i32_129
  let v226 : BitVec 1 := Scalar.andi v225 v222
  let v227 : BitVec 32 := Scalar.addi v221 v220
  let v228 : BitVec 32 := Scalar.select v226 v227 v221
  let c1_i32_435 : BitVec 32 := 1#32
  let v654 : BitVec 32 := Scalar.muli v228 c1_i32_435
  let v655 : BitVec 32 := Scalar.addi c0_i32_436 v654
  v655.toNat
def k0_dev7 (d0 : Dev nD) : Nat :=
  let c0_i32_165 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_124 : BitVec 32 := 4#32
  let v217 : BitVec 32 := Scalar.addi v2 c4_i32_124
  let c1_i32_125 : BitVec 32 := 1#32
  let v218 : BitVec 32 := Scalar.subi v217 c1_i32_125
  let c4_i32_126 : BitVec 32 := 4#32
  let c0_i32_127 : BitVec 32 := 0#32
  let v219 : BitVec 1 := Scalar.cmpi .eq c4_i32_126 c0_i32_127
  let c1_i32_128 : BitVec 32 := 1#32
  let v220 : BitVec 32 := Scalar.select v219 c1_i32_128 c4_i32_126
  let v221 : BitVec 32 := Scalar.remsi v218 v220
  let c0_i32_130 : BitVec 32 := 0#32
  let v223 : BitVec 1 := Scalar.cmpi .slt v221 c0_i32_130
  let c0_i32_131 : BitVec 32 := 0#32
  let v224 : BitVec 1 := Scalar.cmpi .slt v220 c0_i32_131
  let v225 : BitVec 1 := Scalar.xori v223 v224
  let c0_i32_129 : BitVec 32 := 0#32
  let v222 : BitVec 1 := Scalar.cmpi .ne v221 c0_i32_129
  let v226 : BitVec 1 := Scalar.andi v225 v222
  let v227 : BitVec 32 := Scalar.addi v221 v220
  let v228 : BitVec 32 := Scalar.select v226 v227 v221
  let c1_i32_164 : BitVec 32 := 1#32
  let v306 : BitVec 32 := Scalar.muli v228 c1_i32_164
  let v307 : BitVec 32 := Scalar.addi c0_i32_165 v306
  v307.toNat
def k0_dev8 (d0 : Dev nD) : Nat :=
  let c0_i32_187 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_186 : BitVec 32 := 1#32
  let v324 : BitVec 32 := Scalar.muli v25 c1_i32_186
  let v325 : BitVec 32 := Scalar.addi c0_i32_187 v324
  v325.toNat
@[reducible] def k0_t3_loop : Scf.Loop 32 :=
  let c0_i32_226 : BitVec 32 := 0#32
  let c8_i32_227 : BitVec 32 := 8#32
  let v422 : BitVec 32 := Scalar.addi c0_i32_226 c8_i32_227
  let c1_i32_228 : BitVec 32 := 1#32
  ⟨c0_i32_226, v422, c1_i32_228⟩
def k0_off9 (k0_t3 : Fin k0_t3_loop.trips) : Fin 4 → Nat :=
  let c2_406 : Index := 2#32
  let c0_i32_226 : BitVec 32 := 0#32
  let c1_i32_228 : BitVec 32 := 1#32
  let arg15 : BitVec 32 := Scf.iv c0_i32_226 c1_i32_228 k0_t3
  let v617 : Index := Scalar.indexCast arg15
  let c0_407 : Index := 0#32
  let c0_408 : Index := 0#32
  ![2, v617.toNat, 0, 0]
def k0_off10 (k0_t3 : Fin k0_t3_loop.trips) : Fin 4 → Nat :=
  let c0_409 : Index := 0#32
  let c0_410 : Index := 0#32
  let c0_i32_226 : BitVec 32 := 0#32
  let c1_i32_228 : BitVec 32 := 1#32
  let arg15 : BitVec 32 := Scf.iv c0_i32_226 c1_i32_228 k0_t3
  let v620 : Index := Scalar.indexCast arg15
  let c0_411 : Index := 0#32
  ![0, 0, v620.toNat, 0]
def k0_off11 (k0_t3 : Fin k0_t3_loop.trips) : Fin 3 → Nat :=
  let c0_i32_226 : BitVec 32 := 0#32
  let c1_i32_228 : BitVec 32 := 1#32
  let arg15 : BitVec 32 := Scf.iv c0_i32_226 c1_i32_228 k0_t3
  let v635 : Index := Scalar.indexCast arg15
  let c0_421 : Index := 0#32
  let c0_422 : Index := 0#32
  ![v635.toNat, 0, 0]
def k0_off12 (k0_t3 : Fin k0_t3_loop.trips) : Fin 2 → Nat :=
  let c1_i32_434 : BitVec 32 := 1#32
  let c0_i32_226 : BitVec 32 := 0#32
  let c1_i32_228 : BitVec 32 := 1#32
  let arg15 : BitVec 32 := Scf.iv c0_i32_226 c1_i32_228 k0_t3
  ![1, arg15.toNat]
def k0_off13 (k0_t3 : Fin k0_t3_loop.trips) : Fin 4 → Nat :=
  let c1_i32_432 : BitVec 32 := 1#32
  let c0_i32_226 : BitVec 32 := 0#32
  let c1_i32_228 : BitVec 32 := 1#32
  let arg15 : BitVec 32 := Scf.iv c0_i32_226 c1_i32_228 k0_t3
  let c0_i32_437 : BitVec 32 := 0#32
  let c0_i32_438 : BitVec 32 := 0#32
  ![1, arg15.toNat, 0, 0]
def k0_dev9 (d0 : Dev nD) : Nat :=
  let c0_i32_436 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_194 : BitVec 32 := 4#32
  let v334 : BitVec 32 := Scalar.addi v2 c4_i32_194
  let c2_i32_195 : BitVec 32 := 2#32
  let v335 : BitVec 32 := Scalar.subi v334 c2_i32_195
  let c4_i32_196 : BitVec 32 := 4#32
  let c0_i32_197 : BitVec 32 := 0#32
  let v336 : BitVec 1 := Scalar.cmpi .eq c4_i32_196 c0_i32_197
  let c1_i32_198 : BitVec 32 := 1#32
  let v337 : BitVec 32 := Scalar.select v336 c1_i32_198 c4_i32_196
  let v338 : BitVec 32 := Scalar.remsi v335 v337
  let c0_i32_200 : BitVec 32 := 0#32
  let v340 : BitVec 1 := Scalar.cmpi .slt v338 c0_i32_200
  let c0_i32_201 : BitVec 32 := 0#32
  let v341 : BitVec 1 := Scalar.cmpi .slt v337 c0_i32_201
  let v342 : BitVec 1 := Scalar.xori v340 v341
  let c0_i32_199 : BitVec 32 := 0#32
  let v339 : BitVec 1 := Scalar.cmpi .ne v338 c0_i32_199
  let v343 : BitVec 1 := Scalar.andi v342 v339
  let v344 : BitVec 32 := Scalar.addi v338 v337
  let v345 : BitVec 32 := Scalar.select v343 v344 v338
  let c1_i32_435 : BitVec 32 := 1#32
  let v654 : BitVec 32 := Scalar.muli v345 c1_i32_435
  let v655 : BitVec 32 := Scalar.addi c0_i32_436 v654
  v655.toNat
def k0_dev10 (d0 : Dev nD) : Nat :=
  let c0_i32_235 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_194 : BitVec 32 := 4#32
  let v334 : BitVec 32 := Scalar.addi v2 c4_i32_194
  let c2_i32_195 : BitVec 32 := 2#32
  let v335 : BitVec 32 := Scalar.subi v334 c2_i32_195
  let c4_i32_196 : BitVec 32 := 4#32
  let c0_i32_197 : BitVec 32 := 0#32
  let v336 : BitVec 1 := Scalar.cmpi .eq c4_i32_196 c0_i32_197
  let c1_i32_198 : BitVec 32 := 1#32
  let v337 : BitVec 32 := Scalar.select v336 c1_i32_198 c4_i32_196
  let v338 : BitVec 32 := Scalar.remsi v335 v337
  let c0_i32_200 : BitVec 32 := 0#32
  let v340 : BitVec 1 := Scalar.cmpi .slt v338 c0_i32_200
  let c0_i32_201 : BitVec 32 := 0#32
  let v341 : BitVec 1 := Scalar.cmpi .slt v337 c0_i32_201
  let v342 : BitVec 1 := Scalar.xori v340 v341
  let c0_i32_199 : BitVec 32 := 0#32
  let v339 : BitVec 1 := Scalar.cmpi .ne v338 c0_i32_199
  let v343 : BitVec 1 := Scalar.andi v342 v339
  let v344 : BitVec 32 := Scalar.addi v338 v337
  let v345 : BitVec 32 := Scalar.select v343 v344 v338
  let c1_i32_234 : BitVec 32 := 1#32
  let v423 : BitVec 32 := Scalar.muli v345 c1_i32_234
  let v424 : BitVec 32 := Scalar.addi c0_i32_235 v423
  v424.toNat
@[reducible] def k0_t4_loop : Scf.Loop 32 :=
  let c0_i32_284 : BitVec 32 := 0#32
  let c8_i32_285 : BitVec 32 := 8#32
  let v529 : BitVec 32 := Scalar.addi c0_i32_284 c8_i32_285
  let c1_i32_286 : BitVec 32 := 1#32
  ⟨c0_i32_284, v529, c1_i32_286⟩
def k0_off14 (k0_t4 : Fin k0_t4_loop.trips) : Fin 4 → Nat :=
  let c3 : Index := 3#32
  let c0_i32_284 : BitVec 32 := 0#32
  let c1_i32_286 : BitVec 32 := 1#32
  let arg15 : BitVec 32 := Scf.iv c0_i32_284 c1_i32_286 k0_t4
  let v617 : Index := Scalar.indexCast arg15
  let c0_406 : Index := 0#32
  let c0_407 : Index := 0#32
  ![3, v617.toNat, 0, 0]
def k0_off15 (k0_t4 : Fin k0_t4_loop.trips) : Fin 4 → Nat :=
  let c0_408 : Index := 0#32
  let c0_409 : Index := 0#32
  let c0_i32_284 : BitVec 32 := 0#32
  let c1_i32_286 : BitVec 32 := 1#32
  let arg15 : BitVec 32 := Scf.iv c0_i32_284 c1_i32_286 k0_t4
  let v620 : Index := Scalar.indexCast arg15
  let c0_410 : Index := 0#32
  ![0, 0, v620.toNat, 0]
def k0_off16 (k0_t4 : Fin k0_t4_loop.trips) : Fin 3 → Nat :=
  let c0_i32_284 : BitVec 32 := 0#32
  let c1_i32_286 : BitVec 32 := 1#32
  let arg15 : BitVec 32 := Scf.iv c0_i32_284 c1_i32_286 k0_t4
  let v635 : Index := Scalar.indexCast arg15
  let c0_420 : Index := 0#32
  let c0_421 : Index := 0#32
  ![v635.toNat, 0, 0]
def k0_off17 (k0_t4 : Fin k0_t4_loop.trips) : Fin 2 → Nat :=
  let c2_i32_433 : BitVec 32 := 2#32
  let c0_i32_284 : BitVec 32 := 0#32
  let c1_i32_286 : BitVec 32 := 1#32
  let arg15 : BitVec 32 := Scf.iv c0_i32_284 c1_i32_286 k0_t4
  ![2, arg15.toNat]
def k0_off18 (k0_t4 : Fin k0_t4_loop.trips) : Fin 4 → Nat :=
  let c2_i32_431 : BitVec 32 := 2#32
  let c0_i32_284 : BitVec 32 := 0#32
  let c1_i32_286 : BitVec 32 := 1#32
  let arg15 : BitVec 32 := Scf.iv c0_i32_284 c1_i32_286 k0_t4
  let c0_i32_436 : BitVec 32 := 0#32
  let c0_i32_437 : BitVec 32 := 0#32
  ![2, arg15.toNat, 0, 0]
def k0_dev11 (d0 : Dev nD) : Nat :=
  let c0_i32_435 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_252 : BitVec 32 := 4#32
  let v441 : BitVec 32 := Scalar.addi v2 c4_i32_252
  let c3_i32_253 : BitVec 32 := 3#32
  let v442 : BitVec 32 := Scalar.subi v441 c3_i32_253
  let c4_i32_254 : BitVec 32 := 4#32
  let c0_i32_255 : BitVec 32 := 0#32
  let v443 : BitVec 1 := Scalar.cmpi .eq c4_i32_254 c0_i32_255
  let c1_i32_256 : BitVec 32 := 1#32
  let v444 : BitVec 32 := Scalar.select v443 c1_i32_256 c4_i32_254
  let v445 : BitVec 32 := Scalar.remsi v442 v444
  let c0_i32_258 : BitVec 32 := 0#32
  let v447 : BitVec 1 := Scalar.cmpi .slt v445 c0_i32_258
  let c0_i32_259 : BitVec 32 := 0#32
  let v448 : BitVec 1 := Scalar.cmpi .slt v444 c0_i32_259
  let v449 : BitVec 1 := Scalar.xori v447 v448
  let c0_i32_257 : BitVec 32 := 0#32
  let v446 : BitVec 1 := Scalar.cmpi .ne v445 c0_i32_257
  let v450 : BitVec 1 := Scalar.andi v449 v446
  let v451 : BitVec 32 := Scalar.addi v445 v444
  let v452 : BitVec 32 := Scalar.select v450 v451 v445
  let c1_i32_434 : BitVec 32 := 1#32
  let v654 : BitVec 32 := Scalar.muli v452 c1_i32_434
  let v655 : BitVec 32 := Scalar.addi c0_i32_435 v654
  v655.toNat
def k0_dev12 (d0 : Dev nD) : Nat :=
  let c0_i32_293 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_252 : BitVec 32 := 4#32
  let v441 : BitVec 32 := Scalar.addi v2 c4_i32_252
  let c3_i32_253 : BitVec 32 := 3#32
  let v442 : BitVec 32 := Scalar.subi v441 c3_i32_253
  let c4_i32_254 : BitVec 32 := 4#32
  let c0_i32_255 : BitVec 32 := 0#32
  let v443 : BitVec 1 := Scalar.cmpi .eq c4_i32_254 c0_i32_255
  let c1_i32_256 : BitVec 32 := 1#32
  let v444 : BitVec 32 := Scalar.select v443 c1_i32_256 c4_i32_254
  let v445 : BitVec 32 := Scalar.remsi v442 v444
  let c0_i32_258 : BitVec 32 := 0#32
  let v447 : BitVec 1 := Scalar.cmpi .slt v445 c0_i32_258
  let c0_i32_259 : BitVec 32 := 0#32
  let v448 : BitVec 1 := Scalar.cmpi .slt v444 c0_i32_259
  let v449 : BitVec 1 := Scalar.xori v447 v448
  let c0_i32_257 : BitVec 32 := 0#32
  let v446 : BitVec 1 := Scalar.cmpi .ne v445 c0_i32_257
  let v450 : BitVec 1 := Scalar.andi v449 v446
  let v451 : BitVec 32 := Scalar.addi v445 v444
  let v452 : BitVec 32 := Scalar.select v450 v451 v445
  let c1_i32_292 : BitVec 32 := 1#32
  let v530 : BitVec 32 := Scalar.muli v452 c1_i32_292
  let v531 : BitVec 32 := Scalar.addi c0_i32_293 v530
  v531.toNat
@[reducible] def k0_t5_loop : Scf.Loop 32 :=
  let c0_i32_338 : BitVec 32 := 0#32
  let c8_i32_339 : BitVec 32 := 8#32
  let v575 : BitVec 32 := Scalar.addi c0_i32_338 c8_i32_339
  let c1_i32_340 : BitVec 32 := 1#32
  ⟨c0_i32_338, v575, c1_i32_340⟩
def k0_off19 (k0_t5 : Fin k0_t5_loop.trips) : Fin 2 → Nat :=
  let c0_i32_408 : BitVec 32 := 0#32
  let c0_i32_338 : BitVec 32 := 0#32
  let c1_i32_340 : BitVec 32 := 1#32
  let arg15 : BitVec 32 := Scf.iv c0_i32_338 c1_i32_340 k0_t5
  ![0, arg15.toNat]
def k0_off20 (k0_t5 : Fin k0_t5_loop.trips) : Fin 4 → Nat :=
  let c0_i32_407 : BitVec 32 := 0#32
  let c0_i32_338 : BitVec 32 := 0#32
  let c1_i32_340 : BitVec 32 := 1#32
  let arg15 : BitVec 32 := Scf.iv c0_i32_338 c1_i32_340 k0_t5
  let c0_i32_412 : BitVec 32 := 0#32
  let c0_i32_413 : BitVec 32 := 0#32
  ![0, arg15.toNat, 0, 0]
def k0_off21 (k0_t5 : Fin k0_t5_loop.trips) : Fin 2 → Nat :=
  let c1_i32_418 : BitVec 32 := 1#32
  let c0_i32_338 : BitVec 32 := 0#32
  let c1_i32_340 : BitVec 32 := 1#32
  let arg15 : BitVec 32 := Scf.iv c0_i32_338 c1_i32_340 k0_t5
  ![1, arg15.toNat]
def k0_off22 (k0_t5 : Fin k0_t5_loop.trips) : Fin 4 → Nat :=
  let c1_i32_417 : BitVec 32 := 1#32
  let c0_i32_338 : BitVec 32 := 0#32
  let c1_i32_340 : BitVec 32 := 1#32
  let arg15 : BitVec 32 := Scf.iv c0_i32_338 c1_i32_340 k0_t5
  let c0_i32_422 : BitVec 32 := 0#32
  let c0_i32_423 : BitVec 32 := 0#32
  ![1, arg15.toNat, 0, 0]
def k0_off23 (k0_t5 : Fin k0_t5_loop.trips) : Fin 2 → Nat :=
  let c2_i32_428 : BitVec 32 := 2#32
  let c0_i32_338 : BitVec 32 := 0#32
  let c1_i32_340 : BitVec 32 := 1#32
  let arg15 : BitVec 32 := Scf.iv c0_i32_338 c1_i32_340 k0_t5
  ![2, arg15.toNat]
def k0_off24 (k0_t5 : Fin k0_t5_loop.trips) : Fin 4 → Nat :=
  let c2_i32_427 : BitVec 32 := 2#32
  let c0_i32_338 : BitVec 32 := 0#32
  let c1_i32_340 : BitVec 32 := 1#32
  let arg15 : BitVec 32 := Scf.iv c0_i32_338 c1_i32_340 k0_t5
  let c0_i32_432 : BitVec 32 := 0#32
  let c0_i32_433 : BitVec 32 := 0#32
  ![2, arg15.toNat, 0, 0]
def k0_off25 (k0_t5 : Fin k0_t5_loop.trips) : Fin 3 → Nat :=
  let c0_i32_338 : BitVec 32 := 0#32
  let c1_i32_340 : BitVec 32 := 1#32
  let arg15 : BitVec 32 := Scf.iv c0_i32_338 c1_i32_340 k0_t5
  let v645 : Index := Scalar.indexCast arg15
  let c0_436 : Index := 0#32
  let c0_437 : Index := 0#32
  ![v645.toNat, 0, 0]
def k0_off26 (k0_t5 : Fin k0_t5_loop.trips) : Fin 4 → Nat :=
  let c0_438 : Index := 0#32
  let c0_i32_338 : BitVec 32 := 0#32
  let c1_i32_340 : BitVec 32 := 1#32
  let arg15 : BitVec 32 := Scf.iv c0_i32_338 c1_i32_340 k0_t5
  let v648 : Index := Scalar.indexCast arg15
  let c0_439 : Index := 0#32
  let c0_440 : Index := 0#32
  ![0, v648.toNat, 0, 0]
def k0_off27 (k0_t5 : Fin k0_t5_loop.trips) : Fin 4 → Nat :=
  let c1_441 : Index := 1#32
  let c0_i32_338 : BitVec 32 := 0#32
  let c1_i32_340 : BitVec 32 := 1#32
  let arg15 : BitVec 32 := Scf.iv c0_i32_338 c1_i32_340 k0_t5
  let v652 : Index := Scalar.indexCast arg15
  let c0_442 : Index := 0#32
  let c0_443 : Index := 0#32
  ![1, v652.toNat, 0, 0]
def k0_off28 (k0_t5 : Fin k0_t5_loop.trips) : Fin 4 → Nat :=
  let c2_444 : Index := 2#32
  let c0_i32_338 : BitVec 32 := 0#32
  let c1_i32_340 : BitVec 32 := 1#32
  let arg15 : BitVec 32 := Scf.iv c0_i32_338 c1_i32_340 k0_t5
  let v656 : Index := Scalar.indexCast arg15
  let c0_445 : Index := 0#32
  let c0_446 : Index := 0#32
  ![2, v656.toNat, 0, 0]
@[reducible] def k0_t6_loop : Scf.Loop 32 :=
  let c0_i32_342 : BitVec 32 := 0#32
  let c8_i32_343 : BitVec 32 := 8#32
  let v576 : BitVec 32 := Scalar.addi c0_i32_342 c8_i32_343
  let c1_i32_344 : BitVec 32 := 1#32
  ⟨c0_i32_342, v576, c1_i32_344⟩
def k0_off29 (k0_t6 : Fin k0_t6_loop.trips) : Fin 2 → Nat :=
  let c0_i32_408 : BitVec 32 := 0#32
  let c0_i32_342 : BitVec 32 := 0#32
  let c1_i32_344 : BitVec 32 := 1#32
  let arg15 : BitVec 32 := Scf.iv c0_i32_342 c1_i32_344 k0_t6
  ![0, arg15.toNat]
def k0_off30 (k0_t6 : Fin k0_t6_loop.trips) : Fin 4 → Nat :=
  let c0_i32_407 : BitVec 32 := 0#32
  let c0_i32_342 : BitVec 32 := 0#32
  let c1_i32_344 : BitVec 32 := 1#32
  let arg15 : BitVec 32 := Scf.iv c0_i32_342 c1_i32_344 k0_t6
  let c0_i32_411 : BitVec 32 := 0#32
  let c0_i32_412 : BitVec 32 := 0#32
  ![0, arg15.toNat, 0, 0]
def k0_off31 (k0_t6 : Fin k0_t6_loop.trips) : Fin 2 → Nat :=
  let c1_i32_417 : BitVec 32 := 1#32
  let c0_i32_342 : BitVec 32 := 0#32
  let c1_i32_344 : BitVec 32 := 1#32
  let arg15 : BitVec 32 := Scf.iv c0_i32_342 c1_i32_344 k0_t6
  ![1, arg15.toNat]
def k0_off32 (k0_t6 : Fin k0_t6_loop.trips) : Fin 4 → Nat :=
  let c1_i32_416 : BitVec 32 := 1#32
  let c0_i32_342 : BitVec 32 := 0#32
  let c1_i32_344 : BitVec 32 := 1#32
  let arg15 : BitVec 32 := Scf.iv c0_i32_342 c1_i32_344 k0_t6
  let c0_i32_420 : BitVec 32 := 0#32
  let c0_i32_421 : BitVec 32 := 0#32
  ![1, arg15.toNat, 0, 0]
def k0_off33 (k0_t6 : Fin k0_t6_loop.trips) : Fin 2 → Nat :=
  let c2_i32_426 : BitVec 32 := 2#32
  let c0_i32_342 : BitVec 32 := 0#32
  let c1_i32_344 : BitVec 32 := 1#32
  let arg15 : BitVec 32 := Scf.iv c0_i32_342 c1_i32_344 k0_t6
  ![2, arg15.toNat]
def k0_off34 (k0_t6 : Fin k0_t6_loop.trips) : Fin 4 → Nat :=
  let c2_i32_425 : BitVec 32 := 2#32
  let c0_i32_342 : BitVec 32 := 0#32
  let c1_i32_344 : BitVec 32 := 1#32
  let arg15 : BitVec 32 := Scf.iv c0_i32_342 c1_i32_344 k0_t6
  let c0_i32_429 : BitVec 32 := 0#32
  let c0_i32_430 : BitVec 32 := 0#32
  ![2, arg15.toNat, 0, 0]
abbrev stage0_0 : Fin 1 → Memref sig .tc .vmem S8x256x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x4096x8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x4096x8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x256x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S1x1024x1024 : Shape := ⟨3, ![1, 1024, 1024]⟩
abbrev S1024x1024 : Shape := ⟨2, ![1024, 1024]⟩
abbrev S1x16384x8x128 : Shape := ⟨4, ![1, 16384, 8, 128]⟩
abbrev S1x1024x8x128 : Shape := ⟨4, ![1, 1024, 8, 128]⟩
abbrev S1024 : Shape := ⟨1, ![1024]⟩
abbrev S_ : Shape := ⟨0, ![]⟩
abbrev S1024x1 : Shape := ⟨2, ![1024, 1]⟩
abbrev S16384 : Shape := ⟨1, ![16384]⟩
abbrev S1x16384 : Shape := ⟨2, ![1, 16384]⟩
abbrev S1024x16384 : Shape := ⟨2, ![1024, 16384]⟩
abbrev S1x8x1024x16384 : Shape := ⟨4, ![1, 8, 1024, 16384]⟩
abbrev S1x1x1024x16384 : Shape := ⟨4, ![1, 1, 1024, 16384]⟩
abbrev S1x8x1024 : Shape := ⟨3, ![1, 8, 1024]⟩
abbrev S1x8x1024x1 : Shape := ⟨4, ![1, 8, 1024, 1]⟩
abbrev S1x1x1024x1 : Shape := ⟨4, ![1, 1, 1024, 1]⟩
abbrev S1x8x128x1024 : Shape := ⟨4, ![1, 8, 128, 1024]⟩

abbrev nBuf : Space → Nat
  | .hbm => 123
  | .vmem => 0
  | .smem => 0
  | _ => 0

abbrev bufTy : (tb : Table) → Fin (tcTables nBuf tb) → BufTy
  | .hbm, ⟨0, _⟩ => ⟨S1x1024x1024, .f32⟩
  | .hbm, ⟨1, _⟩ => ⟨S1024x1024, .f32⟩
  | .hbm, ⟨2, _⟩ => ⟨S1x16384x8x128, .f32⟩
  | .hbm, ⟨3, _⟩ => ⟨S1x16384x8x128, .f32⟩
  | .hbm, ⟨4, _⟩ => ⟨S1024x1024, .f32⟩
  | .hbm, ⟨5, _⟩ => ⟨S1x1024x1024, .f32⟩
  | .hbm, ⟨6, _⟩ => ⟨S1x1024x8x128, .f32⟩
  | .hbm, ⟨7, _⟩ => ⟨S1024, .i32⟩
  | .hbm, ⟨8, _⟩ => ⟨S_, .i32⟩
  | .hbm, ⟨9, _⟩ => ⟨S_, .i32⟩
  | .hbm, ⟨10, _⟩ => ⟨S1024, .i32⟩
  | .hbm, ⟨11, _⟩ => ⟨S1024, .i32⟩
  | .hbm, ⟨12, _⟩ => ⟨S1024, .i32⟩
  | .hbm, ⟨13, _⟩ => ⟨S_, .i32⟩
  | .hbm, ⟨14, _⟩ => ⟨S1024, .i32⟩
  | .hbm, ⟨15, _⟩ => ⟨S1024, .i1⟩
  | .hbm, ⟨16, _⟩ => ⟨S1024, .i32⟩
  | .hbm, ⟨17, _⟩ => ⟨S1024, .i32⟩
  | .hbm, ⟨18, _⟩ => ⟨S_, .i32⟩
  | .hbm, ⟨19, _⟩ => ⟨S1024, .i32⟩
  | .hbm, ⟨20, _⟩ => ⟨S1024, .i1⟩
  | .hbm, ⟨21, _⟩ => ⟨S1024, .i1⟩
  | .hbm, ⟨22, _⟩ => ⟨S_, .i32⟩
  | .hbm, ⟨23, _⟩ => ⟨S1024, .i32⟩
  | .hbm, ⟨24, _⟩ => ⟨S1024, .i32⟩
  | .hbm, ⟨25, _⟩ => ⟨S1024, .i32⟩
  | .hbm, ⟨26, _⟩ => ⟨S1024x1, .i32⟩
  | .hbm, ⟨27, _⟩ => ⟨S16384, .i32⟩
  | .hbm, ⟨28, _⟩ => ⟨S_, .i32⟩
  | .hbm, ⟨29, _⟩ => ⟨S_, .i32⟩
  | .hbm, ⟨30, _⟩ => ⟨S16384, .i32⟩
  | .hbm, ⟨31, _⟩ => ⟨S16384, .i32⟩
  | .hbm, ⟨32, _⟩ => ⟨S16384, .i32⟩
  | .hbm, ⟨33, _⟩ => ⟨S_, .i32⟩
  | .hbm, ⟨34, _⟩ => ⟨S16384, .i32⟩
  | .hbm, ⟨35, _⟩ => ⟨S16384, .i1⟩
  | .hbm, ⟨36, _⟩ => ⟨S16384, .i32⟩
  | .hbm, ⟨37, _⟩ => ⟨S16384, .i32⟩
  | .hbm, ⟨38, _⟩ => ⟨S_, .i32⟩
  | .hbm, ⟨39, _⟩ => ⟨S16384, .i32⟩
  | .hbm, ⟨40, _⟩ => ⟨S16384, .i1⟩
  | .hbm, ⟨41, _⟩ => ⟨S16384, .i1⟩
  | .hbm, ⟨42, _⟩ => ⟨S_, .i32⟩
  | .hbm, ⟨43, _⟩ => ⟨S16384, .i32⟩
  | .hbm, ⟨44, _⟩ => ⟨S16384, .i32⟩
  | .hbm, ⟨45, _⟩ => ⟨S16384, .i32⟩
  | .hbm, ⟨46, _⟩ => ⟨S1x16384, .i32⟩
  | .hbm, ⟨47, _⟩ => ⟨S1024x16384, .i32⟩
  | .hbm, ⟨48, _⟩ => ⟨S1024x16384, .i32⟩
  | .hbm, ⟨49, _⟩ => ⟨S1024x16384, .i1⟩
  | .hbm, ⟨50, _⟩ => ⟨S_, .i32⟩
  | .hbm, ⟨51, _⟩ => ⟨S1x16384, .i32⟩
  | .hbm, ⟨52, _⟩ => ⟨S1x16384, .i1⟩
  | .hbm, ⟨53, _⟩ => ⟨S1024x16384, .i1⟩
  | .hbm, ⟨54, _⟩ => ⟨S1024x16384, .i1⟩
  | .hbm, ⟨55, _⟩ => ⟨S1024x16384, .i32⟩
  | .hbm, ⟨56, _⟩ => ⟨S1024x16384, .i32⟩
  | .hbm, ⟨57, _⟩ => ⟨S1024x16384, .i32⟩
  | .hbm, ⟨58, _⟩ => ⟨S_, .i32⟩
  | .hbm, ⟨59, _⟩ => ⟨S_, .i32⟩
  | .hbm, ⟨60, _⟩ => ⟨S_, .i32⟩
  | .hbm, ⟨61, _⟩ => ⟨S_, .i1⟩
  | .hbm, ⟨62, _⟩ => ⟨S_, .i32⟩
  | .hbm, ⟨63, _⟩ => ⟨S_, .i32⟩
  | .hbm, ⟨64, _⟩ => ⟨S1024x16384, .i32⟩
  | .hbm, ⟨65, _⟩ => ⟨S1024x16384, .i32⟩
  | .hbm, ⟨66, _⟩ => ⟨S_, .i32⟩
  | .hbm, ⟨67, _⟩ => ⟨S1024x16384, .i32⟩
  | .hbm, ⟨68, _⟩ => ⟨S1024x16384, .i1⟩
  | .hbm, ⟨69, _⟩ => ⟨S_, .i32⟩
  | .hbm, ⟨70, _⟩ => ⟨S1024x16384, .i32⟩
  | .hbm, ⟨71, _⟩ => ⟨S1024x16384, .i1⟩
  | .hbm, ⟨72, _⟩ => ⟨S_, .i32⟩
  | .hbm, ⟨73, _⟩ => ⟨S_, .i1⟩
  | .hbm, ⟨74, _⟩ => ⟨S1024x16384, .i1⟩
  | .hbm, ⟨75, _⟩ => ⟨S1024x16384, .i1⟩
  | .hbm, ⟨76, _⟩ => ⟨S1024x16384, .i1⟩
  | .hbm, ⟨77, _⟩ => ⟨S1024x16384, .i32⟩
  | .hbm, ⟨78, _⟩ => ⟨S1024x16384, .i32⟩
  | .hbm, ⟨79, _⟩ => ⟨S1024x16384, .i32⟩
  | .hbm, ⟨80, _⟩ => ⟨S_, .i32⟩
  | .hbm, ⟨81, _⟩ => ⟨S1024x16384, .i32⟩
  | .hbm, ⟨82, _⟩ => ⟨S1024x16384, .i1⟩
  | .hbm, ⟨83, _⟩ => ⟨S1024x16384, .i1⟩
  | .hbm, ⟨84, _⟩ => ⟨S1x8x1024x16384, .f32⟩
  | .hbm, ⟨85, _⟩ => ⟨S_, .f32⟩
  | .hbm, ⟨86, _⟩ => ⟨S1x8x1024x16384, .f32⟩
  | .hbm, ⟨87, _⟩ => ⟨S1x8x1024x16384, .f32⟩
  | .hbm, ⟨88, _⟩ => ⟨S1x1x1024x16384, .i1⟩
  | .hbm, ⟨89, _⟩ => ⟨S_, .f32⟩
  | .hbm, ⟨90, _⟩ => ⟨S_, .f32⟩
  | .hbm, ⟨91, _⟩ => ⟨S1x8x1024x16384, .i1⟩
  | .hbm, ⟨92, _⟩ => ⟨S1x8x1024x16384, .f32⟩
  | .hbm, ⟨93, _⟩ => ⟨S1x8x1024x16384, .f32⟩
  | .hbm, ⟨94, _⟩ => ⟨S_, .f32⟩
  | .hbm, ⟨95, _⟩ => ⟨S1x8x1024, .f32⟩
  | .hbm, ⟨96, _⟩ => ⟨S1x8x1024x1, .f32⟩
  | .hbm, ⟨97, _⟩ => ⟨S1x8x1024x16384, .f32⟩
  | .hbm, ⟨98, _⟩ => ⟨S1x8x1024x16384, .f32⟩
  | .hbm, ⟨99, _⟩ => ⟨S1x8x1024x16384, .f32⟩
  | .hbm, ⟨100, _⟩ => ⟨S_, .i1⟩
  | .hbm, ⟨101, _⟩ => ⟨S1024, .i1⟩
  | .hbm, ⟨102, _⟩ => ⟨S1x1x1024x1, .i1⟩
  | .hbm, ⟨103, _⟩ => ⟨S_, .f32⟩
  | .hbm, ⟨104, _⟩ => ⟨S1x8x1024, .f32⟩
  | .hbm, ⟨105, _⟩ => ⟨S1x8x1024x1, .f32⟩
  | .hbm, ⟨106, _⟩ => ⟨S_, .f32⟩
  | .hbm, ⟨107, _⟩ => ⟨S_, .f32⟩
  | .hbm, ⟨108, _⟩ => ⟨S1x8x1024x1, .i1⟩
  | .hbm, ⟨109, _⟩ => ⟨S1x8x1024x1, .f32⟩
  | .hbm, ⟨110, _⟩ => ⟨S1x8x1024x1, .f32⟩
  | .hbm, ⟨111, _⟩ => ⟨S1x8x1024x16384, .f32⟩
  | .hbm, ⟨112, _⟩ => ⟨S1x8x1024x16384, .f32⟩
  | .hbm, ⟨113, _⟩ => ⟨S1x1x1024x1, .i1⟩
  | .hbm, ⟨114, _⟩ => ⟨S_, .f32⟩
  | .hbm, ⟨115, _⟩ => ⟨S_, .f32⟩
  | .hbm, ⟨116, _⟩ => ⟨S1x8x1024x16384, .i1⟩
  | .hbm, ⟨117, _⟩ => ⟨S1x8x1024x16384, .f32⟩
  | .hbm, ⟨118, _⟩ => ⟨S1x8x1024x16384, .f32⟩
  | .hbm, ⟨119, _⟩ => ⟨S1x8x128x1024, .f32⟩
  | .hbm, ⟨120, _⟩ => ⟨S1x1024x8x128, .f32⟩
  | .hbm, ⟨121, _⟩ => ⟨S1x1024x1024, .f32⟩
  | .hbm, ⟨122, _⟩ => ⟨S1x1024x1024, .f32⟩
  | _, _ => ⟨S1x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_c_0 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_c : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_0 : Ref sig .tc := ⟨.hbm, 42, rfl⟩
abbrev main_call1_v12 : Ref sig .tc := ⟨.hbm, 43, rfl⟩
abbrev main_call1_v13 : Ref sig .tc := ⟨.hbm, 44, rfl⟩
abbrev main_v6 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_c_1 : Ref sig .tc := ⟨.hbm, 50, rfl⟩
abbrev main_v11 : Ref sig .tc := ⟨.hbm, 51, rfl⟩
abbrev main_v12 : Ref sig .tc := ⟨.hbm, 52, rfl⟩
abbrev main_v13 : Ref sig .tc := ⟨.hbm, 53, rfl⟩
abbrev main_v14 : Ref sig .tc := ⟨.hbm, 54, rfl⟩
abbrev main_v15 : Ref sig .tc := ⟨.hbm, 55, rfl⟩
abbrev main_v16 : Ref sig .tc := ⟨.hbm, 56, rfl⟩
abbrev main_v17 : Ref sig .tc := ⟨.hbm, 57, rfl⟩
abbrev main_c_2 : Ref sig .tc := ⟨.hbm, 58, rfl⟩
abbrev main_call2_v0 : Ref sig .tc := ⟨.hbm, 59, rfl⟩
abbrev main_call2_c : Ref sig .tc := ⟨.hbm, 60, rfl⟩
abbrev main_call2_v1 : Ref sig .tc := ⟨.hbm, 61, rfl⟩
abbrev main_call2_c_0 : Ref sig .tc := ⟨.hbm, 62, rfl⟩
abbrev main_call2_v2 : Ref sig .tc := ⟨.hbm, 63, rfl⟩
abbrev main_call2_v3 : Ref sig .tc := ⟨.hbm, 64, rfl⟩
abbrev main_call2_v4 : Ref sig .tc := ⟨.hbm, 65, rfl⟩
abbrev main_call2_c_1 : Ref sig .tc := ⟨.hbm, 66, rfl⟩
abbrev main_call2_v5 : Ref sig .tc := ⟨.hbm, 67, rfl⟩
abbrev main_call2_v6 : Ref sig .tc := ⟨.hbm, 68, rfl⟩
abbrev main_call2_c_2 : Ref sig .tc := ⟨.hbm, 69, rfl⟩
abbrev main_call2_v7 : Ref sig .tc := ⟨.hbm, 70, rfl⟩
abbrev main_call2_v8 : Ref sig .tc := ⟨.hbm, 71, rfl⟩
abbrev main_call2_c_3 : Ref sig .tc := ⟨.hbm, 72, rfl⟩
abbrev main_call2_v9 : Ref sig .tc := ⟨.hbm, 73, rfl⟩
abbrev main_call2_v10 : Ref sig .tc := ⟨.hbm, 74, rfl⟩
abbrev main_call2_v11 : Ref sig .tc := ⟨.hbm, 75, rfl⟩
abbrev main_call2_v12 : Ref sig .tc := ⟨.hbm, 76, rfl⟩
abbrev main_call2_v13 : Ref sig .tc := ⟨.hbm, 77, rfl⟩
abbrev main_call2_v14 : Ref sig .tc := ⟨.hbm, 78, rfl⟩
abbrev main_v18 : Ref sig .tc := ⟨.hbm, 79, rfl⟩
abbrev main_c_3 : Ref sig .tc := ⟨.hbm, 80, rfl⟩
abbrev main_v19 : Ref sig .tc := ⟨.hbm, 81, rfl⟩
abbrev main_v20 : Ref sig .tc := ⟨.hbm, 82, rfl⟩
abbrev main_v21 : Ref sig .tc := ⟨.hbm, 83, rfl⟩
abbrev main_v22 : Ref sig .tc := ⟨.hbm, 84, rfl⟩
abbrev main_cst : Ref sig .tc := ⟨.hbm, 85, rfl⟩
abbrev main_v23 : Ref sig .tc := ⟨.hbm, 86, rfl⟩
abbrev main_v24 : Ref sig .tc := ⟨.hbm, 87, rfl⟩
abbrev main_v25 : Ref sig .tc := ⟨.hbm, 88, rfl⟩
abbrev main_cst_4 : Ref sig .tc := ⟨.hbm, 89, rfl⟩
abbrev main_call3_v0 : Ref sig .tc := ⟨.hbm, 90, rfl⟩
abbrev main_call3_v1 : Ref sig .tc := ⟨.hbm, 91, rfl⟩
abbrev main_call3_v2 : Ref sig .tc := ⟨.hbm, 92, rfl⟩
abbrev main_v26 : Ref sig .tc := ⟨.hbm, 93, rfl⟩
abbrev main_cst_5 : Ref sig .tc := ⟨.hbm, 94, rfl⟩
abbrev main_v27 : Ref sig .tc := ⟨.hbm, 95, rfl⟩
abbrev main_v28 : Ref sig .tc := ⟨.hbm, 96, rfl⟩
abbrev main_v29 : Ref sig .tc := ⟨.hbm, 97, rfl⟩
abbrev main_v30 : Ref sig .tc := ⟨.hbm, 98, rfl⟩
abbrev main_v31 : Ref sig .tc := ⟨.hbm, 99, rfl⟩
abbrev main_c_6 : Ref sig .tc := ⟨.hbm, 100, rfl⟩
abbrev main_v32 : Ref sig .tc := ⟨.hbm, 101, rfl⟩
abbrev main_v33 : Ref sig .tc := ⟨.hbm, 102, rfl⟩
abbrev main_cst_7 : Ref sig .tc := ⟨.hbm, 103, rfl⟩
abbrev main_v34 : Ref sig .tc := ⟨.hbm, 104, rfl⟩
abbrev main_v35 : Ref sig .tc := ⟨.hbm, 105, rfl⟩
abbrev main_cst_8 : Ref sig .tc := ⟨.hbm, 106, rfl⟩
abbrev main_call4_v0 : Ref sig .tc := ⟨.hbm, 107, rfl⟩
abbrev main_call4_v1 : Ref sig .tc := ⟨.hbm, 108, rfl⟩
abbrev main_call4_v2 : Ref sig .tc := ⟨.hbm, 109, rfl⟩
abbrev main_v36 : Ref sig .tc := ⟨.hbm, 110, rfl⟩
abbrev main_v37 : Ref sig .tc := ⟨.hbm, 111, rfl⟩
abbrev main_v38 : Ref sig .tc := ⟨.hbm, 112, rfl⟩
abbrev main_v39 : Ref sig .tc := ⟨.hbm, 113, rfl⟩
abbrev main_cst_9 : Ref sig .tc := ⟨.hbm, 114, rfl⟩
abbrev main_call5_v0 : Ref sig .tc := ⟨.hbm, 115, rfl⟩
abbrev main_call5_v1 : Ref sig .tc := ⟨.hbm, 116, rfl⟩
abbrev main_call5_v2 : Ref sig .tc := ⟨.hbm, 117, rfl⟩
abbrev main_v40 : Ref sig .tc := ⟨.hbm, 118, rfl⟩
abbrev main_v41 : Ref sig .tc := ⟨.hbm, 119, rfl⟩
abbrev main_v42 : Ref sig .tc := ⟨.hbm, 120, rfl⟩
abbrev main_v43 : Ref sig .tc := ⟨.hbm, 121, rfl⟩
abbrev main_v44 : Ref sig .tc := ⟨.hbm, 122, rfl⟩

abbrev nD : Nat := 1
abbrev τ : Topo := Topo.v7x

variable {F : FTy → Type} [FloatOps F]
-- ==== Proof.Places.lean ====
/- The places of the kernel's scratch buffers that its copies and its loops name: a slot of a buffer, a head of a slot, as the
   sets of multi-indices they hold, and the equations saying that each view the kernel spells covers such a set, index by
   index. -/
module

public import proofs.«01_k».proof.Proof.Gen.KernelIdeal
public import Idealize.ShloMosaic.Lib.ValueLayout
public import Idealize.ShloMosaic.Lib.Memref
public import Idealize.ShloMosaic.Lib.ViewIndex

@[expose] public section

noncomputable section

namespace Cert.Proof.Ring

open Cert.KernelIdeal
open Idealize.ShloMosaic Idealize.ShloMosaic.TcCoe Idealize.ShloMosaic.ValueIdx

/-- The elements of slot `r` of a rank-four buffer. -/
def qS {n : ℕ} (r : Fin n) : Finset (⟨4, ![n, 8, 256, 128]⟩ : Shape).Idx := Finset.univ.filter fun i => (i 0).val = r.val

/-- The elements of head `h` of slot `r` of a rank-four buffer. -/
def pS {n : ℕ} (r : Fin n) (h : Fin 8) : Finset (⟨4, ![n, 8, 256, 128]⟩ : Shape).Idx :=
  Finset.univ.filter fun i => (i 0).val = r.val ∧ (i 1).val = h.val

/-- The elements of slot `r` of a buffer of denominators. -/
def lS {n : ℕ} (r : Fin n) : Finset (⟨3, ![n, 256, 8]⟩ : Shape).Idx := Finset.univ.filter fun i => (i 0).val = r.val

/-- The elements of head `h` of the accumulator. -/
def oS (h : Fin 8) : Finset S8x256x128.Idx := Finset.univ.filter fun i => (i 0).val = h.val

/-- Being in a slot. -/
theorem mem_qS {n : ℕ} {r : Fin n} {i : (⟨4, ![n, 8, 256, 128]⟩ : Shape).Idx} : i ∈ qS r ↔ (i 0).val = r.val := by
  simp [qS]

/-- Being in a head of a slot. -/
theorem mem_pS {n : ℕ} {r : Fin n} {h : Fin 8} {i : (⟨4, ![n, 8, 256, 128]⟩ : Shape).Idx} :
    i ∈ pS r h ↔ (i 0).val = r.val ∧ (i 1).val = h.val := by simp [pS]

/-- Being in a slot of denominators. -/
theorem mem_lS {n : ℕ} {r : Fin n} {i : (⟨3, ![n, 256, 8]⟩ : Shape).Idx} : i ∈ lS r ↔ (i 0).val = r.val := by simp [lS]

/-- Being in a head of the accumulator. -/
theorem mem_oS {h : Fin 8} {i : S8x256x128.Idx} : i ∈ oS h ↔ (i 0).val = h.val := by simp [oS]

/-- A set is the image of an embedding when the embedding lands in it and reaches all of it. -/
theorem map_eq_of {α β : Type} [Fintype α] (e : α ↪ β) (S : Finset β) (h₁ : ∀ x, e x ∈ S) (h₂ : ∀ i ∈ S, ∃ x, e x = i) :
    Finset.univ.map e = S := by
  ext i
  simp only [Finset.mem_map, Finset.mem_univ, true_and]
  exact ⟨fun ⟨x, hx⟩ => hx ▸ h₁ x, h₂ i⟩

/-- Indices of rank four are equal axis by axis. -/
theorem ext4 {d : Fin 4 → ℕ} {x y : (⟨4, d⟩ : Shape).Idx} (h0 : (x 0).val = (y 0).val) (h1 : (x 1).val = (y 1).val)
    (h2 : (x 2).val = (y 2).val) (h3 : (x 3).val = (y 3).val) : x = y :=
  funext fun a => by
    match a with
    | ⟨0, _⟩ => exact Fin.ext h0
    | ⟨1, _⟩ => exact Fin.ext h1
    | ⟨2, _⟩ => exact Fin.ext h2
    | ⟨3, _⟩ => exact Fin.ext h3

/-! ## Slots of a rank-four buffer -/

section Q

variable {n : ℕ} {e : EltTy}

/-- A slot lies within its buffer. -/
theorem inbQ (r : Fin n) : ∀ a, (![r.val, 0, 0, 0] : Fin 4 → ℕ) a + S1x8x256x128.size a ≤ (⟨4, ![n, 8, 256, 128]⟩ : Shape).size a := by
  intro a
  have := r.isLt
  match a with
  | ⟨0, _⟩ => show r.val + 1 ≤ n; omega
  | ⟨1, _⟩ => exact Nat.le_refl _
  | ⟨2, _⟩ => exact Nat.le_refl _
  | ⟨3, _⟩ => exact Nat.le_refl _

/-- A head of a slot lies within its buffer. -/
theorem inbP (r : Fin n) (h : Fin 8) :
    ∀ a, (![r.val, h.val, 0, 0] : Fin 4 → ℕ) a + S1x1x256x128.size a ≤ (⟨4, ![n, 8, 256, 128]⟩ : Shape).size a := by
  intro a
  have := r.isLt
  have := h.isLt
  match a with
  | ⟨0, _⟩ => show r.val + 1 ≤ n; omega
  | ⟨1, _⟩ => show h.val + 1 ≤ 8; omega
  | ⟨2, _⟩ => exact Nat.le_refl _
  | ⟨3, _⟩ => exact Nat.le_refl _

/-- A slot of denominators lies within its buffer. -/
theorem inbL (r : Fin n) : ∀ a, (![r.val, 0, 0] : Fin 3 → ℕ) a + S1x256x8.size a ≤ (⟨3, ![n, 256, 8]⟩ : Shape).size a := by
  intro a
  have := r.isLt
  match a with
  | ⟨0, _⟩ => show r.val + 1 ≤ n; omega
  | ⟨1, _⟩ => exact Nat.le_refl _
  | ⟨2, _⟩ => exact Nat.le_refl _

/-- A head lies within the accumulator. -/
theorem inbO (h : Fin 8) : ∀ a, (![h.val, 0, 0] : Fin 3 → ℕ) a + S1x256x128.size a ≤ S8x256x128.size a := by
  intro a
  have := h.isLt
  match a with
  | ⟨0, _⟩ => show h.val + 1 ≤ 8; omega
  | ⟨1, _⟩ => exact Nat.le_refl _
  | ⟨2, _⟩ => exact Nat.le_refl _

/-- A head lies within the keys, or the values. -/
theorem inbK (h : Fin 8) : ∀ a, (![0, 0, h.val, 0] : Fin 4 → ℕ) a + S1x4096x1x128.size a ≤ S1x4096x8x128.size a := by
  intro a
  have := h.isLt
  match a with
  | ⟨0, _⟩ => exact Nat.le_refl _
  | ⟨1, _⟩ => exact Nat.le_refl _
  | ⟨2, _⟩ => show h.val + 1 ≤ 8; omega
  | ⟨3, _⟩ => exact Nat.le_refl _

/-- The rectangle of slot `r`. -/
abbrev rQ (r : Fin n) : Rect (⟨4, ![n, 8, 256, 128]⟩ : Shape) := Rect.unit ![r.val, 0, 0, 0] S1x8x256x128.size (inbQ r)
/-- The rectangle of head `h` of slot `r`. -/
abbrev rP (r : Fin n) (h : Fin 8) : Rect (⟨4, ![n, 8, 256, 128]⟩ : Shape) := Rect.unit ![r.val, h.val, 0, 0] S1x1x256x128.size (inbP r h)
/-- The rectangle of slot `r` of a buffer of denominators. -/
abbrev rL (r : Fin n) : Rect (⟨3, ![n, 256, 8]⟩ : Shape) := Rect.unit ![r.val, 0, 0] S1x256x8.size (inbL r)
/-- The rectangle of head `h` of the accumulator. -/
abbrev rO (h : Fin 8) : Rect S8x256x128 := Rect.unit ![h.val, 0, 0] S1x256x128.size (inbO h)
/-- The rectangle of head `h` of the keys, or of the values. -/
abbrev rK (h : Fin 8) : Rect S1x4096x8x128 := Rect.unit ![0, 0, h.val, 0] S1x4096x1x128.size (inbK h)

/-- The place of an element of a slot. -/
theorem rQ_emb (r : Fin n) (x : S1x8x256x128.Idx) : (rQ r).emb x = ix4 r (x 1) (x 2) (x 3) := by
  have h0 : (x 0).val = 0 := by have := (x 0).isLt; change (x 0).val < 1 at this; omega
  refine ext4 ?_ ?_ ?_ ?_
  · show r.val + 1 * (x 0).val = r.val; omega
  · show 0 + 1 * (x 1).val = (x 1).val; omega
  · show 0 + 1 * (x 2).val = (x 2).val; omega
  · show 0 + 1 * (x 3).val = (x 3).val; omega

/-- The place of an element of a head of a slot. -/
theorem rP_emb (r : Fin n) (h : Fin 8) (x : S1x1x256x128.Idx) : (rP r h).emb x = ix4 r h (x 2) (x 3) := by
  have h0 : (x 0).val = 0 := by have := (x 0).isLt; change (x 0).val < 1 at this; omega
  have h1 : (x 1).val = 0 := by have := (x 1).isLt; change (x 1).val < 1 at this; omega
  refine ext4 ?_ ?_ ?_ ?_
  · show r.val + 1 * (x 0).val = r.val; omega
  · show h.val + 1 * (x 1).val = h.val; omega
  · show 0 + 1 * (x 2).val = (x 2).val; omega
  · show 0 + 1 * (x 3).val = (x 3).val; omega

/-- The place of an element of a slot of denominators. -/
theorem rL_emb (r : Fin n) (x : S1x256x8.Idx) : (rL r).emb x = ix3 r (x 1) (x 2) := by
  have h0 : (x 0).val = 0 := by have := (x 0).isLt; change (x 0).val < 1 at this; omega
  refine Shape.idx3_ext ?_ ?_ ?_
  · show r.val + 1 * (x 0).val = r.val; omega
  · show 0 + 1 * (x 1).val = (x 1).val; omega
  · show 0 + 1 * (x 2).val = (x 2).val; omega

/-- The place of an element of a head of the accumulator. -/
theorem rO_emb (h : Fin 8) (x : S1x256x128.Idx) : (rO h).emb x = ix3 h (x 1) (x 2) := by
  have h0 : (x 0).val = 0 := by have := (x 0).isLt; change (x 0).val < 1 at this; omega
  refine Shape.idx3_ext ?_ ?_ ?_
  · show h.val + 1 * (x 0).val = h.val; omega
  · show 0 + 1 * (x 1).val = (x 1).val; omega
  · show 0 + 1 * (x 2).val = (x 2).val; omega

/-- The place of an element of a head of the keys, or of the values. -/
theorem rK_emb (h : Fin 8) (x : S1x4096x1x128.Idx) : (rK h).emb x = ix4 (0 : Fin 1) (x 1) h (x 3) := by
  have h0 : (x 0).val = 0 := by have := (x 0).isLt; change (x 0).val < 1 at this; omega
  have h2 : (x 2).val = 0 := by have := (x 2).isLt; change (x 2).val < 1 at this; omega
  refine ext4 ?_ ?_ ?_ ?_
  · show 0 + 1 * (x 0).val = 0; omega
  · show 0 + 1 * (x 1).val = (x 1).val; omega
  · show h.val + 1 * (x 2).val = h.val; omega
  · show 0 + 1 * (x 3).val = (x 3).val; omega

/-- A slot's rectangle is the slot. -/
theorem rQ_set (r : Fin n) : (rQ r).set = qS r := by
  rw [← Rect.map_emb_univ]
  refine map_eq_of _ _ (fun x => ?_) (fun i hi => ?_)
  · exact mem_qS.mpr (by rw [rQ_emb]; rfl)
  · have := mem_qS.mp hi
    exact ⟨ix4 (0 : Fin 1) (i 1) (i 2) (i 3), by rw [rQ_emb]; exact ext4 this.symm rfl rfl rfl⟩

/-- A head's rectangle is the head of the slot. -/
theorem rP_set (r : Fin n) (h : Fin 8) : (rP r h).set = pS r h := by
  rw [← Rect.map_emb_univ]
  refine map_eq_of _ _ (fun x => ?_) (fun i hi => ?_)
  · exact mem_pS.mpr (by rw [rP_emb]; exact ⟨rfl, rfl⟩)
  · have := mem_pS.mp hi
    exact ⟨ix4 (0 : Fin 1) (0 : Fin 1) (i 2) (i 3), by
      rw [rP_emb]; exact ext4 this.1.symm this.2.symm rfl rfl⟩

/-- A slot of denominators' rectangle is the slot. -/
theorem rL_set (r : Fin n) : (rL r).set = lS r := by
  rw [← Rect.map_emb_univ]
  refine map_eq_of _ _ (fun x => ?_) (fun i hi => ?_)
  · exact mem_lS.mpr (by rw [rL_emb]; rfl)
  · have := mem_lS.mp hi
    exact ⟨ix3 (0 : Fin 1) (i 1) (i 2), by rw [rL_emb]; exact Shape.idx3_ext this.symm rfl rfl⟩

/-- A head's rectangle is the head of the accumulator. -/
theorem rO_set (h : Fin 8) : (rO h).set = oS h := by
  rw [← Rect.map_emb_univ]
  refine map_eq_of _ _ (fun x => ?_) (fun i hi => ?_)
  · exact mem_oS.mpr (by rw [rO_emb])
  · have := mem_oS.mp hi
    exact ⟨ix3 (0 : Fin 1) (i 1) (i 2), by rw [rO_emb]; exact Shape.idx3_ext this.symm rfl rfl⟩

end Q

/-! ## The views of the copies -/

/-- Slot `r` of the query buffer, as the ring's copies name it. -/
abbrev qM (r : Fin 4) : Memref sig .tc .vmem S8x256x128 .f32 :=
  ((Memref.whole cc0_scratch0).slice (rQ r) (fun _ => rfl)).squeeze S8x256x128 Gen.squeezes_S1x8x256x128_S8x256x128

/-- Head `h` of slot `r` of the buffer of partial numerators to send. -/
abbrev sM (r : Fin 3) (h : Fin 8) : Memref sig .tc .vmem S256x128 .f32 :=
  ((Memref.whole cc0_scratch1).slice (rP r h) (fun _ => rfl)).squeeze S256x128 Gen.squeezes_S1x1x256x128_S256x128

/-- Head `h` of slot `r` of the buffer of partial numerators received. -/
abbrev rM (r : Fin 3) (h : Fin 8) : Memref sig .tc .vmem S256x128 .f32 :=
  ((Memref.whole cc0_scratch2).slice (rP r h) (fun _ => rfl)).squeeze S256x128 Gen.squeezes_S1x1x256x128_S256x128

/-- Slot `r` of the buffer of denominators computed here. -/
abbrev lM (r : Fin 4) : Memref sig .tc .vmem S256x8 .f32 :=
  ((Memref.whole cc0_scratch3).slice (rL r) (fun _ => rfl)).squeeze S256x8 Gen.squeezes_S1x256x8_S256x8

/-- Slot `r` of the buffer of denominators received. -/
abbrev lrM (r : Fin 3) : Memref sig .tc .vmem S256x8 .f32 :=
  ((Memref.whole cc0_scratch4).slice (rL r) (fun _ => rfl)).squeeze S256x8 Gen.squeezes_S1x256x8_S256x8

/-- Slot `r` of the buffer of partial numerators to send, as the loop's store names it. -/
abbrev slM (r : Fin 3) : Memref sig .tc .vmem S8x256x128 .f32 :=
  ((Memref.whole cc0_scratch1).slice (rQ r) (fun _ => rfl)).squeeze S8x256x128 Gen.squeezes_S1x8x256x128_S8x256x128

/-- The place of an element of a copied slot of queries. -/
theorem qM_emb (r : Fin 4) (x : S8x256x128.Idx) : (qM r).view.emb x = ix4 r (x 0) (x 1) (x 2) := by
  obtain ⟨a, b, d, rfl⟩ : ∃ (a : Fin 8) (b : Fin 256) (d : Fin 128), x = ix3 a b d := ⟨x 0, x 1, x 2, eq_ix3 x⟩
  exact (congrArg (rQ r).emb (reshapeEquiv_ix3_1abc _ a b d)).trans (rQ_emb r _)

/-- The place of an element of a head to send. -/
theorem sM_emb (r : Fin 3) (h : Fin 8) (x : S256x128.Idx) : (sM r h).view.emb x = ix4 r h (x 0) (x 1) := by
  obtain ⟨a, b, rfl⟩ : ∃ (a : Fin 256) (b : Fin 128), x = ix2 a b := ⟨x 0, x 1, eq_ix2 x⟩
  exact (congrArg (rP r h).emb (reshapeEquiv_ix2_11ab _ a b)).trans (rP_emb r h _)

/-- The place of an element of a received head. -/
theorem rM_emb (r : Fin 3) (h : Fin 8) (x : S256x128.Idx) : (rM r h).view.emb x = ix4 r h (x 0) (x 1) := by
  obtain ⟨a, b, rfl⟩ : ∃ (a : Fin 256) (b : Fin 128), x = ix2 a b := ⟨x 0, x 1, eq_ix2 x⟩
  exact (congrArg (rP r h).emb (reshapeEquiv_ix2_11ab _ a b)).trans (rP_emb r h _)

/-- The place of an element of a slot of denominators to send. -/
theorem lM_emb (r : Fin 4) (x : S256x8.Idx) : (lM r).view.emb x = ix3 r (x 0) (x 1) := by
  obtain ⟨a, b, rfl⟩ : ∃ (a : Fin 256) (b : Fin 8), x = ix2 a b := ⟨x 0, x 1, eq_ix2 x⟩
  exact (congrArg (rL r).emb (reshapeEquiv_ix2_1ab _ a b)).trans (rL_emb r _)

/-- The place of an element of a received slot of denominators. -/
theorem lrM_emb (r : Fin 3) (x : S256x8.Idx) : (lrM r).view.emb x = ix3 r (x 0) (x 1) := by
  obtain ⟨a, b, rfl⟩ : ∃ (a : Fin 256) (b : Fin 8), x = ix2 a b := ⟨x 0, x 1, eq_ix2 x⟩
  exact (congrArg (rL r).emb (reshapeEquiv_ix2_1ab _ a b)).trans (rL_emb r _)

/-- The place of an element of a head stored to be sent. -/
theorem slM_emb (r : Fin 3) (h : Fin 8) (x : S1x256x128.Idx) : ((slM r).access (rO h)).emb x = ix4 r h (x 1) (x 2) := by
  refine Eq.trans (congrArg (fun y => (rQ r).emb (Shape.reshapeEquiv _ y)) (rO_emb h x)) ?_
  exact (congrArg (rQ r).emb (reshapeEquiv_ix3_1abc _ h (x 1) (x 2))).trans (rQ_emb r _)

/-- A copied slot of queries is the slot. -/
theorem qM_set (r : Fin 4) : (qM r).view.set = qS r := by
  refine map_eq_of _ _ (fun x => ?_) (fun i hi => ?_)
  · rw [qM_emb]; exact mem_qS.mpr rfl
  · have := mem_qS.mp hi
    exact ⟨ix3 (i 1) (i 2) (i 3), by rw [qM_emb]; exact ext4 this.symm rfl rfl rfl⟩

/-- A head to send is the head of the slot. -/
theorem sM_set (r : Fin 3) (h : Fin 8) : (sM r h).view.set = pS r h := by
  refine map_eq_of _ _ (fun x => ?_) (fun i hi => ?_)
  · rw [sM_emb]; exact mem_pS.mpr ⟨rfl, rfl⟩
  · have := mem_pS.mp hi
    exact ⟨ix2 (i 2) (i 3), by rw [sM_emb]; exact ext4 this.1.symm this.2.symm rfl rfl⟩

/-- A received head is the head of the slot. -/
theorem rM_set (r : Fin 3) (h : Fin 8) : (rM r h).view.set = pS r h := by
  refine map_eq_of _ _ (fun x => ?_) (fun i hi => ?_)
  · rw [rM_emb]; exact mem_pS.mpr ⟨rfl, rfl⟩
  · have := mem_pS.mp hi
    exact ⟨ix2 (i 2) (i 3), by rw [rM_emb]; exact ext4 this.1.symm this.2.symm rfl rfl⟩

/-- A slot of denominators to send is the slot. -/
theorem lM_set (r : Fin 4) : (lM r).view.set = lS r := by
  refine map_eq_of _ _ (fun x => ?_) (fun i hi => ?_)
  · rw [lM_emb]; exact mem_lS.mpr rfl
  · have := mem_lS.mp hi
    exact ⟨ix2 (i 1) (i 2), by rw [lM_emb]; exact Shape.idx3_ext this.symm rfl rfl⟩

/-- A received slot of denominators is the slot. -/
theorem lrM_set (r : Fin 3) : (lrM r).view.set = lS r := by
  refine map_eq_of _ _ (fun x => ?_) (fun i hi => ?_)
  · rw [lrM_emb]; exact mem_lS.mpr rfl
  · have := mem_lS.mp hi
    exact ⟨ix2 (i 1) (i 2), by rw [lrM_emb]; exact Shape.idx3_ext this.symm rfl rfl⟩

/-- A head stored to be sent is the head of the slot. -/
theorem slM_set (r : Fin 3) (h : Fin 8) : ((slM r).access (rO h)).set = pS r h := by
  refine map_eq_of _ _ (fun x => ?_) (fun i hi => ?_)
  · rw [slM_emb]; exact mem_pS.mpr ⟨rfl, rfl⟩
  · have := mem_pS.mp hi
    exact ⟨ix3 (0 : Fin 1) (i 2) (i 3), by
      rw [slM_emb]; exact ext4 this.1.symm this.2.symm rfl rfl⟩

end Cert.Proof.Ring

end
-- ==== Proof.Contents.lean ====
/- What every buffer of the kernel holds once it is filled, as one function of the devices' inputs per buffer, and the one law of
   the arithmetic that the denominators need. -/
module

public import proofs.«01_k».proof.Proof.Places
public import proofs.«01_k».proof.Proof.Gen.KernelIdeal.Skeleton

@[expose] public section

noncomputable section

namespace Cert.Proof.Ring

open Cert.KernelIdeal Cert.KernelIdeal.Gen
open Idealize.ShloMosaic Idealize.ShloMosaic.TcCoe Idealize.ShloMosaic.ValueIdx

variable {F : FTy → Type} [FloatOps F]

/-- The slot an index of a rank-four buffer lies in. -/
abbrev slot4 {n : ℕ} (i : (⟨4, ![n, 8, 256, 128]⟩ : Shape).Idx) : Fin n := i 0

/-- The slot an index of a buffer of denominators lies in. -/
abbrev slot3 {n : ℕ} (i : (⟨3, ![n, 256, 8]⟩ : Shape).Idx) : Fin n := i 0

/-- What the devices are handed: the projected queries, the keys and the values, per device. -/
structure Inputs (F : FTy → Type) where
  q : Dev nD → Vec F S8x256x128 .f32
  k : Dev nD → Vec F S1x4096x8x128 .f32
  v : Dev nD → Vec F S1x4096x8x128 .f32

/-- A device's number along the ring, as the kernel computes it. -/
def ringPos (c : Dev nD) : BitVec 32 := Scalar.remsi (Scalar.divsi (Dev.word c) 1#32) 4#32

/-- The key blocks of a device's shard. -/
def keyBlk (c : Dev nD) : IVec S1x4096 32 := k0_pay21 (ringPos c)

/-- The mask of round `r`: the queries of the device `r` places before this one, against this device's keys. -/
def mask (c : Dev nD) : Fin 4 → IVec S256x4096 1
  | 0 => k0_pay29 (keyBlk c)
      (k0_pay27 (keyBlk c) (k0_pay22 (ringPos c)) (k0_pay23 (ringPos c)) (k0_pay24 (ringPos c)) k0_pay25)
      (k0_pay28 (keyBlk c) (k0_pay22 (ringPos c)) (k0_pay23 (ringPos c)) (k0_pay24 (ringPos c)) k0_pay25) 0#32
  | 1 => k0_pay35 (k0_pay33 (keyBlk c) (k0_pay31 (ringPos c)) 3#32 0#32) (k0_pay34 (keyBlk c) (k0_pay31 (ringPos c)) 3#32 0#32)
  | 2 => k0_pay44 (keyBlk c)
      (k0_pay42 (keyBlk c) (k0_pay37 (ringPos c)) (k0_pay38 (ringPos c)) (k0_pay39 (ringPos c)) k0_pay40)
      (k0_pay43 (keyBlk c) (k0_pay37 (ringPos c)) (k0_pay38 (ringPos c)) (k0_pay39 (ringPos c)) k0_pay40) 0#32
  | 3 => k0_pay47 (keyBlk c) (k0_pay46 (ringPos c)) 3#32 (Scalar.cmpi .eq 3#32 0#32)

/-- Head `h` of a block of queries. -/
def qHead (q : Vec F S8x256x128 .f32) (h : Fin 8) : Vec F S1x1x256x128 .f32 := fun j => q (ix3 h (j 2) (j 3))

/-- Head `h` of a shard of keys, or of values. -/
def kHead (k : Vec F S1x4096x8x128 .f32) (h : Fin 8) : Vec F S1x4096x1x128 .f32 := fun j => k (ix4 (0 : Fin 1) (j 1) h (j 3))

variable (X : Inputs F)

/-- The numerators of head `h` that device `c` computes in round `r`. -/
def num (c : Dev nD) (r : Fin 4) (h : Fin 8) : Vec F S1x256x128 .f32 :=
  k0_pay2 (mask c r) (qHead (X.q (c - r)) h) (kHead (X.k c) h) (kHead (X.v c) h)

/-- The row sums of head `h` that device `c` computes in round `r`, in every column. -/
def den (c : Dev nD) (r : Fin 4) (h : Fin 8) : FVec F S256x8 .f32 :=
  k0_pay8 (mask c r) (qHead (X.q (c - r)) h) (kHead (X.k c) h)

/-- The query buffer: slot `r` holds the queries of the device `r` places before. -/
def QB (c : Dev nD) : Vec F S4x8x256x128 .f32 := fun i => X.q (c - slot4 i) (ix3 (i 1) (i 2) (i 3))

/-- The numerators to send: slot `r` is those of round `r + 1`. -/
def PS (c : Dev nD) : Vec F S3x8x256x128 .f32 := fun i => num X c (slot4 i).succ (i 1) (ix3 (0 : Fin 1) (i 2) (i 3))

/-- The numerators received: slot `r` comes from the device `r + 1` places after. -/
def PR (c : Dev nD) : Vec F S3x8x256x128 .f32 := fun i => PS X (c + (slot4 i).succ) i

/-- The accumulator after the first round. -/
def CX (c : Dev nD) : Vec F S8x256x128 .f32 := fun i => num X c 0 (i 0) (ix3 (0 : Fin 1) (i 1) (i 2))

/-- The denominators computed here, one column per head. -/
def LS (c : Dev nD) : Vec F S4x256x8 .f32 := fun i => den X c (slot3 i) (i 2) (ix2 (i 1) (i 2))

/-- The denominators received. -/
def LR (c : Dev nD) : Vec F S3x256x8 .f32 := fun i => LS X (c + (slot3 i).succ) (ix3 (slot3 i).succ (i 1) (i 2))

/-- The columns' numbers. -/
abbrev cols : IVec S1x8 32 := iota .tc S1x8 32 [1] iota_S1x8_d1_w32

/-- Which column is column `h`. -/
def isCol (h : Fin 8) : IVec S1x8 1 := cmpi .eq cols (broadcast S1x8 (Scf.iv 0#32 1#32 h))

/-- A slot of four-dimensional contents, one head of it. -/
def slab {n : ℕ} (f : Vec F ⟨4, ![n, 8, 256, 128]⟩ .f32) (r : Fin n) (h : Fin 8) : Vec F S1x1x256x128 .f32 := fun j => f (ix4 r h (j 2) (j 3))

/-- One head of the accumulator. -/
def oslab (f : Vec F S8x256x128 .f32) (h : Fin 8) : Vec F S1x256x128 .f32 := fun j => f (ix3 h (j 1) (j 2))

/-- One slot of denominators. -/
def lslab {n : ℕ} (f : Vec F ⟨3, ![n, 256, 8]⟩ .f32) (r : Fin n) : Vec F S1x256x8 .f32 := fun j => f (ix3 r (j 1) (j 2))

/-- The quotient of one head, from the denominators' slots. -/
def quot (c : Dev nD) (h : Fin 8) (l0 l1 l2 l3 : Vec F S1x256x8 .f32) : Vec F S1x256x128 .f32 :=
  k0_pay49 l0 l1 l2 l3 (isCol h) (oslab (CX X c) h) (slab (PR X c) 0 h) (slab (PR X c) 1 h) (slab (PR X c) 2 h)

/-- The kernel's result on device `c`. -/
def RES (c : Dev nD) : Vec F S8x256x128 .f32 := fun i =>
  quot X c (i 0) (lslab (LS X c) 0) (lslab (LR X c) 0) (lslab (LR X c) 1) (lslab (LR X c) 2) (ix3 (0 : Fin 1) (i 1) (i 2))

/-- A slot of denominators after head `h`'s row sums `s` are put in: every other column is multiplied by one, column `h` by zero,
    and the row sums are added times zero, or times one. -/
def lput (h : Fin 8) (s : FVec F S256x8 .f32) (old : Vec F S1x256x8 .f32) : Vec F S1x256x8 .f32 :=
  k0_pay36 (k0_pay4 cols 0#32 1#32 h) (k0_pay7 cols 0#32 1#32 h old) s

/-- The law of the arithmetic that determines a slot of denominators whatever it held before: adding the row sums in this way puts
    them into column `h` and leaves the others. -/
def Law (F : FTy → Type) [FloatOps F] : Prop :=
  ∀ (h : Fin 8) (s : FVec F S256x8 .f32) (old : Vec F S1x256x8 .f32) (j : S1x256x8.Idx),
    lput h s old j = if (j 2).val = h.val then s (ix2 (j 1) (j 2)) else old j

/-! ## The later rounds' spellings are the first's -/

section Spell

variable (mk : IVec S256x4096 1) (q : Vec F S1x1x256x128 .f32) (k v : Vec F S1x4096x1x128 .f32) (h : Fin 8) (l : Vec F S1x256x8 .f32)

/-- The numerators of round 1, spelled as those of the first. -/
theorem pay6_eq : k0_pay6 mk q k v = k0_pay2 mk q k v := rfl
/-- The numerators of round 2, spelled as those of the first. -/
theorem pay11_eq : k0_pay11 mk q k v = k0_pay2 mk q k v := rfl
/-- The numerators of round 3, spelled as those of the first. -/
theorem pay16_eq : k0_pay16 mk q k v = k0_pay2 mk q k v := rfl
/-- The first round puts its row sums in. -/
theorem put0_eq : k0_pay30 (k0_pay3 cols mk 0#32 1#32 h q k l) = lput h (k0_pay8 mk q k) l := rfl
/-- Round 1 puts its row sums in. -/
theorem put1_eq : k0_pay36 (k0_pay4 cols 0#32 1#32 h) (k0_pay7 cols 0#32 1#32 h l) (k0_pay8 mk q k) = lput h (k0_pay8 mk q k) l := rfl
/-- Round 2 puts its row sums in. -/
theorem put2_eq : k0_pay45 (k0_pay9 cols 0#32 1#32 h) (k0_pay12 cols 0#32 1#32 h l) (k0_pay13 mk q k) = lput h (k0_pay8 mk q k) l := rfl
/-- Round 3 puts its row sums in. -/
theorem put3_eq : k0_pay48 (k0_pay14 cols 0#32 1#32 h) (k0_pay17 cols 0#32 1#32 h l) (k0_pay18 mk q k) = lput h (k0_pay8 mk q k) l := rfl
/-- The final loop selects a column in the same way. -/
theorem isCol_eq : k0_pay19 cols 0#32 1#32 h = isCol h := rfl

end Spell

/-! ## Slabs of the final contents -/

/-- A head of a slot of the query buffer. -/
theorem slab_QB (c : Dev nD) (r : Fin 4) (h : Fin 8) : slab (QB X c) r h = qHead (X.q (c - r)) h := rfl

/-- A head of the numerators to send. -/
theorem PS_at (c : Dev nD) (r : Fin 3) (h : Fin 8) (j : S1x256x128.Idx) : PS X c (ix4 r h (j 1) (j 2)) = num X c r.succ h j := by
  have : (ix3 (0 : Fin 1) (j 1) (j 2) : S1x256x128.Idx) = j := Shape.idx3_ext (by
    have := (j 0).isLt; change (j 0).val < 1 at this; show 0 = (j 0).val; omega) rfl rfl
  show num X c r.succ h (ix3 (0 : Fin 1) (j 1) (j 2)) = _
  rw [this]

/-- A head of the accumulator. -/
theorem CX_at (c : Dev nD) (h : Fin 8) (j : S1x256x128.Idx) : CX X c (ix3 h (j 1) (j 2)) = num X c 0 h j := by
  have : (ix3 (0 : Fin 1) (j 1) (j 2) : S1x256x128.Idx) = j := Shape.idx3_ext (by
    have := (j 0).isLt; change (j 0).val < 1 at this; show 0 = (j 0).val; omega) rfl rfl
  show num X c 0 h (ix3 (0 : Fin 1) (j 1) (j 2)) = _
  rw [this]

/-- A head of the result. -/
theorem RES_at (c : Dev nD) (h : Fin 8) (j : S1x256x128.Idx) :
    RES X c (ix3 h (j 1) (j 2)) = quot X c h (lslab (LS X c) 0) (lslab (LR X c) 0) (lslab (LR X c) 1) (lslab (LR X c) 2) j := by
  have : (ix3 (0 : Fin 1) (j 1) (j 2) : S1x256x128.Idx) = j := Shape.idx3_ext (by
    have := (j 0).isLt; change (j 0).val < 1 at this; show 0 = (j 0).val; omega) rfl rfl
  show quot X c h (lslab (LS X c) 0) (lslab (LR X c) 0) (lslab (LR X c) 1) (lslab (LR X c) 2) (ix3 (0 : Fin 1) (j 1) (j 2)) = _
  rw [this]

/-- What lands in slot `r + 1` of the right neighbour's query buffer is what it is to hold. -/
theorem QB_next (c : Dev nD) (r : Fin 3) (a : Fin 8) (b : Fin 256) (d : Fin 128) :
    QB X (c + 1) (ix4 r.succ a b d) = QB X c (ix4 r.castSucc a b d) := by
  show X.q (c + 1 - r.succ) _ = X.q (c - r.castSucc) _
  have : c + 1 - r.succ = c - r.castSucc := by revert c r; decide
  rw [this]

/-- Going back and forward again. -/
theorem back_fwd (c : Dev nD) (r : Fin 3) : c - r.succ + r.succ = c := by revert c r; decide

/-- What a device receives is what the sender computed. -/
theorem PR_at (c : Dev nD) (r : Fin 3) (h : Fin 8) (b : Fin 256) (d : Fin 128) :
    PR X (c - r.succ) (ix4 r h b d) = PS X c (ix4 r h b d) := by
  exact congrArg (fun d' => PS X d' (ix4 r h b d)) (back_fwd c r)

/-- The denominators a device receives are those the sender computed. -/
theorem LR_at (c : Dev nD) (r : Fin 3) (b : Fin 256) (h : Fin 8) :
    LR X (c - r.succ) (ix3 r b h) = LS X c (ix3 r.succ b h) := by
  exact congrArg (fun d' => LS X d' (ix3 r.succ b h)) (back_fwd c r)

end Cert.Proof.Ring

end
-- ==== Proof.Protocol.lean ====
/- The protocol of the ring: the semaphore cells, for each cell who pays it, how much and with which contents, the levels that order
   the waits, and what a device owes before each of its operations. -/
module

public import proofs.«01_k».proof.Proof.Contents
public import proofs.«01_k».proof.Proof.Gen.KernelIdeal.Launch
public import Idealize.ShloMosaic.Lib.Rounds
public import Idealize.ShloMosaic.Lib.Pipeline.Regions
public import Idealize.ShloMosaic.Lib.Pipeline.Kit
public import Idealize.ShloMosaic.Lib.Tactic

@[expose] public section

noncomputable section

namespace Cert.Proof.Ring

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

/-! ## The cells -/

/-- The kernel's own copy semaphores: of the query ring (sent, received), of the numerators per head (sent, received) and of the
    denominators (sent, received), each for three hops. -/
inductive Key : Type
  | qs (r : Fin 3) | qr (r : Fin 3)
  | ps (r : Fin 3) (h : Fin 8) | pr (r : Fin 3) (h : Fin 8)
  | ls (r : Fin 3) | lr (r : Fin 3)
deriving DecidableEq

/-- The copy semaphores listed by family. -/
def keySum : (Fin 3 ⊕ Fin 3) ⊕ ((Fin 3 × Fin 8) ⊕ (Fin 3 × Fin 8)) ⊕ (Fin 3 ⊕ Fin 3) ≃ Key where
  toFun
    | .inl (.inl r) => .qs r
    | .inl (.inr r) => .qr r
    | .inr (.inl (.inl p)) => .ps p.1 p.2
    | .inr (.inl (.inr p)) => .pr p.1 p.2
    | .inr (.inr (.inl r)) => .ls r
    | .inr (.inr (.inr r)) => .lr r
  invFun
    | .qs r => .inl (.inl r)
    | .qr r => .inl (.inr r)
    | .ps r h => .inr (.inl (.inl (r, h)))
    | .pr r h => .inr (.inl (.inr (r, h)))
    | .ls r => .inr (.inr (.inl r))
    | .lr r => .inr (.inr (.inr r))
  left_inv x := by rcases x with (x | x) | (x | x) | (x | x) <;> rfl
  right_inv x := by cases x <;> rfl

/-- There are finitely many keys. -/
instance : Fintype Key := Fintype.ofEquiv _ keySum

/-- The number of a copy semaphore. -/
def Key.num : Key → ℕ
  | .qs r => 4 + r.val
  | .qr r => 7 + r.val
  | .ps r h => 10 + (8 * r.val + h.val)
  | .pr r h => 34 + (8 * r.val + h.val)
  | .ls r => 58 + r.val
  | .lr r => 61 + r.val

/-- The numbers are in range. -/
theorem Key.num_lt (k : Key) : k.num < 64 := by
  cases k <;> simp only [Key.num] <;> omega

/-- The copy semaphore itself. -/
def Key.sem (k : Key) : DmaSem sig := ⟨k.num, k.num_lt⟩

/-- Its cell on a processor. -/
abbrev Key.loc (k : Key) : SemLoc sig := .dma k.sem

/-- Which of the kernel's semaphores a semaphore number is. -/
def keyOfNum (n : ℕ) : Option Key :=
  if n < 4 then none
  else if n < 7 then some (.qs (Fin.ofNat 3 (n - 4)))
  else if n < 10 then some (.qr (Fin.ofNat 3 (n - 7)))
  else if n < 34 then some (.ps (Fin.ofNat 3 ((n - 10) / 8)) (Fin.ofNat 8 ((n - 10) % 8)))
  else if n < 58 then some (.pr (Fin.ofNat 3 ((n - 34) / 8)) (Fin.ofNat 8 ((n - 34) % 8)))
  else if n < 61 then some (.ls (Fin.ofNat 3 (n - 58)))
  else some (.lr (Fin.ofNat 3 (n - 61)))

/-- A semaphore is found again by its number. -/
theorem keyOfNum_num (k : Key) : keyOfNum k.num = some k := by
  cases k with
  | qs r => revert r; decide
  | qr r => revert r; decide
  | ps r h => revert r h; decide
  | pr r h => revert r h; decide
  | ls r => revert r; decide
  | lr r => revert r; decide

/-- Different keys are different semaphores. -/
theorem Key.sem_inj : Function.Injective Key.sem := fun a b h =>
  Option.some.inj ((keyOfNum_num a).symm.trans ((congrArg (fun s : DmaSem sig => keyOfNum s.val) h).trans (keyOfNum_num b)))

/-- Different keys are different cells. -/
theorem Key.loc_inj : Function.Injective Key.loc := fun _ _ h => Key.sem_inj (SemLoc.dma.inj h)

/-- The barrier's semaphore. -/
abbrev barS : Sem sig := (SemArray.scalar (sig.barrier 0 rfl) : Sems sig S_).sem

/-- The barrier's cell on device `c`. -/
abbrev barCell (c : Dev nD) : GSem nD τ sig := ((c : Thread nD τ), .reg barS)

/-- The cell of a copy semaphore on device `c`. -/
abbrev cell (c : Dev nD) (k : Key) : GSem nD τ sig := ((c : Thread nD τ), k.loc)

/-- A copy semaphore's key, or that the cell is a barrier. -/
def decode : SemLoc sig → Option (Option Key)
  | .reg _ => some none
  | .dma s => (keyOfNum s.val).map some

/-- The barrier is recognised. -/
theorem decode_bar : decode (.reg barS) = some none := rfl
/-- A copy semaphore is recognised. -/
theorem decode_key (k : Key) : decode k.loc = some (some k) := by
  show (keyOfNum k.num).map some = _
  rw [keyOfNum_num]; rfl

/-- A product over three is its three factors. -/
theorem bigSep_fin3 {M : Type} [URA M] (Φ : Fin 3 → sProp M) : bigSep Finset.univ Φ = iprop(Φ 0 ∗ Φ 1 ∗ Φ 2) :=
  bigSep_univ_eq_bigSepL [0, 1, 2] (by decide) (by decide) Φ

/-! ## The algebra -/

/-- The protocol's resources. -/
abbrev UB : Type := URounds (GSem nD τ sig) (Fin 3)
/-- The pipeline's resources and the protocol's. -/
abbrev UU : Type := UR sig nD τ × UB

variable {F : FTy → Type} [FloatOps F]

local notation "𝕄" => MT nD τ sig Unit (Elt F) ℕ UU ℕ

/-- Where the pipeline's resources lie. -/
abbrev EP : Emb (UR sig nD τ) (MT nD τ sig Unit (Elt F) ℕ UU ℕ) := embL
/-- Where the protocol's resources lie. -/
abbrev ER : Emb UB (MT nD τ sig Unit (Elt F) ℕ UU ℕ) := embR

/-! ## The pieces of the buffers -/

/-- Elements `S` of device `c`'s query buffer hold `f`. -/
abbrev qPt (c : Dev nD) (S : Finset S4x8x256x128.Idx) (q : PosShare TreeShare) (f : Vec F S4x8x256x128 .f32) : sProp 𝕄 :=
  ((c : Thread nD τ).loc cc0_scratch0) ↦[S]{q} f
/-- Elements `S` of device `c`'s numerators to send hold `f`. -/
abbrev sPt (c : Dev nD) (S : Finset S3x8x256x128.Idx) (f : Vec F S3x8x256x128 .f32) : sProp 𝕄 :=
  ((c : Thread nD τ).loc cc0_scratch1) ↦[S]{fullShare} f
/-- Elements `S` of device `c`'s received numerators hold `f`. -/
abbrev rPt (c : Dev nD) (S : Finset S3x8x256x128.Idx) (f : Vec F S3x8x256x128 .f32) : sProp 𝕄 :=
  ((c : Thread nD τ).loc cc0_scratch2) ↦[S]{fullShare} f
/-- Elements `S` of device `c`'s own denominators hold `f`. -/
abbrev lPt (c : Dev nD) (S : Finset S4x256x8.Idx) (f : Vec F S4x256x8 .f32) : sProp 𝕄 :=
  ((c : Thread nD τ).loc cc0_scratch3) ↦[S]{fullShare} f
/-- Elements `S` of device `c`'s received denominators hold `f`. -/
abbrev lrPt (c : Dev nD) (S : Finset S3x256x8.Idx) (f : Vec F S3x256x8 .f32) : sProp 𝕄 :=
  ((c : Thread nD τ).loc cc0_scratch4) ↦[S]{fullShare} f

/-- The units one copy of a slot of queries moves. -/
abbrev Nq : ℕ := (qM 0).view.dmaCredit
/-- The units one copy of a head's numerators moves. -/
abbrev Np : ℕ := (sM 0 0).view.dmaCredit
/-- The units one copy of a slot of denominators moves. -/
abbrev Nl : ℕ := (lM 0).view.dmaCredit

/-- A copy of queries moves something. -/
theorem Nq_pos : 0 < Nq := View.dmaCredit_pos _ (by decide)
/-- A copy of numerators moves something. -/
theorem Np_pos : 0 < Np := View.dmaCredit_pos _ (by decide)
/-- A copy of denominators moves something. -/
theorem Nl_pos : 0 < Nl := View.dmaCredit_pos _ (by decide)

/-- The units each copy semaphore's one duty moves. -/
def Key.units : Key → ℕ
  | .qs _ | .qr _ => Nq
  | .ps _ _ | .pr _ _ => Np
  | .ls _ | .lr _ => Nl

/-- Every copy moves something. -/
theorem Key.units_pos (k : Key) : 0 < k.units := by
  cases k <;> first | exact Nq_pos | exact Np_pos | exact Nl_pos

/-! ## The payloads -/

variable (det : Bool) (X : Inputs F)

/-- What device `c - (d + 1)` hands over with its barrier unit: the slots device `c` is to write, and that their cells are open; the
    right neighbour hands its query slots too. -/
def barPay (c : Dev nD) (d : Fin 3) : sProp 𝕄 :=
  iprop((∃ f, rPt (c - d.succ) (qS d) f) ∗ (∃ f, lrPt (c - d.succ) (lS d) f)
    ∗ (bigSep Finset.univ fun h : Fin 8 => reached ER (cell (c - d.succ) (.pr d h)) 0) ∗ reached ER (cell (c - d.succ) (.lr d)) 0
    ∗ (if d = 2 then iprop((bigSep Finset.univ fun r : Fin 3 => iprop((∃ f, qPt (c + 1) (qS r.succ) fullShare f) ∗ reached ER (cell (c + 1) (.qr r)) 0)))
        else iprop(emp)))

/-- What a copy semaphore's duty hands its device: the sent source back, or the landed destination. -/
def keyPay (c : Dev nD) : Key → sProp 𝕄
  | .qs r => qPt c (qS r.castSucc) fullShare.left (QB X c)
  | .qr r => qPt c (qS r.succ) fullShare (QB X c)
  | .ps r h => sPt c (pS r h) (PS X c)
  | .pr r h => rPt c (pS r h) (PR X c)
  | .ls r => iprop(∃ f, lPt c (lS r.succ) f)
  | .lr r => iprop(∃ f, ⌜det = true → ∀ i ∈ lS r, f i = LR X c i⌝ ∗ lrPt c (lS r) f)

/-- One round per cell: three duties on a barrier, one on each copy semaphore. -/
def ringRd : Rounds.Schedule (GSem nD τ sig) (Fin 3) 𝕄 where
  duties g r := if r = 0 then (match decode g.2 with | some none => Finset.univ | some (some _) => {0} | none => ∅) else ∅
  unitless _ := False
  amount g _ _ := match decode g.2 with | some (some k) => k.units | _ => 1
  payload g _ d := match decode g.2 with | some none => barPay g.1.1 d | some (some k) => keyPay det X g.1.1 k | none => iprop(emp)
  amount_pos g _ _ _ := by
    show 0 < (match decode g.2 with | some (some k) => k.units | _ => 1)
    split
    · exact Key.units_pos _
    · exact Nat.one_pos

/-- What is handed over at the barrier may be kept in an invariant. -/
instance barPay_storable (c : Dev nD) (d : Fin 3) : BI.Storable (upEmb : UEmb _ 𝕄) (barPay (F := F) c d) := by
  unfold barPay
  split <;> infer_instance

/-- What a copy hands over may be kept in an invariant. -/
instance keyPay_storable (c : Dev nD) (k : Key) : BI.Storable (upEmb : UEmb _ 𝕄) (keyPay det X c k) := by
  cases k <;> (unfold keyPay; infer_instance)

/-- What any duty hands over may be kept in an invariant. -/
instance ringRd_payload_storable (g : GSem nD τ sig) (r : ℕ) (d : Fin 3) :
    BI.Storable (upEmb : UEmb _ 𝕄) ((ringRd det X).payload g r d) := by
  show BI.Storable upEmb (match decode g.2 with | some none => barPay g.1.1 d | some (some k) => keyPay det X g.1.1 k | none => iprop(emp))
  split <;> infer_instance

section Sched

variable (c : Dev nD) (k : Key) (d : Fin 3)

/-- A barrier has three duties. -/
theorem duties_bar : (ringRd det X).duties (barCell c) 0 = Finset.univ := rfl
/-- A copy's cell has one duty. -/
theorem duties_key : (ringRd det X).duties (cell c k) 0 = {0} := by
  show (match decode k.loc with | some none => Finset.univ | some (some _) => {0} | none => ∅) = ({0} : Finset (Fin 3))
  rw [decode_key]
/-- There is one round only. -/
theorem duties_later (g : GSem nD τ sig) : ∀ r, 1 ≤ r → (ringRd det X).duties g r = ∅ :=
  fun r hr => by dsimp only [ringRd]; rw [if_neg (by omega)]
/-- A signal is one unit. -/
theorem amount_bar : (ringRd det X).amount (barCell c) 0 d = 1 := rfl
/-- A copy's duty is all its units. -/
theorem amount_key : (ringRd det X).amount (cell c k) 0 d = k.units := by
  show (match decode k.loc with | some (some k) => k.units | _ => 1) = _
  rw [decode_key]
/-- What a signal hands over. -/
theorem payload_bar : (ringRd det X).payload (barCell c) 0 d = barPay c d := rfl
/-- What a copy hands over. -/
theorem payload_key : (ringRd det X).payload (cell c k) 0 d = keyPay det X c k := by
  show (match decode k.loc with | some none => barPay c d | some (some k) => keyPay det X c k | none => iprop(emp)) = _
  rw [decode_key]
/-- A barrier expects three units. -/
theorem expect_bar : (ringRd det X).expect (barCell c) 0 = 3 := by
  unfold Schedule.expect Schedule.amountOf
  rw [duties_bar]; rfl
/-- A copy's cell expects that copy's units. -/
theorem expect_key : (ringRd det X).expect (cell c k) 0 = k.units := by
  unfold Schedule.expect Schedule.amountOf
  rw [duties_key, Finset.sum_singleton, amount_key]
/-- All that a barrier hands its waiter. -/
theorem rest_bar : bigSep ((ringRd det X).duties (barCell c) 0 \ ∅) (fun d => (ringRd det X).payload (barCell c) 0 d)
    = iprop(barPay (F := F) c 0 ∗ barPay c 1 ∗ barPay c 2) := by
  rw [Finset.sdiff_empty, duties_bar, bigSep_fin3]; rfl
/-- All that a copy's cell hands its waiter. -/
theorem rest_key : bigSep ((ringRd det X).duties (cell c k) 0 \ ∅) (fun d => (ringRd det X).payload (cell c k) 0 d) = keyPay det X c k := by
  rw [Finset.sdiff_empty, duties_key, bigSep_singleton, payload_key]

end Sched

/-! ## The levels -/

/-- Cells are waited on in the order of their levels: the barrier, the ring's three hops, then the numerators and the denominators.
    The cells a device pays itself are at the bottom. -/
def Key.level : Key → ℕ
  | .qr r => 2 + r.val
  | .pr _ _ | .lr _ => 5
  | _ => 0

/-- Every cell of a core has one level. -/
def L (g : GSem nD τ sig) : Finset Unit := if g.1.2 = .tc then {()} else ∅
/-- The level of a cell. -/
def lv (g : GSem nD τ sig) (_ : Unit) : ℕ := match decode g.2 with | some none => 1 | some (some k) => k.level | none => 0

/-- No other processor has levels. -/
theorem L_of_ne (g : GSem nD τ sig) (h : g.1.2 ≠ .tc) : L g = ∅ := if_neg h
/-- A core has one level per cell. -/
theorem L_tc (c : Dev nD) (sm : SemLoc sig) : L ((c : Thread nD τ), sm) = {()} := if_pos rfl
/-- The barrier is on level 1. -/
theorem lv_bar (c : Dev nD) (u : Unit) : lv (barCell c) u = 1 := rfl
/-- A copy's cell is on its key's level. -/
theorem lv_key (c : Dev nD) (k : Key) (u : Unit) : lv (cell c k) u = k.level := by
  show (match decode k.loc with | some none => 1 | some (some k) => k.level | none => 0) = _
  rw [decode_key]

/-- Everything a device owes lies above level `n`. -/
def Above (n : ℕ) (O : CellTallies nD τ sig Unit) : Prop := ∀ g u, 0 < O g u → u ∈ L g ∧ n < lv g u

/-- Owing nothing is above every level. -/
theorem Above.zero (n : ℕ) : Above n 0 := fun _ _ h => absurd h (Nat.lt_irrefl 0)

/-- What is owed twice over is above a level when both parts are. -/
theorem Above.add {n : ℕ} {O₁ O₂ : CellTallies nD τ sig Unit} (h₁ : Above n O₁) (h₂ : Above n O₂) : Above n (O₁ + O₂) := fun g u h => by
  rw [Pi.add_apply, Finsupp.add_apply] at h
  rcases Nat.add_pos_iff_pos_or_pos.mp h with h | h
  · exact h₁ g u h
  · exact h₂ g u h

/-- A sum of what is owed is above a level when its terms are. -/
theorem Above.sum {n : ℕ} {ι : Type} (S : Finset ι) (O : ι → CellTallies nD τ sig Unit) (h : ∀ i ∈ S, Above n (O i)) : Above n (∑ i ∈ S, O i) := by
  classical
  induction S using Finset.induction_on with
  | empty => rw [Finset.sum_empty]; exact Above.zero n
  | insert a S ha ih =>
    rw [Finset.sum_insert ha]
    exact (h a (Finset.mem_insert_self _ _)).add (ih fun i hi => h i (Finset.mem_insert_of_mem hi))

/-- What is owed to one cell is above a level below the cell. -/
theorem Above.at {n : ℕ} (c : Dev nD) (sm : SemLoc sig) (N : ℕ) (h : n < lv ((c : Thread nD τ), sm) ()) :
    Above n (tallyAt ((c : Thread nD τ), sm) () N) := fun g u hg => by
  rw [tallyAt_apply] at hg
  by_cases e : g = ((c : Thread nD τ), sm) ∧ u = ()
  · obtain ⟨rfl, rfl⟩ := e
    exact ⟨by rw [L_tc]; exact Finset.mem_singleton_self _, h⟩
  · rw [if_neg e] at hg; exact absurd hg (Nat.lt_irrefl 0)

/-- A device may wait on a level that all it owes is above. -/
theorem Above.mayWait {n : ℕ} {O : CellTallies nD τ sig Unit} (h : Above n O) (c : Dev nD) (sm : SemLoc sig) (hn : lv ((c : Thread nD τ), sm) () ≤ n) :
    (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => (h g u hg).1)
    (fun p hp => by rw [Finset.mem_singleton.mp hp]; exact hn)
    (fun g u hg => (h g u hg).2)

/-! ## What a device owes -/

/-- The receive unit of the right neighbour's hop `r`. -/
def oQ (c : Dev nD) (r : Fin 3) : CellTallies nD τ sig Unit := tallyAt (cell (c + 1) (.qr r)) () Nq
/-- The receive unit of head `h`'s numerators of round `r + 1`. -/
def oP (c : Dev nD) (r : Fin 3) (h : Fin 8) : CellTallies nD τ sig Unit := tallyAt (cell (c - r.succ) (.pr r h)) () Np
/-- The receive unit of the denominators of round `r + 1`. -/
def oL (c : Dev nD) (r : Fin 3) : CellTallies nD τ sig Unit := tallyAt (cell (c - r.succ) (.lr r)) () Nl
/-- The barrier unit of the device `d + 1` places after. -/
def oB (c : Dev nD) (d : Fin 3) : CellTallies nD τ sig Unit := tallyAt (barCell (c + d.succ)) () 1
/-- The receive units of the heads from `k` on. -/
def oPs (c : Dev nD) (r : Fin 3) (k : ℕ) : CellTallies nD τ sig Unit := ∑ h ∈ Finset.univ.filter (fun h : Fin 8 => k ≤ h.val), oP c r h

/-- What is owed, from the last payment backwards. -/
def owe1 (c : Dev nD) : CellTallies nD τ sig Unit := oL c 2
/-- And the numerators of round 3. -/
def owe2 (c : Dev nD) : CellTallies nD τ sig Unit := owe1 c + oPs c 2 0
/-- And the denominators of round 2. -/
def owe3 (c : Dev nD) : CellTallies nD τ sig Unit := owe2 c + oL c 1
/-- And the numerators of round 2. -/
def owe4 (c : Dev nD) : CellTallies nD τ sig Unit := owe3 c + oPs c 1 0
/-- And the third hop. -/
def owe5 (c : Dev nD) : CellTallies nD τ sig Unit := owe4 c + oQ c 2
/-- And the denominators of round 1. -/
def owe6 (c : Dev nD) : CellTallies nD τ sig Unit := owe5 c + oL c 0
/-- And the numerators of round 1. -/
def owe7 (c : Dev nD) : CellTallies nD τ sig Unit := owe6 c + oPs c 0 0
/-- And the second hop. -/
def owe8 (c : Dev nD) : CellTallies nD τ sig Unit := owe7 c + oQ c 1
/-- And the first hop. -/
def owe9 (c : Dev nD) : CellTallies nD τ sig Unit := owe8 c + oQ c 0
/-- And the third barrier signal. -/
def owe10 (c : Dev nD) : CellTallies nD τ sig Unit := owe9 c + oB c 2
/-- And the second barrier signal. -/
def owe11 (c : Dev nD) : CellTallies nD τ sig Unit := owe10 c + oB c 1
/-- And the first barrier signal: all that a device owes at the start. -/
def owe12 (c : Dev nD) : CellTallies nD τ sig Unit := owe11 c + oB c 0

/-- The next head is owed, and those after it. -/
theorem oPs_step (c : Dev nD) (r : Fin 3) (h : Fin 8) : oPs c r h.val = oPs c r (h.val + 1) + oP c r h := by
  unfold oPs
  have e : (Finset.univ.filter fun h' : Fin 8 => h.val ≤ h'.val) = insert h (Finset.univ.filter fun h' : Fin 8 => h.val + 1 ≤ h'.val) := by
    revert h; decide
  rw [e, Finset.sum_insert (by simp), add_comm]

/-- After the last head nothing is owed. -/
theorem oPs_done (c : Dev nD) (r : Fin 3) : oPs c r 8 = 0 := by
  unfold oPs
  rw [show (Finset.univ.filter fun h' : Fin 8 => 8 ≤ h'.val) = ∅ from by decide, Finset.sum_empty]

/-- The hops are above the barrier and the hops before. -/
theorem above_oQ {n : ℕ} (c : Dev nD) (r : Fin 3) (h : n < 2 + r.val) : Above n (oQ c r) :=
  Above.at _ _ _ (by rw [show lv (cell (c + 1) (.qr r)) () = 2 + r.val from lv_key _ _ _]; exact h)
/-- A head of numerators is above the hops. -/
theorem above_oP {n : ℕ} (c : Dev nD) (r : Fin 3) (hd : Fin 8) (h : n < 5) : Above n (oP c r hd) :=
  Above.at _ _ _ (by rw [show lv (cell (c - r.succ) (.pr r hd)) () = 5 from lv_key _ _ _]; exact h)
/-- The denominators are above the hops. -/
theorem above_oL {n : ℕ} (c : Dev nD) (r : Fin 3) (h : n < 5) : Above n (oL c r) :=
  Above.at _ _ _ (by rw [show lv (cell (c - r.succ) (.lr r)) () = 5 from lv_key _ _ _]; exact h)
/-- The numerators are above the hops. -/
theorem above_oPs {n : ℕ} (c : Dev nD) (r : Fin 3) (k : ℕ) (h : n < 5) : Above n (oPs c r k) :=
  Above.sum _ _ fun _ _ => above_oP c r _ h
/-- A barrier unit is above level 0. -/
theorem above_oB {n : ℕ} (c : Dev nD) (d : Fin 3) (h : n < 1) : Above n (oB c d) :=
  Above.at _ _ _ (by rw [show lv (barCell (c + d.succ)) () = 1 from rfl]; exact h)

/-- The last payments are above the hops. -/
theorem above_owe2 {n : ℕ} (c : Dev nD) (h : n < 5) : Above n (owe2 c) := (above_oL c 2 h).add (above_oPs c 2 0 h)
/-- From round 2 on, what is owed is above the hops. -/
theorem above_owe4 {n : ℕ} (c : Dev nD) (h : n < 5) : Above n (owe4 c) := ((above_owe2 c h).add (above_oL c 1 h)).add (above_oPs c 1 0 h)
/-- From the third hop on, what is owed is above the second hop. -/
theorem above_owe5 {n : ℕ} (c : Dev nD) (h : n < 4) : Above n (owe5 c) := (above_owe4 c (by omega)).add (above_oQ c 2 h)
/-- From round 1 on, what is owed is above the second hop. -/
theorem above_owe7 {n : ℕ} (c : Dev nD) (h : n < 4) : Above n (owe7 c) :=
  ((above_owe5 c h).add (above_oL c 0 (by omega))).add (above_oPs c 0 0 (by omega))
/-- From the second hop on, what is owed is above the first hop. -/
theorem above_owe8 {n : ℕ} (c : Dev nD) (h : n < 3) : Above n (owe8 c) := (above_owe7 c (by omega)).add (above_oQ c 1 h)
/-- All copies are above the barrier. -/
theorem above_owe9 {n : ℕ} (c : Dev nD) (h : n < 2) : Above n (owe9 c) := (above_owe8 c (by omega)).add (above_oQ c 0 h)
/-- All that is owed is above level 0. -/
theorem above_owe12 {n : ℕ} (c : Dev nD) (h : n < 1) : Above n (owe12 c) :=
  (((above_owe9 c (by omega)).add (above_oB c 2 h)).add (above_oB c 1 h)).add (above_oB c 0 h)

end Cert.Proof.Ring

end
-- ==== Proof.Steps.lean ====
/- One rule per kind of load and store of the kernel, with what is read and what is left written down element by element. Each takes
   the offsets as the kernel computes them, and the equation saying which place that is. -/
module

public import proofs.«01_k».proof.Proof.Protocol

@[expose] public section

noncomputable section

namespace Cert.Proof.Ring

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- No loop needs a measure. -/
abbrev 𝒱₀ : Variants := Variants.none

/-- The weakest precondition of a program of device `c`'s TensorCore. -/
abbrev WP {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

/-- Elements `S` of device `c`'s accumulator hold `f`. -/
abbrev oPt (c : Dev nD) (S : Finset S8x256x128.Idx) (f : Vec F S8x256x128 .f32) : sProp 𝕄 :=
  ((c : Thread nD τ).loc cc0_stg3_0) ↦[S]{fullShare} f
/-- Device `c`'s staged queries are `f`. -/
abbrev iqPt (c : Dev nD) (f : Vec F S8x256x128 .f32) : sProp 𝕄 := ((c : Thread nD τ).loc cc0_stg0_0) ↦[Finset.univ]{fullShare} f
/-- Device `c`'s staged keys are `f`. -/
abbrev ikPt (c : Dev nD) (f : Vec F S1x4096x8x128 .f32) : sProp 𝕄 := ((c : Thread nD τ).loc cc0_stg1_0) ↦[Finset.univ]{fullShare} f
/-- Device `c`'s staged values are `f`. -/
abbrev ivPt (c : Dev nD) (f : Vec F S1x4096x8x128 .f32) : sProp 𝕄 := ((c : Thread nD τ).loc cc0_stg2_0) ↦[Finset.univ]{fullShare} f

section Loads

variable (c : Dev nD)

/-- Loading one head of one slot of the query buffer. -/
theorem load_q {α : Type} {Q : α → sProp 𝕄} {off : Fin 4 → ℕ} {inb : ∀ a, off a + S1x1x256x128.size a ≤ S4x8x256x128.size a} (r : Fin 4) (h : Fin 8)
    (e : off = ![r.val, h.val, 0, 0])
    {hl : (Memref.whole cc0_scratch0 : Memref sig .tc .vmem S4x8x256x128 .f32).view.LoadsAt (Rect.unit (s := S4x8x256x128) off S1x1x256x128.size inb).toLoadRect}
    {k : Vec F S1x1x256x128 .f32 → Prog (TpuEff nD τ sig (Elt F) Λ₀ .tc) α} {S : Finset S4x8x256x128.Idx} {q : PosShare TreeShare}
    {f : Vec F S4x8x256x128 .f32} (hS : pS r h ⊆ S) :
    qPt c S q f ⊢ iprop((qPt c S q f -∗ WP c (k (slab f r h)) Q)
      -∗ WP c (.op (.load (Memref.whole cc0_scratch0) (Rect.unit (s := S4x8x256x128) off S1x1x256x128.size inb).toLoadRect hl) k) Q) := by
  subst e
  have hv : ((Memref.whole cc0_scratch0 : Memref sig .tc .vmem S4x8x256x128 .f32).access (rP r h)).read (Elt F) f = slab f r h :=
    funext fun x => congrArg f (rP_emb r h x)
  have hs : ((Memref.whole cc0_scratch0 : Memref sig .tc .vmem S4x8x256x128 .f32).access (rP r h)).set = pS r h :=
    (View.set_slice_whole _ _).trans (rP_set r h)
  rw [← hv]
  exact wp_load_rect 𝒱₀ (c : Thread nD τ) none Set.univ (m := Memref.whole cc0_scratch0) (r := rP r h) (hs ▸ hS)

/-- Loading one head of one slot of the received numerators. -/
theorem load_r {α : Type} {Q : α → sProp 𝕄} {off : Fin 4 → ℕ} {inb : ∀ a, off a + S1x1x256x128.size a ≤ S3x8x256x128.size a} (r : Fin 3) (h : Fin 8)
    (e : off = ![r.val, h.val, 0, 0])
    {hl : (Memref.whole cc0_scratch2 : Memref sig .tc .vmem S3x8x256x128 .f32).view.LoadsAt (Rect.unit (s := S3x8x256x128) off S1x1x256x128.size inb).toLoadRect}
    {k : Vec F S1x1x256x128 .f32 → Prog (TpuEff nD τ sig (Elt F) Λ₀ .tc) α} {S : Finset S3x8x256x128.Idx}
    {f : Vec F S3x8x256x128 .f32} (hS : pS r h ⊆ S) :
    rPt c S f ⊢ iprop((rPt c S f -∗ WP c (k (slab f r h)) Q)
      -∗ WP c (.op (.load (Memref.whole cc0_scratch2) (Rect.unit (s := S3x8x256x128) off S1x1x256x128.size inb).toLoadRect hl) k) Q) := by
  subst e
  have hv : ((Memref.whole cc0_scratch2 : Memref sig .tc .vmem S3x8x256x128 .f32).access (rP r h)).read (Elt F) f = slab f r h :=
    funext fun x => congrArg f (rP_emb r h x)
  have hs : ((Memref.whole cc0_scratch2 : Memref sig .tc .vmem S3x8x256x128 .f32).access (rP r h)).set = pS r h :=
    (View.set_slice_whole _ _).trans (rP_set r h)
  rw [← hv]
  exact wp_load_rect 𝒱₀ (c : Thread nD τ) none Set.univ (m := Memref.whole cc0_scratch2) (r := rP r h) (hs ▸ hS)

/-- Loading one slot of the denominators computed here. -/
theorem load_l {α : Type} {Q : α → sProp 𝕄} {off : Fin 3 → ℕ} {inb : ∀ a, off a + S1x256x8.size a ≤ S4x256x8.size a} (r : Fin 4)
    (e : off = ![r.val, 0, 0])
    {hl : (Memref.whole cc0_scratch3 : Memref sig .tc .vmem S4x256x8 .f32).view.LoadsAt (Rect.unit (s := S4x256x8) off S1x256x8.size inb).toLoadRect}
    {k : Vec F S1x256x8 .f32 → Prog (TpuEff nD τ sig (Elt F) Λ₀ .tc) α} {S : Finset S4x256x8.Idx}
    {f : Vec F S4x256x8 .f32} (hS : lS r ⊆ S) :
    lPt c S f ⊢ iprop((lPt c S f -∗ WP c (k (lslab f r)) Q)
      -∗ WP c (.op (.load (Memref.whole cc0_scratch3) (Rect.unit (s := S4x256x8) off S1x256x8.size inb).toLoadRect hl) k) Q) := by
  subst e
  have hv : ((Memref.whole cc0_scratch3 : Memref sig .tc .vmem S4x256x8 .f32).access (rL r)).read (Elt F) f = lslab f r :=
    funext fun x => congrArg f (rL_emb r x)
  have hs : ((Memref.whole cc0_scratch3 : Memref sig .tc .vmem S4x256x8 .f32).access (rL r)).set = lS r :=
    (View.set_slice_whole _ _).trans (rL_set r)
  rw [← hv]
  exact wp_load_rect 𝒱₀ (c : Thread nD τ) none Set.univ (m := Memref.whole cc0_scratch3) (r := rL r) (hs ▸ hS)

/-- Loading one slot of the denominators received. -/
theorem load_lr {α : Type} {Q : α → sProp 𝕄} {off : Fin 3 → ℕ} {inb : ∀ a, off a + S1x256x8.size a ≤ S3x256x8.size a} (r : Fin 3)
    (e : off = ![r.val, 0, 0])
    {hl : (Memref.whole cc0_scratch4 : Memref sig .tc .vmem S3x256x8 .f32).view.LoadsAt (Rect.unit (s := S3x256x8) off S1x256x8.size inb).toLoadRect}
    {k : Vec F S1x256x8 .f32 → Prog (TpuEff nD τ sig (Elt F) Λ₀ .tc) α} {S : Finset S3x256x8.Idx}
    {f : Vec F S3x256x8 .f32} (hS : lS r ⊆ S) :
    lrPt c S f ⊢ iprop((lrPt c S f -∗ WP c (k (lslab f r)) Q)
      -∗ WP c (.op (.load (Memref.whole cc0_scratch4) (Rect.unit (s := S3x256x8) off S1x256x8.size inb).toLoadRect hl) k) Q) := by
  subst e
  have hv : ((Memref.whole cc0_scratch4 : Memref sig .tc .vmem S3x256x8 .f32).access (rL r)).read (Elt F) f = lslab f r :=
    funext fun x => congrArg f (rL_emb r x)
  have hs : ((Memref.whole cc0_scratch4 : Memref sig .tc .vmem S3x256x8 .f32).access (rL r)).set = lS r :=
    (View.set_slice_whole _ _).trans (rL_set r)
  rw [← hv]
  exact wp_load_rect 𝒱₀ (c : Thread nD τ) none Set.univ (m := Memref.whole cc0_scratch4) (r := rL r) (hs ▸ hS)

/-- Loading one head of the accumulator. -/
theorem load_o {α : Type} {Q : α → sProp 𝕄} {off : Fin 3 → ℕ} {inb : ∀ a, off a + S1x256x128.size a ≤ S8x256x128.size a} (h : Fin 8)
    (e : off = ![h.val, 0, 0])
    {hl : (Memref.whole cc0_stg3_0 : Memref sig .tc .vmem S8x256x128 .f32).view.LoadsAt (Rect.unit (s := S8x256x128) off S1x256x128.size inb).toLoadRect}
    {k : Vec F S1x256x128 .f32 → Prog (TpuEff nD τ sig (Elt F) Λ₀ .tc) α} {S : Finset S8x256x128.Idx}
    {f : Vec F S8x256x128 .f32} (hS : oS h ⊆ S) :
    oPt c S f ⊢ iprop((oPt c S f -∗ WP c (k (oslab f h)) Q)
      -∗ WP c (.op (.load (Memref.whole cc0_stg3_0) (Rect.unit (s := S8x256x128) off S1x256x128.size inb).toLoadRect hl) k) Q) := by
  subst e
  have hv : ((Memref.whole cc0_stg3_0 : Memref sig .tc .vmem S8x256x128 .f32).access (rO h)).read (Elt F) f = oslab f h :=
    funext fun x => congrArg f (rO_emb h x)
  have hs : ((Memref.whole cc0_stg3_0 : Memref sig .tc .vmem S8x256x128 .f32).access (rO h)).set = oS h :=
    (View.set_slice_whole _ _).trans (rO_set h)
  rw [← hv]
  exact wp_load_rect 𝒱₀ (c : Thread nD τ) none Set.univ (m := Memref.whole cc0_stg3_0) (r := rO h) (hs ▸ hS)

/-- Loading one head of the keys. -/
theorem load_k {α : Type} {Q : α → sProp 𝕄} {off : Fin 4 → ℕ} {inb : ∀ a, off a + S1x4096x1x128.size a ≤ S1x4096x8x128.size a} (h : Fin 8)
    (e : off = ![0, 0, h.val, 0])
    {hl : (Memref.whole cc0_stg1_0 : Memref sig .tc .vmem S1x4096x8x128 .f32).view.LoadsAt (Rect.unit (s := S1x4096x8x128) off S1x4096x1x128.size inb).toLoadRect}
    {k : Vec F S1x4096x1x128 .f32 → Prog (TpuEff nD τ sig (Elt F) Λ₀ .tc) α}
    {f : Vec F S1x4096x8x128 .f32} :
    ikPt c f ⊢ iprop((ikPt c f -∗ WP c (k (kHead f h)) Q)
      -∗ WP c (.op (.load (Memref.whole cc0_stg1_0) (Rect.unit (s := S1x4096x8x128) off S1x4096x1x128.size inb).toLoadRect hl) k) Q) := by
  subst e
  have hv : ((Memref.whole cc0_stg1_0 : Memref sig .tc .vmem S1x4096x8x128 .f32).access (rK h)).read (Elt F) f = kHead f h :=
    funext fun x => congrArg f (rK_emb h x)
  rw [← hv]
  exact wp_load_rect 𝒱₀ (c : Thread nD τ) none Set.univ (m := Memref.whole cc0_stg1_0) (r := rK h) (Finset.subset_univ _)

/-- Loading one head of the values. -/
theorem load_v {α : Type} {Q : α → sProp 𝕄} {off : Fin 4 → ℕ} {inb : ∀ a, off a + S1x4096x1x128.size a ≤ S1x4096x8x128.size a} (h : Fin 8)
    (e : off = ![0, 0, h.val, 0])
    {hl : (Memref.whole cc0_stg2_0 : Memref sig .tc .vmem S1x4096x8x128 .f32).view.LoadsAt (Rect.unit (s := S1x4096x8x128) off S1x4096x1x128.size inb).toLoadRect}
    {k : Vec F S1x4096x1x128 .f32 → Prog (TpuEff nD τ sig (Elt F) Λ₀ .tc) α}
    {f : Vec F S1x4096x8x128 .f32} :
    ivPt c f ⊢ iprop((ivPt c f -∗ WP c (k (kHead f h)) Q)
      -∗ WP c (.op (.load (Memref.whole cc0_stg2_0) (Rect.unit (s := S1x4096x8x128) off S1x4096x1x128.size inb).toLoadRect hl) k) Q) := by
  subst e
  have hv : ((Memref.whole cc0_stg2_0 : Memref sig .tc .vmem S1x4096x8x128 .f32).access (rK h)).read (Elt F) f = kHead f h :=
    funext fun x => congrArg f (rK_emb h x)
  rw [← hv]
  exact wp_load_rect 𝒱₀ (c : Thread nD τ) none Set.univ (m := Memref.whole cc0_stg2_0) (r := rK h) (Finset.subset_univ _)

/-- Loading all of the staged queries. -/
theorem load_iq {α : Type} {Q : α → sProp 𝕄} {off : Fin 3 → ℕ} {inb : ∀ a, off a + S8x256x128.size a ≤ S8x256x128.size a}
    (e : off = ![0, 0, 0])
    {hl : (Memref.whole cc0_stg0_0 : Memref sig .tc .vmem S8x256x128 .f32).view.LoadsAt (Rect.unit (s := S8x256x128) off S8x256x128.size inb).toLoadRect}
    {k : Vec F S8x256x128 .f32 → Prog (TpuEff nD τ sig (Elt F) Λ₀ .tc) α} {f : Vec F S8x256x128 .f32} :
    iqPt c f ⊢ iprop((iqPt c f -∗ WP c (k f) Q)
      -∗ WP c (.op (.load (Memref.whole cc0_stg0_0) (Rect.unit (s := S8x256x128) off S8x256x128.size inb).toLoadRect hl) k) Q) := by
  have hz : off = fun _ => 0 := by rw [e]; funext a; fin_cases a <;> rfl
  have hv : (Memref.whole cc0_stg0_0 : Memref sig .tc .vmem S8x256x128 .f32).view.readAt (Elt F) (Rect.unit (s := S8x256x128) off S8x256x128.size inb).toLoadRect f = f :=
    Memref.readAt_unit_zero (Elt F) cc0_stg0_0 hz _ _
  have hf := congrArg (fun y => iprop((iqPt c f -∗ WP c (k y) Q)
      -∗ WP c (.op (.load (Memref.whole cc0_stg0_0) (Rect.unit (s := S8x256x128) off S8x256x128.size inb).toLoadRect hl) k) Q)) hv
  refine BI.Entails.trans ?_ (Entails.of_eq hf)
  exact wp_load 𝒱₀ (c : Thread nD τ) none Set.univ (m := Memref.whole cc0_stg0_0) (Finset.subset_univ _)

/-- A slot of the query buffer, as a load of it reads it. -/
def qslot (f : Vec F S4x8x256x128 .f32) (r : Fin 4) : Vec F S1x8x256x128 .f32 := fun x => f (ix4 r (x 1) (x 2) (x 3))
/-- One head of the numerators to send, as a load of it through its slot reads it. -/
def pslot (f : Vec F S3x8x256x128 .f32) (r : Fin 3) (h : Fin 8) : Vec F S1x256x128 .f32 := fun x => f (ix4 r h (x 1) (x 2))

/-- Loading, for nothing, a slot of the query buffer. -/
theorem load_q_slot {α : Type} {Q : α → sProp 𝕄} {off : Fin 4 → ℕ} {inb : ∀ a, off a + S1x8x256x128.size a ≤ S4x8x256x128.size a} (r : Fin 4)
    (e : off = ![r.val, 0, 0, 0])
    {hl : (Memref.whole cc0_scratch0 : Memref sig .tc .vmem S4x8x256x128 .f32).view.LoadsAt (Rect.unit (s := S4x8x256x128) off S1x8x256x128.size inb).toLoadRect}
    {k : Vec F S1x8x256x128 .f32 → Prog (TpuEff nD τ sig (Elt F) Λ₀ .tc) α} {f : Vec F S4x8x256x128 .f32} :
    qPt c (qS r) fullShare f ⊢ iprop((qPt c (qS r) fullShare f -∗ WP c (k (qslot f r)) Q)
      -∗ WP c (.op (.load (Memref.whole cc0_scratch0) (Rect.unit (s := S4x8x256x128) off S1x8x256x128.size inb).toLoadRect hl) k) Q) := by
  subst e
  have hv : ((Memref.whole cc0_scratch0 : Memref sig .tc .vmem S4x8x256x128 .f32).access (rQ r)).read (Elt F) f = qslot f r :=
    funext fun x => congrArg f (rQ_emb r x)
  have hs : ((Memref.whole cc0_scratch0 : Memref sig .tc .vmem S4x8x256x128 .f32).access (rQ r)).set = qS r :=
    (View.set_slice_whole _ _).trans (rQ_set r)
  rw [← hv]
  exact wp_load_rect 𝒱₀ (c : Thread nD τ) none Set.univ (m := Memref.whole cc0_scratch0) (r := rQ r) (hs ▸ Finset.Subset.refl _)

/-- Loading, for nothing, one head of a slot of the numerators to send. -/
theorem load_s {α : Type} {Q : α → sProp 𝕄} {off : Fin 3 → ℕ} {inb : ∀ a, off a + S1x256x128.size a ≤ S8x256x128.size a} (r : Fin 3) (h : Fin 8)
    (e : off = ![h.val, 0, 0]) {m : Memref sig .tc .vmem S8x256x128 .f32} (hm : m = slM r)
    {hl : m.view.LoadsAt (Rect.unit (s := S8x256x128) off S1x256x128.size inb).toLoadRect}
    {k : Vec F S1x256x128 .f32 → Prog (TpuEff nD τ sig (Elt F) Λ₀ .tc) α} {f : Vec F S3x8x256x128 .f32} :
    sPt c (pS r h) f ⊢ iprop((sPt c (pS r h) f -∗ WP c (k (pslot f r h)) Q)
      -∗ WP c (.op (.load m (Rect.unit (s := S8x256x128) off S1x256x128.size inb).toLoadRect hl) k) Q) := by
  subst e hm
  have hv : ((slM r).access (rO h)).read (Elt F) f = pslot f r h :=
    funext fun x => congrArg f (slM_emb r h x)
  rw [← hv]
  exact wp_load_rect 𝒱₀ (c : Thread nD τ) none Set.univ (m := slM r) (r := rO h) (slM_set r h ▸ Finset.Subset.refl _)

end Loads

section Stores

variable (c : Dev nD)

/-- Storing queries into a slot of the query buffer. -/
theorem store_q {α : Type} {Q : α → sProp 𝕄} {off : Fin 4 → ℕ} {inb : ∀ a, off a + S1x8x256x128.size a ≤ S4x8x256x128.size a} (r : Fin 4)
    (e : off = ![r.val, 0, 0, 0]) {w : Vec F S1x8x256x128 .f32}
    {hx : ((Memref.whole cc0_scratch0 : Memref sig .tc .vmem S4x8x256x128 .f32).access (Rect.unit (s := S4x8x256x128) off S1x8x256x128.size inb)).Stores Finset.univ}
    {hm} {k : PUnit → Prog (TpuEff nD τ sig (Elt F) Λ₀ .tc) α} {f g : Vec F S4x8x256x128 .f32}
    (hg : ∀ i ∈ qS r, g i = w (ix4 (0 : Fin 1) (i 1) (i 2) (i 3))) :
    qPt c (qS r) fullShare f ⊢ iprop((qPt c (qS r) fullShare g -∗ WP c (k ⟨⟩) Q)
      -∗ WP c (.op (.store (Memref.whole cc0_scratch0) (Rect.unit (s := S4x8x256x128) off S1x8x256x128.size inb) w Finset.univ hx hm) k) Q) := by
  subst e
  have hs : ((Memref.whole cc0_scratch0 : Memref sig .tc .vmem S4x8x256x128 .f32).access (rQ r)).set = qS r :=
    (View.set_slice_whole _ _).trans (rQ_set r)
  have hc : qPt c (qS r) fullShare g = qPt c (qS r) fullShare
      (((Memref.whole cc0_scratch0 : Memref sig .tc .vmem S4x8x256x128 .f32).access (rQ r)).write (Elt F) f w Finset.univ) :=
    pointsTo_congr fun i hi => by
      have hi' : ((Memref.whole cc0_scratch0 : Memref sig .tc .vmem S4x8x256x128 .f32).access (rQ r)).emb (ix4 (0 : Fin 1) (i 1) (i 2) (i 3)) = i :=
        (rQ_emb r _).trans (ext4 (mem_qS.mp hi).symm rfl rfl rfl)
      refine (hg i hi).trans ?_
      exact (View.write_emb_of_mem (v := (Memref.whole cc0_scratch0 : Memref sig .tc .vmem S4x8x256x128 .f32).access (rQ r)) (Val := Elt F) f w (Finset.mem_univ (ix4 (0 : Fin 1) (i 1) (i 2) (i 3)))).symm.trans (congrArg _ hi')
  rw [hc]
  exact wp_store 𝒱₀ (c : Thread nD τ) none Set.univ (m := Memref.whole cc0_scratch0) (r := rQ r) (hs ▸ Finset.Subset.refl _)

/-- Storing a slot of denominators. -/
theorem store_l {α : Type} {Q : α → sProp 𝕄} {off : Fin 3 → ℕ} {inb : ∀ a, off a + S1x256x8.size a ≤ S4x256x8.size a} (r : Fin 4)
    (e : off = ![r.val, 0, 0]) {w : Vec F S1x256x8 .f32}
    {hx : ((Memref.whole cc0_scratch3 : Memref sig .tc .vmem S4x256x8 .f32).access (Rect.unit (s := S4x256x8) off S1x256x8.size inb)).Stores Finset.univ}
    {hm} {k : PUnit → Prog (TpuEff nD τ sig (Elt F) Λ₀ .tc) α} {f : Vec F S4x256x8 .f32} :
    lPt c (lS r) f ⊢ iprop((lPt c (lS r) (fun i => w (ix3 (0 : Fin 1) (i 1) (i 2))) -∗ WP c (k ⟨⟩) Q)
      -∗ WP c (.op (.store (Memref.whole cc0_scratch3) (Rect.unit (s := S4x256x8) off S1x256x8.size inb) w Finset.univ hx hm) k) Q) := by
  subst e
  have hs : ((Memref.whole cc0_scratch3 : Memref sig .tc .vmem S4x256x8 .f32).access (rL r)).set = lS r :=
    (View.set_slice_whole _ _).trans (rL_set r)
  have hc : lPt c (lS r) (fun i => w (ix3 (0 : Fin 1) (i 1) (i 2))) = lPt c (lS r)
      (((Memref.whole cc0_scratch3 : Memref sig .tc .vmem S4x256x8 .f32).access (rL r)).write (Elt F) f w Finset.univ) :=
    pointsTo_congr fun i hi => by
      have hi' : ((Memref.whole cc0_scratch3 : Memref sig .tc .vmem S4x256x8 .f32).access (rL r)).emb (ix3 (0 : Fin 1) (i 1) (i 2)) = i :=
        (rL_emb r _).trans (Shape.idx3_ext (mem_lS.mp hi).symm rfl rfl)
      exact (View.write_emb_of_mem (v := (Memref.whole cc0_scratch3 : Memref sig .tc .vmem S4x256x8 .f32).access (rL r)) (Val := Elt F) f w (Finset.mem_univ (ix3 (0 : Fin 1) (i 1) (i 2)))).symm.trans (congrArg _ hi')
  rw [hc]
  exact wp_store 𝒱₀ (c : Thread nD τ) none Set.univ (m := Memref.whole cc0_scratch3) (r := rL r) (hs ▸ Finset.Subset.refl _)

/-- Storing one head of the accumulator: the other heads keep what they held. -/
theorem store_o {α : Type} {Q : α → sProp 𝕄} {off : Fin 3 → ℕ} {inb : ∀ a, off a + S1x256x128.size a ≤ S8x256x128.size a} (h : Fin 8)
    (e : off = ![h.val, 0, 0]) {w : Vec F S1x256x128 .f32}
    {hx : ((Memref.whole cc0_stg3_0 : Memref sig .tc .vmem S8x256x128 .f32).access (Rect.unit (s := S8x256x128) off S1x256x128.size inb)).Stores Finset.univ}
    {hm} {k : PUnit → Prog (TpuEff nD τ sig (Elt F) Λ₀ .tc) α} {f g : Vec F S8x256x128 .f32}
    (hin : ∀ i, (i 0).val = h.val → g i = w (ix3 (0 : Fin 1) (i 1) (i 2))) (hout : ∀ i, (i 0).val ≠ h.val → g i = f i) :
    oPt c Finset.univ f ⊢ iprop((oPt c Finset.univ g -∗ WP c (k ⟨⟩) Q)
      -∗ WP c (.op (.store (Memref.whole cc0_stg3_0) (Rect.unit (s := S8x256x128) off S1x256x128.size inb) w Finset.univ hx hm) k) Q) := by
  subst e
  have hs : ((Memref.whole cc0_stg3_0 : Memref sig .tc .vmem S8x256x128 .f32).access (rO h)).set = oS h :=
    (View.set_slice_whole _ _).trans (rO_set h)
  have hc : oPt c Finset.univ g = oPt c Finset.univ
      (((Memref.whole cc0_stg3_0 : Memref sig .tc .vmem S8x256x128 .f32).access (rO h)).write (Elt F) f w Finset.univ) :=
    pointsTo_congr fun i _ => by
      by_cases hi : (i 0).val = h.val
      · have hi' : ((Memref.whole cc0_stg3_0 : Memref sig .tc .vmem S8x256x128 .f32).access (rO h)).emb (ix3 (0 : Fin 1) (i 1) (i 2)) = i :=
          (rO_emb h _).trans (Shape.idx3_ext hi.symm rfl rfl)
        refine (hin i hi).trans ?_
        exact (View.write_emb_of_mem (v := (Memref.whole cc0_stg3_0 : Memref sig .tc .vmem S8x256x128 .f32).access (rO h)) (Val := Elt F) f w (Finset.mem_univ (ix3 (0 : Fin 1) (i 1) (i 2)))).symm.trans (congrArg _ hi')
      · refine (hout i hi).trans (View.write_of_not_mem (v := (Memref.whole cc0_stg3_0 : Memref sig .tc .vmem S8x256x128 .f32).access (rO h)) (Val := Elt F) f w Finset.univ ?_).symm
        rw [View.setOn_univ, hs]
        exact fun hh => hi (mem_oS.mp hh)
  rw [hc]
  exact wp_store 𝒱₀ (c : Thread nD τ) none Set.univ (m := Memref.whole cc0_stg3_0) (r := rO h) (Finset.subset_univ _)

/-- Storing one head of a slot of the numerators to send. -/
theorem store_s {α : Type} {Q : α → sProp 𝕄} {off : Fin 3 → ℕ} {inb : ∀ a, off a + S1x256x128.size a ≤ S8x256x128.size a} (r : Fin 3) (h : Fin 8)
    (e : off = ![h.val, 0, 0]) {m : Memref sig .tc .vmem S8x256x128 .f32} (hmr : m = slM r) {w : Vec F S1x256x128 .f32}
    {hx : (m.access (Rect.unit (s := S8x256x128) off S1x256x128.size inb)).Stores Finset.univ}
    {hm} {k : PUnit → Prog (TpuEff nD τ sig (Elt F) Λ₀ .tc) α} {f g : Vec F S3x8x256x128 .f32}
    (hg : ∀ x : S1x256x128.Idx, g (ix4 r h (x 1) (x 2)) = w x) :
    sPt c (pS r h) f ⊢ iprop((sPt c (pS r h) g -∗ WP c (k ⟨⟩) Q)
      -∗ WP c (.op (.store m (Rect.unit (s := S8x256x128) off S1x256x128.size inb) w Finset.univ hx hm) k) Q) := by
  subst e hmr
  have hc : sPt c (pS r h) g = sPt c (pS r h) (((slM r).access (rO h)).write (Elt F) f w Finset.univ) :=
    pointsTo_congr fun i hi => by
      have hm' := mem_pS.mp hi
      have hi' : ((slM r).access (rO h)).emb (ix3 (0 : Fin 1) (i 2) (i 3)) = i :=
        (slM_emb r h _).trans (ext4 hm'.1.symm hm'.2.symm rfl rfl)
      have hi2 : (ix4 r h (i 2) (i 3) : S3x8x256x128.Idx) = i := ext4 hm'.1.symm hm'.2.symm rfl rfl
      refine ((congrArg g hi2).symm.trans (hg (ix3 (0 : Fin 1) (i 2) (i 3)))).trans ?_
      exact (View.write_emb_of_mem (v := (slM r).access (rO h)) (Val := Elt F) f w (Finset.mem_univ (ix3 (0 : Fin 1) (i 2) (i 3)))).symm.trans (congrArg _ hi')
  rw [hc]
  exact wp_store 𝒱₀ (c : Thread nD τ) none Set.univ (m := slM r) (r := rO h) (slM_set r h ▸ Finset.Subset.refl _)

end Stores

end Cert.Proof.Ring

end
-- ==== Proof.Talk.lean ====
/- One rule per kind of signal, copy and wait of the kernel: what a device gives, and what it holds afterwards. -/
module

public import proofs.«01_k».proof.Proof.Steps

@[expose] public section

noncomputable section

namespace Cert.Proof.Ring

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The places and the semaphores, from their offsets -/

/-- A head of a slot of the numerators to send, named by its offset. -/
theorem sM_off {off : Fin 4 → ℕ} {inb : ∀ a, off a + S1x1x256x128.size a ≤ S3x8x256x128.size a} (r : Fin 3) (h : Fin 8)
    (e : off = ![r.val, h.val, 0, 0]) :
    (((Memref.whole cc0_scratch1).slice (Rect.unit (s := S3x8x256x128) off S1x1x256x128.size inb) (fun _ => rfl)).squeeze S256x128
      Gen.squeezes_S1x1x256x128_S256x128 : Memref sig .tc .vmem S256x128 .f32) = sM r h := by
  subst e; rfl

/-- A head of a slot of the received numerators, named by its offset. -/
theorem rM_off {off : Fin 4 → ℕ} {inb : ∀ a, off a + S1x1x256x128.size a ≤ S3x8x256x128.size a} (r : Fin 3) (h : Fin 8)
    (e : off = ![r.val, h.val, 0, 0]) :
    (((Memref.whole cc0_scratch2).slice (Rect.unit (s := S3x8x256x128) off S1x1x256x128.size inb) (fun _ => rfl)).squeeze S256x128
      Gen.squeezes_S1x1x256x128_S256x128 : Memref sig .tc .vmem S256x128 .f32) = rM r h := by
  subst e; rfl

/-- A send semaphore of the numerators, named by its offset. -/
theorem ps_off {off : Fin 2 → ℕ} {inb : ∀ a, off a + S1x1.size a ≤ S3x8.size a} (r : Fin 3) (h : Fin 8) (e : off = ![r.val, h.val]) :
    ((cc0_scratch7.slice (Rect.unit (s := S3x8) off S1x1.size inb)).squeeze S_ Gen.squeezes_S1x1_S_ : DmaSems sig S_).sem = (Key.ps r h).sem := by
  subst e
  revert r h
  decide

/-- A receive semaphore of the numerators, named by its offset. -/
theorem pr_off {off : Fin 2 → ℕ} {inb : ∀ a, off a + S1x1.size a ≤ S3x8.size a} (r : Fin 3) (h : Fin 8) (e : off = ![r.val, h.val]) :
    ((cc0_scratch8.slice (Rect.unit (s := S3x8) off S1x1.size inb)).squeeze S_ Gen.squeezes_S1x1_S_ : DmaSems sig S_).sem = (Key.pr r h).sem := by
  subst e
  revert r h
  decide

/-! ## The invariants of all cells -/

/-- A device's cell: the barrier's, or a copy semaphore's. -/
abbrev cellAt (p : Dev nD × Option Key) : GSem nD τ sig :=
  match p.2 with
  | none => barCell p.1
  | some k => cell p.1 k

variable (det : Bool) (X : Inputs F)

/-- The invariants of all cells, at the names they were allocated at. -/
def invs (K : GSem nD τ sig → ℕ) : sProp 𝕄 :=
  bigSep Finset.univ fun p : Dev nD × Option Key => cellInv ER (ringRd det X) (K (cellAt p)) (cellAt p)

/-- The invariants may be consulted as often as needed. -/
instance invs_persistent (K : GSem nD τ sig → ℕ) : BI.Persistent (invs det X K) := by unfold invs; infer_instance

variable (K : GSem nD τ sig → ℕ)

/-- The invariant of a barrier's cell is among them. -/
theorem inv_bar (c : Dev nD) : invs det X K ⊢ (cellInv ER (ringRd det X) (K (barCell c)) (barCell c) : sProp 𝕄) :=
  bigSep_elim (Finset.mem_univ ((c, none) : Dev nD × Option Key))

/-- The invariant of a copy's cell is among them. -/
theorem inv_key (c : Dev nD) (k : Key) : invs det X K ⊢ (cellInv ER (ringRd det X) (K (cell c k)) (cell c k) : sProp 𝕄) :=
  bigSep_elim (Finset.mem_univ ((c, some k) : Dev nD × Option Key))

/-- What a device owes, whatever waits it has begun. -/
abbrev ow (c : Dev nD) (O : CellTallies nD τ sig Unit) : sProp 𝕄 := iprop(∃ W, owes (c : Thread nD τ) O W)

/-! ## Waits -/

/-- Waiting on a copy semaphore of this device: what its copy handed over, and its counter back at zero. -/
theorem wait_key {α : Type} {Q : α → sProp 𝕄} (c : Dev nD) (key : Key) {s : DmaSem sig} (hs : s = key.sem) {sp sp' : Space} {s₁ s₂ : Shape} {e₁ e₂ : EltTy}
    {src : Memref sig .tc sp s₁ e₁} {dst : Memref sig .tc sp' s₂ e₂} {hsrc : src.view.WordExact} {hdst : dst.view.WordExact}
    (hN : dst.view.dmaCredit = key.units) {O : CellTallies nD τ sig Unit} {n : ℕ} (hO : Above n O) (hn : key.level ≤ n)
    {k : PUnit → Prog (TpuEff nD τ sig (Elt F) Λ₀ .tc) α} :
    iprop(invs det X K ∗ levAts L lv ∗ cred (tallyAt (cell c key) () key.units) ∗ atPos ER (cell c key) 0 ∅ 0 ∗ ow c O)
      ⊢ iprop(((ow c O ∗ semVal (cell c key) 0 ∗ keyPay det X c key) -∗ WP c (k ⟨⟩) Q)
          -∗ WP c (.op (.waitDma2 s src dst hsrc hdst) k) Q) := by
  subst hs
  iintro ⟨#HI, #Hlev, Hc, Hat, ⟨%W, HO⟩⟩ Hk
  ihave #HIk := (inv_key det X K c key) $$ HI
  iapply (Rounds.wp_wait_rest_token 𝒱₀ ER (ringRd det X) (c : Thread nD τ) none (κ := K (cell c key))
      (wpE_waitDma2_eq 𝒱₀ (c : Thread nD τ) none Set.univ) (Set.mem_univ _) () (O := O) (W := W) (R := 0) (m := 0) (T := ∅)
      (by rw [Nat.zero_add, hN]; exact (expect_key det X c key).symm)) $$ [Hc HO Hat]
  · isplitr; · iexact HIk
    isplitl [Hc]
    · rw [hN]; iexact Hc
    isplitl [HO]; · iexact HO
    isplitr
    · iapply (hO.mayWait c key.loc (by rw [lv_key c key]; exact hn)); iexact Hlev
    iexact Hat
  iintro ⟨HO, Hat, -, Hpay⟩
  ihave Hp := (Entails.of_eq (rest_key det X c key)) $$ Hpay
  imod (Rounds.cell_close ER (ringRd det X) (Set.mem_univ (K (cell c key))) (fun h => h) (R := 0 + 1) (duties_later det X (cell c key))) $$ [Hat] with Hv
  · isplitr; · iexact HIk
    iexact Hat
  iapply Hk
  isplitl [HO]; · iexists _; iexact HO
  isplitl [Hv]; · iexact Hv
  iexact Hp

/-- Waiting on this device's barrier cell for its three units, owing everything above its level. -/
theorem wait_bar {α : Type} {Q : α → sProp 𝕄} (c : Dev nD) {O : CellTallies nD τ sig Unit} (hO : Above 1 O)
    {k : PUnit → Prog (TpuEff nD τ sig (Elt F) Λ₀ .tc) α} :
    iprop(invs det X K ∗ levAts L lv ∗ cred (tallyAt (barCell c) () 3) ∗ atPos ER (barCell c) 0 ∅ 0 ∗ ow c O)
      ⊢ iprop(((ow c O ∗ semVal (barCell c) 0 ∗ barPay c 0 ∗ barPay c 1 ∗ barPay c 2) -∗ WP c (k ⟨⟩) Q)
          -∗ WP c (.op (.semWait barS 3) k) Q) := by
  iintro ⟨#HI, #Hlev, Hc, Hat, ⟨%W, HO⟩⟩ Hk
  ihave #HIk := (inv_bar det X K c) $$ HI
  iapply (Rounds.wp_wait_rest_token 𝒱₀ ER (ringRd det X) (c : Thread nD τ) none (κ := K (barCell c))
      (wpE_semWait_eq 𝒱₀ (c : Thread nD τ) none Set.univ) (Set.mem_univ _) () (O := O) (W := W) (R := 0) (m := 0) (T := ∅)
      (by rw [Nat.zero_add]; exact (expect_bar det X c).symm)) $$ [Hc HO Hat]
  · isplitr; · iexact HIk
    isplitl [Hc]; · iexact Hc
    isplitl [HO]; · iexact HO
    isplitr
    · iapply (hO.mayWait c (.reg barS) (le_of_eq (lv_bar c ()))); iexact Hlev
    iexact Hat
  iintro ⟨HO, Hat, -, Hpay⟩
  ihave Hp := (Entails.of_eq (rest_bar det X c)) $$ Hpay
  imod (Rounds.cell_close ER (ringRd det X) (Set.mem_univ (K (barCell c))) (fun h => h) (R := 0 + 1) (duties_later det X (barCell c))) $$ [Hat] with Hv
  · isplitr; · iexact HIk
    iexact Hat
  iapply Hk
  isplitl [HO]; · iexists _; iexact HO
  isplitl [Hv]; · iexact Hv
  iexact Hp

/-! ## Signals -/

/-- `d + 1` places forward and as many back is where one was. -/
theorem fwd_back (c : Dev nD) (d : Fin 3) : c + d.succ - d.succ = c := by revert c d; decide

/-- Signalling the device `d + 1` places after. -/
theorem signal_bar {α : Type} {Q : α → sProp 𝕄} (c n : Dev nD) (d : Fin 3) (hn : n = c + d.succ) (O : CellTallies nD τ sig Unit)
    {k : PUnit → Prog (TpuEff nD τ sig (Elt F) Λ₀ .tc) α} :
    iprop(invs det X K ∗ reached ER (barCell (c + d.succ)) 0 ∗ dutyTok ER (barCell (c + d.succ)) 0 d ∗ barPay (c + d.succ) d ∗ ow c (O + oB c d))
      ⊢ iprop((ow c O -∗ WP c (k ⟨⟩) Q)
          -∗ WP c (.op (.semSignal (n : Thread nD τ) barS 1) k) Q) := by
  subst hn
  iintro ⟨#HI, #Hr, Ht, Hp, ⟨%W, HO⟩⟩ Hk
  ihave #HIk := (inv_bar det X K (c + d.succ)) $$ HI
  iapply (Rounds.wp_signal 𝒱₀ ER (ringRd det X) (c : Thread nD τ) none (dst := (c + d.succ : Dev nD)) (sem := barS) (r := 0) (d := d)
      (κ := K (barCell (c + d.succ))) (by rw [duties_bar]; exact Finset.mem_univ _) (amount_bar det X (c + d.succ) d) () O rfl (W := W))
    $$ [HO Ht Hp]
  · isplitr; · iexact HIk
    isplitl [HO]; · iexact HO
    isplitl [Ht]; · iexact Ht
    isplitl [Hp]; · rw [payload_bar]; iexact Hp
    iexact Hr
  iintro HO
  iapply Hk
  iexists W; iexact HO

/-! ## Copies -/

/-- The queries land in the right neighbour's next slot as that slot is to hold them. -/
theorem landed_q (c : Dev nD) (r : Fin 3) (fd : Vec F S4x8x256x128 .f32) :
    ∀ i ∈ (qS r.succ : Finset S4x8x256x128.Idx),
      (qM r.succ).view.write (Elt F) fd ((qM r.castSucc).view.read (Elt F) (QB X c)) Finset.univ i = QB X (c + 1) i := by
  intro i hi
  have hi' : (qM r.succ).view.emb (ix3 (i 1) (i 2) (i 3)) = i := (qM_emb r.succ (ix3 (i 1) (i 2) (i 3))).trans (ext4 (mem_qS.mp hi).symm rfl rfl rfl)
  refine (congrArg _ hi'.symm).trans ((View.write_emb_of_mem (v := (qM r.succ).view) (Val := Elt F) fd _ (Finset.mem_univ (ix3 (i 1) (i 2) (i 3)))).trans ?_)
  refine (congrArg (QB X c) (qM_emb r.castSucc (ix3 (i 1) (i 2) (i 3)))).trans ?_
  refine (QB_next X c r (i 1) (i 2) (i 3)).symm.trans (congrArg (QB X (c + 1)) ?_)
  exact ext4 (mem_qS.mp hi).symm rfl rfl rfl

/-- A head's numerators land as the device they are for is to hold them. -/
theorem landed_p (c : Dev nD) (r : Fin 3) (h : Fin 8) (fd : Vec F S3x8x256x128 .f32) :
    ∀ i ∈ (pS r h : Finset S3x8x256x128.Idx),
      (rM r h).view.write (Elt F) fd ((sM r h).view.read (Elt F) (PS X c)) Finset.univ i = PR X (c - r.succ) i := by
  intro i hi
  have hi' : (rM r h).view.emb (ix2 (i 2) (i 3)) = i := (rM_emb r h (ix2 (i 2) (i 3))).trans (ext4 (mem_pS.mp hi).1.symm (mem_pS.mp hi).2.symm rfl rfl)
  refine (congrArg _ hi'.symm).trans ((View.write_emb_of_mem (v := (rM r h).view) (Val := Elt F) fd _ (Finset.mem_univ (ix2 (i 2) (i 3)))).trans ?_)
  refine (congrArg (PS X c) (sM_emb r h (ix2 (i 2) (i 3)))).trans ?_
  refine (PR_at X c r h (i 2) (i 3)).symm.trans (congrArg (PR X (c - r.succ)) ?_)
  exact ext4 (mem_pS.mp hi).1.symm (mem_pS.mp hi).2.symm rfl rfl

/-- Denominators that are as they are to be land so. -/
theorem landed_l (c : Dev nD) (r : Fin 3) (fs : Vec F S4x256x8 .f32) (fd : Vec F S3x256x8 .f32)
    (hf : ∀ i ∈ (lS r.succ : Finset S4x256x8.Idx), fs i = LS X c i) :
    ∀ i ∈ (lS r : Finset S3x256x8.Idx),
      (lrM r).view.write (Elt F) fd ((lM r.succ).view.read (Elt F) fs) Finset.univ i = LR X (c - r.succ) i := by
  intro i hi
  have hi' : (lrM r).view.emb (ix2 (i 1) (i 2)) = i := (lrM_emb r (ix2 (i 1) (i 2))).trans (Shape.idx3_ext (mem_lS.mp hi).symm rfl rfl)
  refine (congrArg _ hi'.symm).trans ((View.write_emb_of_mem (v := (lrM r).view) (Val := Elt F) fd _ (Finset.mem_univ (ix2 (i 1) (i 2)))).trans ?_)
  refine (congrArg fs (lM_emb r.succ (ix2 (i 1) (i 2)))).trans ?_
  refine (hf _ (mem_lS.mpr rfl)).trans ?_
  refine (LR_at X c r (i 1) (i 2)).symm.trans (congrArg (LR X (c - r.succ)) ?_)
  exact Shape.idx3_ext (mem_lS.mp hi).symm rfl rfl

/-- A copy's cell has the duty 0 in its round. -/
theorem zero_mem_key (c : Dev nD) (k : Key) : (0 : Fin 3) ∈ (ringRd det X).duties (cell c k) 0 := by
  rw [duties_key]; exact Finset.mem_singleton_self _

/-- Sending a slot of queries to the right neighbour's next slot. -/
theorem send_q {α : Type} {Q : α → sProp 𝕄} (c n : Dev nD) (r : Fin 3) (hn : n = c + 1)
    {src dst : Memref sig .tc .vmem S8x256x128 .f32} (hms : src = qM r.castSucc) (hmd : dst = qM r.succ)
    {s₁ s₂ : DmaSem sig} (h₁ : s₁ = (Key.qs r).sem) (h₂ : s₂ = (Key.qr r).sem)
    {hsc : (dst : Memref sig (Dev.tc n : Thread nD τ).2.kind .vmem S8x256x128 .f32).view.ref.isScScratch = false}
    {hsrc : src.view.WordExact} {hdst : dst.view.WordExact}
    {hsem : DmaTarget.Typed .vmem (.dma s₂) (.remote (Dev.tc n : Thread nD τ) (dst : Memref sig .tc .vmem S8x256x128 .f32) (.dma s₁) hsc)}
    {k : PUnit → Prog (TpuEff nD τ sig (Elt F) Λ₀ .tc) α} (O : CellTallies nD τ sig Unit) :
    iprop(invs det X K ∗ qPt c (qS r.castSucc) fullShare.left (QB X c) ∗ (∃ f, qPt (c + 1) (qS r.succ) fullShare f)
        ∗ dutyTok ER (cell c (.qs r)) 0 0 ∗ reached ER (cell c (.qs r)) 0
        ∗ dutyTok ER (cell (c + 1) (.qr r)) 0 0 ∗ reached ER (cell (c + 1) (.qr r)) 0 ∗ ow c (O + oQ c r))
      ⊢ iprop(((cred (tallyAt (cell c (.qs r)) () Nq) ∗ ow c O) -∗ WP c (k ⟨⟩) Q)
          -∗ WP c (.op (.enqueueDma src (.remote (Dev.tc n : Thread nD τ) dst (.dma s₁) hsc) (.dma s₂) hsrc hdst hsem) k) Q) := by
  subst hn hms hmd h₁ h₂
  iintro ⟨#HI, Hs, ⟨%fd, Hd⟩, Ht₁, #Hr₁, Ht₂, #Hr₂, ⟨%W, HO⟩⟩ Hk
  ihave #HI₁ := (inv_key det X K c (.qs r)) $$ HI
  ihave #HI₂ := (inv_key det X K (c + 1) (.qr r)) $$ HI
  iapply (Rounds.wp_send_pointsTo 𝒱₀ ER (ringRd det X) (c : Thread nD τ) none (c' := ((c + 1 : Dev nD) : Thread nD τ)) (src := qM r.castSucc) (dst := qM r.succ)
      (sS := .dma (Key.qs r).sem) (sem := .dma (Key.qr r).sem) (q := fullShare.left) (fs := QB X c) (κ₁ := K (cell c (.qs r))) (κ₂ := K (cell (c + 1) (.qr r)))
      (r₁ := 0) (r₂ := 0) (d₁ := 0) (d₂ := 0) (fd := fd) (zero_mem_key det X c (.qs r)) (zero_mem_key det X (c + 1) (.qr r))
      () () Nq rfl (amount_key det X c (.qs r) 0) (amount_key det X (c + 1) (.qr r) 0) O rfl (W := W)
      (by rw [show (ringRd det X).payload ((c : Thread nD τ), .dma (Key.qs r).sem) 0 0 = keyPay det X c (.qs r) from payload_key det X c (.qs r) 0, qM_set]
          exact BI.Entails.refl _)
      (by rw [show (ringRd det X).payload (((c + 1 : Dev nD) : Thread nD τ), .dma (Key.qr r).sem) 0 0 = keyPay det X (c + 1) (.qr r) from payload_key det X (c + 1) (.qr r) 0, qM_set]
          exact Entails.of_eq (pointsTo_congr (landed_q X c r fd)))) $$ [Hs Hd HO Ht₁ Ht₂]
  · isplitr; · iexact HI₁
    isplitr; · iexact HI₂
    isplitl [Hs]; · rw [qM_set]; iexact Hs
    isplitl [Hd]; · rw [qM_set]; iexact Hd
    isplitl [HO]; · iexact HO
    isplitl [Ht₁]; · iexact Ht₁
    isplitr; · iexact Hr₁
    isplitl [Ht₂]; · iexact Ht₂
    iexact Hr₂
  iintro ⟨Hc, HO⟩
  iapply Hk
  isplitl [Hc]; · iexact Hc
  iexists W; iexact HO

/-- Sending one head's numerators to the device `r + 1` places before. -/
theorem send_p {α : Type} {Q : α → sProp 𝕄} (c n : Dev nD) (r : Fin 3) (h : Fin 8) (hn : n = c - r.succ)
    {src dst : Memref sig .tc .vmem S256x128 .f32} (hms : src = sM r h) (hmd : dst = rM r h)
    {s₁ s₂ : DmaSem sig} (h₁ : s₁ = (Key.ps r h).sem) (h₂ : s₂ = (Key.pr r h).sem)
    {hsc : (dst : Memref sig (Dev.tc n : Thread nD τ).2.kind .vmem S256x128 .f32).view.ref.isScScratch = false}
    {hsrc : src.view.WordExact} {hdst : dst.view.WordExact}
    {hsem : DmaTarget.Typed .vmem (.dma s₂) (.remote (Dev.tc n : Thread nD τ) (dst : Memref sig .tc .vmem S256x128 .f32) (.dma s₁) hsc)}
    {k : PUnit → Prog (TpuEff nD τ sig (Elt F) Λ₀ .tc) α} (O : CellTallies nD τ sig Unit) :
    iprop(invs det X K ∗ sPt c (pS r h) (PS X c) ∗ (∃ f, rPt (c - r.succ) (pS r h) f)
        ∗ dutyTok ER (cell c (.ps r h)) 0 0 ∗ reached ER (cell c (.ps r h)) 0
        ∗ dutyTok ER (cell (c - r.succ) (.pr r h)) 0 0 ∗ reached ER (cell (c - r.succ) (.pr r h)) 0 ∗ ow c (O + oP c r h))
      ⊢ iprop(((cred (tallyAt (cell c (.ps r h)) () Np) ∗ ow c O) -∗ WP c (k ⟨⟩) Q)
          -∗ WP c (.op (.enqueueDma src (.remote (Dev.tc n : Thread nD τ) dst (.dma s₁) hsc) (.dma s₂) hsrc hdst hsem) k) Q) := by
  subst hn hms hmd h₁ h₂
  iintro ⟨#HI, Hs, ⟨%fd, Hd⟩, Ht₁, #Hr₁, Ht₂, #Hr₂, ⟨%W, HO⟩⟩ Hk
  ihave #HI₁ := (inv_key det X K c (.ps r h)) $$ HI
  ihave #HI₂ := (inv_key det X K (c - r.succ) (.pr r h)) $$ HI
  iapply (Rounds.wp_send_pointsTo 𝒱₀ ER (ringRd det X) (c : Thread nD τ) none (c' := ((c - r.succ : Dev nD) : Thread nD τ)) (src := sM r h) (dst := rM r h)
      (sS := .dma (Key.ps r h).sem) (sem := .dma (Key.pr r h).sem) (q := fullShare) (fs := PS X c) (κ₁ := K (cell c (.ps r h))) (κ₂ := K (cell (c - r.succ) (.pr r h)))
      (r₁ := 0) (r₂ := 0) (d₁ := 0) (d₂ := 0) (fd := fd) (zero_mem_key det X c (.ps r h)) (zero_mem_key det X (c - r.succ) (.pr r h))
      () () Np rfl (amount_key det X c (.ps r h) 0) (amount_key det X (c - r.succ) (.pr r h) 0) O rfl (W := W)
      (by rw [show (ringRd det X).payload ((c : Thread nD τ), .dma (Key.ps r h).sem) 0 0 = keyPay det X c (.ps r h) from payload_key det X c (.ps r h) 0, sM_set]
          exact BI.Entails.refl _)
      (by rw [show (ringRd det X).payload (((c - r.succ : Dev nD) : Thread nD τ), .dma (Key.pr r h).sem) 0 0 = keyPay det X (c - r.succ) (.pr r h) from payload_key det X (c - r.succ) (.pr r h) 0, rM_set]
          exact Entails.of_eq (pointsTo_congr (landed_p X c r h fd)))) $$ [Hs Hd HO Ht₁ Ht₂]
  · isplitr; · iexact HI₁
    isplitr; · iexact HI₂
    isplitl [Hs]; · rw [sM_set]; iexact Hs
    isplitl [Hd]; · rw [rM_set]; iexact Hd
    isplitl [HO]; · iexact HO
    isplitl [Ht₁]; · iexact Ht₁
    isplitr; · iexact Hr₁
    isplitl [Ht₂]; · iexact Ht₂
    iexact Hr₂
  iintro ⟨Hc, HO⟩
  iapply Hk
  isplitl [Hc]; · iexact Hc
  iexists W; iexact HO

/-- Sending a slot of denominators to the device `r + 1` places before. -/
theorem send_l {α : Type} {Q : α → sProp 𝕄} (c n : Dev nD) (r : Fin 3) (hn : n = c - r.succ)
    {src dst : Memref sig .tc .vmem S256x8 .f32} (hms : src = lM r.succ) (hmd : dst = lrM r)
    {s₁ s₂ : DmaSem sig} (h₁ : s₁ = (Key.ls r).sem) (h₂ : s₂ = (Key.lr r).sem)
    {hsc : (dst : Memref sig (Dev.tc n : Thread nD τ).2.kind .vmem S256x8 .f32).view.ref.isScScratch = false}
    {hsrc : src.view.WordExact} {hdst : dst.view.WordExact}
    {hsem : DmaTarget.Typed .vmem (.dma s₂) (.remote (Dev.tc n : Thread nD τ) (dst : Memref sig .tc .vmem S256x8 .f32) (.dma s₁) hsc)}
    {k : PUnit → Prog (TpuEff nD τ sig (Elt F) Λ₀ .tc) α} (fs : Vec F S4x256x8 .f32)
    (hf : det = true → ∀ i ∈ (lS r.succ : Finset S4x256x8.Idx), fs i = LS X c i) (O : CellTallies nD τ sig Unit) :
    iprop(invs det X K ∗ lPt c (lS r.succ) fs ∗ (∃ f, lrPt (c - r.succ) (lS r) f)
        ∗ dutyTok ER (cell c (.ls r)) 0 0 ∗ reached ER (cell c (.ls r)) 0
        ∗ dutyTok ER (cell (c - r.succ) (.lr r)) 0 0 ∗ reached ER (cell (c - r.succ) (.lr r)) 0 ∗ ow c (O + oL c r))
      ⊢ iprop(((cred (tallyAt (cell c (.ls r)) () Nl) ∗ ow c O) -∗ WP c (k ⟨⟩) Q)
          -∗ WP c (.op (.enqueueDma src (.remote (Dev.tc n : Thread nD τ) dst (.dma s₁) hsc) (.dma s₂) hsrc hdst hsem) k) Q) := by
  subst hn hms hmd h₁ h₂
  iintro ⟨#HI, Hs, ⟨%fd, Hd⟩, Ht₁, #Hr₁, Ht₂, #Hr₂, ⟨%W, HO⟩⟩ Hk
  ihave #HI₁ := (inv_key det X K c (.ls r)) $$ HI
  ihave #HI₂ := (inv_key det X K (c - r.succ) (.lr r)) $$ HI
  iapply (Rounds.wp_send_pointsTo 𝒱₀ ER (ringRd det X) (c : Thread nD τ) none (c' := ((c - r.succ : Dev nD) : Thread nD τ)) (src := lM r.succ) (dst := lrM r)
      (sS := .dma (Key.ls r).sem) (sem := .dma (Key.lr r).sem) (q := fullShare) (fs := fs) (κ₁ := K (cell c (.ls r))) (κ₂ := K (cell (c - r.succ) (.lr r)))
      (r₁ := 0) (r₂ := 0) (d₁ := 0) (d₂ := 0) (fd := fd) (zero_mem_key det X c (.ls r)) (zero_mem_key det X (c - r.succ) (.lr r))
      () () Nl rfl (amount_key det X c (.ls r) 0) (amount_key det X (c - r.succ) (.lr r) 0) O rfl (W := W)
      (by rw [show (ringRd det X).payload ((c : Thread nD τ), .dma (Key.ls r).sem) 0 0 = keyPay det X c (.ls r) from payload_key det X c (.ls r) 0, lM_set]
          unfold keyPay
          iintro H; iexists fs; iexact H)
      (by rw [show (ringRd det X).payload (((c - r.succ : Dev nD) : Thread nD τ), .dma (Key.lr r).sem) 0 0 = keyPay det X (c - r.succ) (.lr r) from payload_key det X (c - r.succ) (.lr r) 0, lrM_set]
          unfold keyPay
          iintro H
          iexists ((lrM r).view.write (Elt F) fd ((lM r.succ).view.read (Elt F) fs) Finset.univ)
          isplitr
          · ipureintro; exact fun hd => landed_l X c r fs fd (hf hd)
          · iexact H)) $$ [Hs Hd HO Ht₁ Ht₂]
  · isplitr; · iexact HI₁
    isplitr; · iexact HI₂
    isplitl [Hs]; · rw [lM_set]; iexact Hs
    isplitl [Hd]; · rw [lrM_set]; iexact Hd
    isplitl [HO]; · iexact HO
    isplitl [Ht₁]; · iexact Ht₁
    isplitr; · iexact Hr₁
    isplitl [Ht₂]; · iexact Ht₂
    iexact Hr₂
  iintro ⟨Hc, HO⟩
  iapply Hk
  isplitl [Hc]; · iexact Hc
  iexists W; iexact HO

end Cert.Proof.Ring

end
-- ==== Proof.Trips.lean ====
/- The kernel's loops, one trip at a time: what holds after `k` trips, and that a trip keeps it. -/
module

public import proofs.«01_k».proof.Proof.Talk

@[expose] public section

noncomputable section

namespace Cert.Proof.Ring

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Contents after some trips -/

section Contents

variable (X : Inputs F)

/-- The first `k` heads are `g`'s, the others `f`'s. -/
def mix (k : ℕ) (g f : Vec F S8x256x128 .f32) : Vec F S8x256x128 .f32 := fun i => if (i 0).val < k then g i else f i

/-- Of no heads the mixture is the second. -/
theorem mix_zero (g f : Vec F S8x256x128 .f32) : mix 0 g f = f := funext fun _ => if_neg (Nat.not_lt_zero _)

/-- Of all heads the mixture is the first. -/
theorem mix_all (g f : Vec F S8x256x128 .f32) : mix 8 g f = g := funext fun i => if_pos (i 0).isLt

/-- The slot of denominators of round `r` after head `h`'s row sums are put in. -/
def lnext (c : Dev nD) (r : Fin 4) (h : Fin 8) (f : Vec F S4x256x8 .f32) : Vec F S4x256x8 .f32 :=
  fun i => lput h (den X c r h) (lslab f r) (ix3 (0 : Fin 1) (i 1) (i 2))

/-- The slot of denominators of round `r` after the first `k` heads. -/
def lacc (c : Dev nD) (r : Fin 4) (f : Vec F S4x256x8 .f32) : ℕ → Vec F S4x256x8 .f32
  | 0 => f
  | k + 1 => if hk : k < 8 then lnext X c r ⟨k, hk⟩ (lacc c r f k) else lacc c r f k

/-- One more head put in. -/
theorem lacc_succ (c : Dev nD) (r : Fin 4) (f : Vec F S4x256x8 .f32) (h : Fin 8) : lacc X c r f (h.val + 1) = lnext X c r h (lacc X c r f h.val) :=
  dif_pos h.isLt

/-- By the law, each head's column is its row sums whatever the slot held first. -/
theorem lacc_law (hL : Law F) (c : Dev nD) (r : Fin 4) (f : Vec F S4x256x8 .f32) (k : ℕ) (hk : k ≤ 8) :
    ∀ i ∈ (lS r : Finset S4x256x8.Idx), (i 2).val < k → lacc X c r f k i = LS X c i := by
  induction k with
  | zero => exact fun i _ h => absurd h (Nat.not_lt_zero _)
  | succ k ih =>
    intro i hi h
    have hk' : k < 8 := hk
    have hr : slot3 i = r := Fin.ext (mem_lS.mp hi)
    have e : lacc X c r f (k + 1) = lnext X c r ⟨k, hk'⟩ (lacc X c r f k) := lacc_succ X c r f ⟨k, hk'⟩
    rw [e]
    refine (hL ⟨k, hk'⟩ (den X c r ⟨k, hk'⟩) (lslab (lacc X c r f k) r) (ix3 (0 : Fin 1) (i 1) (i 2))).trans ?_
    by_cases h2 : (i 2).val = k
    · have h2' : i 2 = (⟨k, hk'⟩ : Fin 8) := Fin.ext h2
      refine (if_pos h2).trans ?_
      exact (congrArg₂ (fun a b => den X c a b (ix2 (i 1) (i 2))) hr h2').symm
    · refine (if_neg h2).trans ?_
      refine (congrArg (lacc X c r f k) (Shape.idx3_ext (mem_lS.mp hi).symm rfl rfl : ix3 r (i 1) (i 2) = i)).trans (ih (by omega) i hi (by omega))

/-- By the law, after all heads the slot is the denominators whatever it held first. -/
theorem lacc_all (hL : Law F) (c : Dev nD) (r : Fin 4) (f : Vec F S4x256x8 .f32) :
    ∀ i ∈ (lS r : Finset S4x256x8.Idx), lacc X c r f 8 i = LS X c i :=
  fun i hi => lacc_law X hL c r f 8 (Nat.le_refl _) i hi (i 2).isLt

/-- The quotients, from the denominators' slots as they were loaded. -/
def RESL (c : Dev nD) (l0 l1 l2 l3 : Vec F S1x256x8 .f32) : Vec F S8x256x128 .f32 :=
  fun i => quot X c (i 0) l0 l1 l2 l3 (ix3 (0 : Fin 1) (i 1) (i 2))

end Contents

/-! ## A family of which the first `k` heads are done -/

/-- Of a family of which the first heads are done, the next may be taken and given back done. -/
theorem fam_take (A B : Fin 8 → sProp 𝕄) (t : Fin 8) :
    (bigSep Finset.univ fun h : Fin 8 => if t.val ≤ h.val then A h else B h)
      ⊢ iprop(A t ∗ (B t -∗ bigSep Finset.univ fun h : Fin 8 => if t.val + 1 ≤ h.val then A h else B h)) := by
  rw [BI.bigSep_univ_split t, if_pos (Nat.le_refl _)]
  have e : (bigSep (Finset.univ.erase t) fun h : Fin 8 => if t.val ≤ h.val then A h else B h)
      = bigSep (Finset.univ.erase t) fun h : Fin 8 => if t.val + 1 ≤ h.val then A h else B h :=
    bigSep_congr fun h hh => by
      have hne : h.val ≠ t.val := fun e => (Finset.mem_erase.mp hh).1 (Fin.ext e)
      by_cases hle : t.val ≤ h.val
      · rw [if_pos hle, if_pos (by omega)]
      · rw [if_neg hle, if_neg (by omega)]
  have e2 : (bigSep Finset.univ fun h : Fin 8 => if t.val + 1 ≤ h.val then A h else B h)
      = iprop(B t ∗ bigSep (Finset.univ.erase t) fun h : Fin 8 => if t.val + 1 ≤ h.val then A h else B h) := by
    rw [BI.bigSep_univ_split t, if_neg (by omega)]; rfl
  rw [e]
  show iprop(A t ∗ bigSep (Finset.univ.erase t) fun h : Fin 8 => if t.val + 1 ≤ h.val then A h else B h) ⊢ _
  iintro ⟨Ha, Hr⟩
  isplitl [Ha]; · iexact Ha
  iintro Hb
  rw [e2]
  isplitl [Hb]; · iexact Hb
  iexact Hr

/-- Before the first trip no head is done. -/
theorem fam_start (A B : Fin 8 → sProp 𝕄) : (bigSep Finset.univ fun h : Fin 8 => if 0 ≤ h.val then A h else B h) = bigSep Finset.univ A :=
  bigSep_congr fun _ _ => if_pos (Nat.zero_le _)

/-- After the last trip every head is done. -/
theorem fam_end (A B : Fin 8 → sProp 𝕄) : (bigSep Finset.univ fun h : Fin 8 => if 8 ≤ h.val then A h else B h) = bigSep Finset.univ B :=
  bigSep_congr fun h _ => if_neg (by have := h.isLt; omega)

variable (det : Bool) (X : Inputs F) (K : GSem nD τ sig → ℕ)

/-! ## The first loop -/

/-- After `k` trips of the first loop: the first `k` heads of the accumulator and their row sums are there. -/
def inv1 (c : Dev nD) (f0 : Vec F S8x256x128 .f32) (l0 : Vec F S4x256x8 .f32) (k : ℕ) : sProp 𝕄 :=
  iprop(qPt c (qS 0) fullShare.right (QB X c) ∗ ikPt c (X.k c) ∗ ivPt c (X.v c) ∗ oPt c Finset.univ (mix k (CX X c) f0)
    ∗ lPt c (lS 0) (lacc X c 0 l0 k))

/-- The slot of denominators after the next head. -/
theorem lPt_next (c : Dev nD) (r : Fin 4) (l0 : Vec F S4x256x8 .f32) (t : Fin 8) {g : Vec F S4x256x8 .f32}
    (hg : g = lnext X c r t (lacc X c r l0 t.val)) : lPt c (lS r) g ⊢ lPt c (lS r) (lacc X c r l0 (t.val + 1)) := by
  rw [lacc_succ, hg]

/-- The target of the numerators of round 1. -/
theorem dev6_eq (c : Dev nD) : (⟨k0_dev6 c, k0_dev6_lt c⟩ : Dev nD) = c - (0 : Fin 3).succ := by revert c; decide
/-- The target of the numerators of round 2. -/
theorem dev9_eq (c : Dev nD) : (⟨k0_dev9 c, k0_dev9_lt c⟩ : Dev nD) = c - (1 : Fin 3).succ := by revert c; decide
/-- The target of the numerators of round 3. -/
theorem dev11_eq (c : Dev nD) : (⟨k0_dev11 c, k0_dev11_lt c⟩ : Dev nD) = c - (2 : Fin 3).succ := by revert c; decide

/-- A head of a slot lies in the slot. -/
theorem pS_sub_qS {n : ℕ} (r : Fin n) (h : Fin 8) : (pS r h : Finset (⟨4, ![n, 8, 256, 128]⟩ : Shape).Idx) ⊆ qS r :=
  fun _ hi => mem_qS.mpr (mem_pS.mp hi).1

set_option maxHeartbeats 800000 in
/-- One trip of the first loop: a head of the first round. -/
theorem trip1 (c : Dev nD) (f0 : Vec F S8x256x128 .f32) (l0 : Vec F S4x256x8 .f32) (t : Fin 8) (v14 v25 : BitVec 32) (v98 : IVec S1x4096 32)
    (v99 : IVec S1x8 32) (v184 : IVec S256x4096 32) (v187 : IVec S256x4096 1) (v94 : BitVec 32) (hv : v99 = cols)
    (hm : k0_pay29 v98 v184 v187 v94 = mask c 0) :
    inv1 X c f0 l0 t.val ⊢ WP c (k0_t1_body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 v14 v25 v98 v99 v184 v187 v94 t ⟨⟩) (fun _ => inv1 X c f0 l0 (t.val + 1)) := by
  unfold k0_t1_body
  simp only [k0_part1_eq_skeleton]; unfold k0_part1_skel
  simp only [Prog.lift, Prog.bind_op, Prog.bind_ret, Prog.pure_eq_ret, Prog.bind_assoc]
  rw [hm, hv]
  unfold inv1
  iintro ⟨Hq, Hk, Hv, Ho, Hl⟩
  iapply (load_q c 0 t (k0_off1_eq t) (pS_sub_qS 0 t)) $$ Hq; iintro Hq
  iapply (load_k c t (k0_off2_eq t)) $$ Hk; iintro Hk
  iapply (load_v c t (k0_off2_eq t)) $$ Hv; iintro Hv
  iapply (load_o c t (k0_off3_eq t) (Finset.subset_univ _)) $$ Ho; iintro Ho
  iapply (store_o (g := mix (t.val + 1) (CX X c) f0) c t (k0_off3_eq t) (fun i hi => by
      have e : i 0 = t := Fin.ext hi
      refine (if_pos (by omega)).trans ?_
      exact congrArg (fun a => num X c 0 a (ix3 (0 : Fin 1) (i 1) (i 2))) e)
    (fun i hi => by
      by_cases hlt : (i 0).val < t.val
      · exact (if_pos (by omega)).trans (if_pos hlt).symm
      · exact (if_neg (by omega)).trans (if_neg hlt).symm)) $$ Ho; iintro Ho
  iapply (load_l c 0 rfl (Finset.Subset.refl _)) $$ Hl; iintro Hl
  iapply (load_l c 0 rfl (Finset.Subset.refl _)) $$ Hl; iintro Hl
  iapply (store_l c 0 rfl) $$ Hl; iintro Hl
  unfold WP; rw [wp_ret]; imodintro
  isplitl [Hq]; · iexact Hq
  isplitl [Hk]; · iexact Hk
  isplitl [Hv]; · iexact Hv
  isplitl [Ho]; · iexact Ho
  iapply (lPt_next X c 0 l0 t (by rfl)) $$ Hl

/-! ## The loops of the later rounds -/

/-- What head `h` of round `r + 1` needs before it is sent. -/
def before (c : Dev nD) (r : Fin 3) (h : Fin 8) : sProp 𝕄 :=
  iprop((∃ f, sPt c (pS r h) f) ∗ (∃ f, rPt (c - r.succ) (pS r h) f)
    ∗ dutyTok ER (cell c (.ps r h)) 0 0 ∗ reached ER (cell c (.ps r h)) 0
    ∗ dutyTok ER (cell (c - r.succ) (.pr r h)) 0 0 ∗ reached ER (cell (c - r.succ) (.pr r h)) 0)

/-- After `k` trips of the loop of round `r + 1`: the first `k` heads' numerators are sent, and their row sums are there. -/
def inv2 (c : Dev nD) (r : Fin 3) (q : PosShare TreeShare) (l0 : Vec F S4x256x8 .f32) (O : CellTallies nD τ sig Unit) (k : ℕ) : sProp 𝕄 :=
  iprop(invs det X K ∗ qPt c (qS r.succ) q (QB X c) ∗ ikPt c (X.k c) ∗ ivPt c (X.v c)
    ∗ lPt c (lS r.succ) (lacc X c r.succ l0 k)
    ∗ (bigSep Finset.univ fun h : Fin 8 => if k ≤ h.val then before c r h else cred (tallyAt (cell c (.ps r h)) () Np))
    ∗ ow c (O + oPs c r k))

set_option maxHeartbeats 1600000 in
/-- One trip of the second loop: a head of round 1, its numerators sent. -/
theorem trip2 (c : Dev nD) (q : PosShare TreeShare) (l0 : Vec F S4x256x8 .f32) (O : CellTallies nD τ sig Unit) (t : Fin 8) (v14 v25 : BitVec 32) (v99 : IVec S1x8 32) (v228 : BitVec 32) (v301 v303 : IVec S256x4096 1)
    (hv : v99 = cols) (hm : k0_pay35 v301 v303 = mask c 1) :
    inv2 det X K c 0 q l0 O t.val
      ⊢ WP c (k0_t2_body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 c v14 v25 v99 v228 v301 v303 t ⟨⟩) (fun _ => inv2 det X K c 0 q l0 O (t.val + 1)) := by
  unfold k0_t2_body
  simp only [k0_part2_eq_skeleton]; unfold k0_part2_skel
  simp only [Prog.lift, Prog.bind_op, Prog.bind_ret, Prog.pure_eq_ret, Prog.bind_assoc]
  rw [hm, hv]
  unfold inv2
  simp only [show (0 : Fin 3).succ = (1 : Fin 4) from rfl]
  rw [oPs_step c 0 t, ← add_assoc]
  iintro ⟨#HI, Hq, Hk, Hv, Hl, Hf, HO⟩
  ihave Hf := (fam_take (before c 0) (fun h => cred (tallyAt (cell c (.ps 0 h)) () Np)) t) $$ Hf
  unfold before
  icases Hf with ⟨⟨⟨%fs, Hs⟩, Hd, Ht₁, #Hr₁, Ht₂, #Hr₂⟩, Hf⟩
  iapply (load_q c 1 t (k0_off4_eq t) (pS_sub_qS 1 t)) $$ Hq; iintro Hq
  iapply (load_k c t (k0_off5_eq t)) $$ Hk; iintro Hk
  iapply (load_v c t (k0_off5_eq t)) $$ Hv; iintro Hv
  iapply (load_s c 0 t (k0_off6_eq t) rfl) $$ Hs; iintro Hs
  iapply (store_s (g := PS X c) c 0 t (k0_off6_eq t) rfl (fun x => PS_at X c 0 t x)) $$ Hs; iintro Hs
  iapply (load_l c 1 rfl (Finset.Subset.refl _)) $$ Hl; iintro Hl
  iapply (load_l c 1 rfl (Finset.Subset.refl _)) $$ Hl; iintro Hl
  iapply (store_l c 1 rfl) $$ Hl; iintro Hl
  iapply (send_p det X K c _ 0 t (dev6_eq c) (sM_off 0 t (k0_off8_eq t)) (rM_off 0 t (k0_off8_eq t))
    (ps_off 0 t (k0_off7_eq t)) (pr_off 0 t (k0_off7_eq t)) (O + oPs c 0 (t.val + 1))) $$ [Hs Hd Ht₁ Ht₂ HO]
  · isplitr; · iexact HI
    isplitl [Hs]; · iexact Hs
    isplitl [Hd]; · iexact Hd
    isplitl [Ht₁]; · iexact Ht₁
    isplitr; · iexact Hr₁
    isplitl [Ht₂]; · iexact Ht₂
    isplitr; · iexact Hr₂
    iexact HO
  iintro ⟨Hc, HO⟩
  unfold WP; rw [wp_ret]; imodintro
  isplitr; · iexact HI
  isplitl [Hq]; · iexact Hq
  isplitl [Hk]; · iexact Hk
  isplitl [Hv]; · iexact Hv
  isplitl [Hl]
  · iapply (lPt_next X c 1 l0 t (by rfl)) $$ Hl
  isplitl [Hf Hc]
  · iapply Hf; iexact Hc
  iexact HO

set_option maxHeartbeats 1600000 in
/-- One trip of the third loop: a head of round 2, its numerators sent. -/
theorem trip3 (c : Dev nD) (q : PosShare TreeShare) (l0 : Vec F S4x256x8 .f32) (O : CellTallies nD τ sig Unit) (t : Fin 8) (v14 : BitVec 32) (v98 : IVec S1x4096 32) (v99 : IVec S1x8 32) (v345 : BitVec 32) (v408 : IVec S256x4096 32)
    (v411 : IVec S256x4096 1) (v222 : BitVec 32)
    (hv : v99 = cols) (hm : k0_pay44 v98 v408 v411 v222 = mask c 2) :
    inv2 det X K c 1 q l0 O t.val
      ⊢ WP c (k0_t3_body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 c v14 v98 v99 v345 v408 v411 v222 t ⟨⟩) (fun _ => inv2 det X K c 1 q l0 O (t.val + 1)) := by
  unfold k0_t3_body
  simp only [k0_part3_eq_skeleton]; unfold k0_part3_skel
  simp only [Prog.lift, Prog.bind_op, Prog.bind_ret, Prog.pure_eq_ret, Prog.bind_assoc]
  rw [hm, hv]
  unfold inv2
  simp only [show (1 : Fin 3).succ = (2 : Fin 4) from rfl]
  rw [oPs_step c 1 t, ← add_assoc]
  iintro ⟨#HI, Hq, Hk, Hv, Hl, Hf, HO⟩
  ihave Hf := (fam_take (before c 1) (fun h => cred (tallyAt (cell c (.ps 1 h)) () Np)) t) $$ Hf
  unfold before
  icases Hf with ⟨⟨⟨%fs, Hs⟩, Hd, Ht₁, #Hr₁, Ht₂, #Hr₂⟩, Hf⟩
  iapply (load_q c 2 t (k0_off9_eq t) (pS_sub_qS 2 t)) $$ Hq; iintro Hq
  iapply (load_k c t (k0_off10_eq t)) $$ Hk; iintro Hk
  iapply (load_v c t (k0_off10_eq t)) $$ Hv; iintro Hv
  iapply (load_s c 1 t (k0_off11_eq t) rfl) $$ Hs; iintro Hs
  iapply (store_s (g := PS X c) c 1 t (k0_off11_eq t) rfl (fun x => PS_at X c 1 t x)) $$ Hs; iintro Hs
  iapply (load_l c 2 rfl (Finset.Subset.refl _)) $$ Hl; iintro Hl
  iapply (load_l c 2 rfl (Finset.Subset.refl _)) $$ Hl; iintro Hl
  iapply (store_l c 2 rfl) $$ Hl; iintro Hl
  iapply (send_p det X K c _ 1 t (dev9_eq c) (sM_off 1 t (k0_off13_eq t)) (rM_off 1 t (k0_off13_eq t))
    (ps_off 1 t (k0_off12_eq t)) (pr_off 1 t (k0_off12_eq t)) (O + oPs c 1 (t.val + 1))) $$ [Hs Hd Ht₁ Ht₂ HO]
  · isplitr; · iexact HI
    isplitl [Hs]; · iexact Hs
    isplitl [Hd]; · iexact Hd
    isplitl [Ht₁]; · iexact Ht₁
    isplitr; · iexact Hr₁
    isplitl [Ht₂]; · iexact Ht₂
    isplitr; · iexact Hr₂
    iexact HO
  iintro ⟨Hc, HO⟩
  unfold WP; rw [wp_ret]; imodintro
  isplitr; · iexact HI
  isplitl [Hq]; · iexact Hq
  isplitl [Hk]; · iexact Hk
  isplitl [Hv]; · iexact Hv
  isplitl [Hl]
  · iapply (lPt_next X c 2 l0 t (by rfl)) $$ Hl
  isplitl [Hf Hc]
  · iapply Hf; iexact Hc
  iexact HO

set_option maxHeartbeats 1600000 in
/-- One trip of the fourth loop: a head of round 3, its numerators sent. -/
theorem trip4 (c : Dev nD) (q : PosShare TreeShare) (l0 : Vec F S4x256x8 .f32) (O : CellTallies nD τ sig Unit) (t : Fin 8) (v14 : BitVec 32) (v99 : IVec S1x8 32) (v452 : BitVec 32) (v528 : IVec S256x4096 1)
    (hv : v99 = cols) (hm : v528 = mask c 3) :
    inv2 det X K c 2 q l0 O t.val
      ⊢ WP c (k0_t4_body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 c v14 v99 v452 v528 t ⟨⟩) (fun _ => inv2 det X K c 2 q l0 O (t.val + 1)) := by
  unfold k0_t4_body
  simp only [k0_part4_eq_skeleton]; unfold k0_part4_skel
  simp only [Prog.lift, Prog.bind_op, Prog.bind_ret, Prog.pure_eq_ret, Prog.bind_assoc]
  rw [hm, hv]
  unfold inv2
  simp only [show (2 : Fin 3).succ = (3 : Fin 4) from rfl]
  rw [oPs_step c 2 t, ← add_assoc]
  iintro ⟨#HI, Hq, Hk, Hv, Hl, Hf, HO⟩
  ihave Hf := (fam_take (before c 2) (fun h => cred (tallyAt (cell c (.ps 2 h)) () Np)) t) $$ Hf
  unfold before
  icases Hf with ⟨⟨⟨%fs, Hs⟩, Hd, Ht₁, #Hr₁, Ht₂, #Hr₂⟩, Hf⟩
  iapply (load_q c 3 t (k0_off14_eq t) (pS_sub_qS 3 t)) $$ Hq; iintro Hq
  iapply (load_k c t (k0_off15_eq t)) $$ Hk; iintro Hk
  iapply (load_v c t (k0_off15_eq t)) $$ Hv; iintro Hv
  iapply (load_s c 2 t (k0_off16_eq t) rfl) $$ Hs; iintro Hs
  iapply (store_s (g := PS X c) c 2 t (k0_off16_eq t) rfl (fun x => PS_at X c 2 t x)) $$ Hs; iintro Hs
  iapply (load_l c 3 rfl (Finset.Subset.refl _)) $$ Hl; iintro Hl
  iapply (load_l c 3 rfl (Finset.Subset.refl _)) $$ Hl; iintro Hl
  iapply (store_l c 3 rfl) $$ Hl; iintro Hl
  iapply (send_p det X K c _ 2 t (dev11_eq c) (sM_off 2 t (k0_off18_eq t)) (rM_off 2 t (k0_off18_eq t))
    (ps_off 2 t (k0_off17_eq t)) (pr_off 2 t (k0_off17_eq t)) (O + oPs c 2 (t.val + 1))) $$ [Hs Hd Ht₁ Ht₂ HO]
  · isplitr; · iexact HI
    isplitl [Hs]; · iexact Hs
    isplitl [Hd]; · iexact Hd
    isplitl [Ht₁]; · iexact Ht₁
    isplitr; · iexact Hr₁
    isplitl [Ht₂]; · iexact Ht₂
    isplitr; · iexact Hr₂
    iexact HO
  iintro ⟨Hc, HO⟩
  unfold WP; rw [wp_ret]; imodintro
  isplitr; · iexact HI
  isplitl [Hq]; · iexact Hq
  isplitl [Hk]; · iexact Hk
  isplitl [Hv]; · iexact Hv
  isplitl [Hl]
  · iapply (lPt_next X c 3 l0 t (by rfl)) $$ Hl
  isplitl [Hf Hc]
  · iapply Hf; iexact Hc
  iexact HO

/-! ## The loops at the end -/

/-- Before head `h`'s three waits for numerators. -/
def due (c : Dev nD) (key : Fin 3 → Fin 8 → Key) (h : Fin 8) : sProp 𝕄 :=
  iprop((cred (tallyAt (cell c (key 0 h)) () (key 0 h).units) ∗ atPos ER (cell c (key 0 h)) 0 ∅ 0)
    ∗ (cred (tallyAt (cell c (key 1 h)) () (key 1 h).units) ∗ atPos ER (cell c (key 1 h)) 0 ∅ 0)
    ∗ (cred (tallyAt (cell c (key 2 h)) () (key 2 h).units) ∗ atPos ER (cell c (key 2 h)) 0 ∅ 0))

/-- After them: what was handed over, and the counters back at zero. -/
def got (c : Dev nD) (key : Fin 3 → Fin 8 → Key) (h : Fin 8) : sProp 𝕄 :=
  iprop((semVal (cell c (key 0 h)) 0 ∗ keyPay det X c (key 0 h)) ∗ (semVal (cell c (key 1 h)) 0 ∗ keyPay det X c (key 1 h))
    ∗ (semVal (cell c (key 2 h)) 0 ∗ keyPay det X c (key 2 h)))

/-- After `k` trips of the loop of the quotients. -/
def inv5 (c : Dev nD) (l0 l1 l2 l3 : Vec F S1x256x8 .f32) (k : ℕ) : sProp 𝕄 :=
  iprop(invs det X K ∗ levAts L lv ∗ oPt c Finset.univ (mix k (RESL X c l0 l1 l2 l3) (CX X c))
    ∗ (bigSep Finset.univ fun h : Fin 8 => if k ≤ h.val then due c Key.pr h else got det X c Key.pr h)
    ∗ ow c 0)

/-- After `k` trips of the loop that takes the sent numerators back. -/
def inv6 (c : Dev nD) (k : ℕ) : sProp 𝕄 :=
  iprop(invs det X K ∗ levAts L lv
    ∗ (bigSep Finset.univ fun h : Fin 8 => if k ≤ h.val then due c Key.ps h else got det X c Key.ps h)
    ∗ ow c 0)

/-- The head a trip is at is still the accumulator. -/
theorem oslab_mix (c : Dev nD) (t : Fin 8) (g : Vec F S8x256x128 .f32) : oslab (mix t.val g (CX X c)) t = oslab (CX X c) t :=
  funext fun _ => if_neg (Nat.lt_irrefl _)

set_option maxHeartbeats 1600000 in
/-- One trip of the fifth loop: the numerators of a head are waited for, added and divided. -/
theorem trip5 (c : Dev nD) (l0 l1 l2 l3 : Vec F S1x256x8 .f32) (t : Fin 8) (v14 : BitVec 32) (v99 : IVec S1x8 32) (hv : v99 = cols) :
    inv5 det X K c l0 l1 l2 l3 t.val ⊢ WP c (k0_t5_body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 v14 v99 l0 l1 l2 l3 t ⟨⟩) (fun _ => inv5 det X K c l0 l1 l2 l3 (t.val + 1)) := by
  unfold k0_t5_body
  simp only [k0_part5_eq_skeleton]; unfold k0_part5_skel
  simp only [Prog.lift, Prog.bind_op, Prog.bind_ret, Prog.pure_eq_ret, Prog.bind_assoc]
  rw [hv]
  unfold inv5
  iintro ⟨#HI, #Hlev, Ho, Hf, HO⟩
  ihave Hf := (fam_take (due c Key.pr) (got det X c Key.pr) t) $$ Hf
  unfold due
  icases Hf with ⟨⟨⟨Hc0, Ha0⟩, ⟨Hc1, Ha1⟩, ⟨Hc2, Ha2⟩⟩, Hf⟩
  iapply (wait_key det X K c (.pr 0 t) (pr_off 0 t (k0_off19_eq t)) (by rfl) (Above.zero 5) (Nat.le_refl _)) $$ [Hc0 Ha0 HO]
  · isplitr; · iexact HI
    isplitr; · iexact Hlev
    isplitl [Hc0]; · iexact Hc0
    isplitl [Ha0]; · iexact Ha0
    iexact HO
  iintro ⟨HO, Hv0, Hp0⟩
  iapply (wait_key det X K c (.pr 1 t) (pr_off 1 t (k0_off21_eq t)) (by rfl) (Above.zero 5) (Nat.le_refl _)) $$ [Hc1 Ha1 HO]
  · isplitr; · iexact HI
    isplitr; · iexact Hlev
    isplitl [Hc1]; · iexact Hc1
    isplitl [Ha1]; · iexact Ha1
    iexact HO
  iintro ⟨HO, Hv1, Hp1⟩
  iapply (wait_key det X K c (.pr 2 t) (pr_off 2 t (k0_off23_eq t)) (by rfl) (Above.zero 5) (Nat.le_refl _)) $$ [Hc2 Ha2 HO]
  · isplitr; · iexact HI
    isplitr; · iexact Hlev
    isplitl [Hc2]; · iexact Hc2
    isplitl [Ha2]; · iexact Ha2
    iexact HO
  iintro ⟨HO, Hv2, Hp2⟩
  unfold keyPay
  iapply (load_o c t (k0_off25_eq t) (Finset.subset_univ _)) $$ Ho; iintro Ho
  iapply (load_r c 0 t (k0_off26_eq t) (Finset.Subset.refl _)) $$ Hp0; iintro Hp0
  iapply (load_r c 1 t (k0_off27_eq t) (Finset.Subset.refl _)) $$ Hp1; iintro Hp1
  iapply (load_r c 2 t (k0_off28_eq t) (Finset.Subset.refl _)) $$ Hp2; iintro Hp2
  iapply (load_o c t (k0_off25_eq t) (Finset.subset_univ _)) $$ Ho; iintro Ho
  rw [oslab_mix]
  iapply (store_o (g := mix (t.val + 1) (RESL X c l0 l1 l2 l3) (CX X c)) c t (k0_off25_eq t) (fun i hi => by
      have e : i 0 = t := Fin.ext hi
      refine (if_pos (by omega)).trans ?_
      exact congrArg (fun a => quot X c a l0 l1 l2 l3 (ix3 (0 : Fin 1) (i 1) (i 2))) e)
    (fun i hi => by
      by_cases hlt : (i 0).val < t.val
      · exact (if_pos (by omega)).trans (if_pos hlt).symm
      · exact (if_neg (by omega)).trans (if_neg hlt).symm)) $$ Ho; iintro Ho
  unfold WP; rw [wp_ret]; imodintro
  isplitr; · iexact HI
  isplitr; · iexact Hlev
  isplitl [Ho]; · iexact Ho
  isplitr [HO]
  · iapply Hf
    unfold got keyPay
    isplitl [Hv0 Hp0]
    · isplitl [Hv0]; · iexact Hv0
      iexact Hp0
    isplitl [Hv1 Hp1]
    · isplitl [Hv1]; · iexact Hv1
      iexact Hp1
    isplitl [Hv2]; · iexact Hv2
    iexact Hp2
  iexact HO

set_option maxHeartbeats 1600000 in
/-- One trip of the last loop: the three sent numerators of a head are waited for. -/
theorem trip6 (c : Dev nD) (t : Fin 8) (v14 : BitVec 32) (v99 : IVec S1x8 32) :
    inv6 det X K c t.val ⊢ WP c (k0_t6_body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 v14 v99 t ⟨⟩) (fun _ => inv6 det X K c (t.val + 1)) := by
  unfold k0_t6_body
  simp only [Prog.lift, Prog.bind_op, Prog.bind_ret, Prog.pure_eq_ret, Prog.bind_assoc]
  unfold inv6
  iintro ⟨#HI, #Hlev, Hf, HO⟩
  ihave Hf := (fam_take (due c Key.ps) (got det X c Key.ps) t) $$ Hf
  unfold due
  icases Hf with ⟨⟨⟨Hc0, Ha0⟩, ⟨Hc1, Ha1⟩, ⟨Hc2, Ha2⟩⟩, Hf⟩
  iapply (wait_key det X K c (.ps 0 t) (ps_off 0 t (k0_off29_eq t)) (by rfl) (Above.zero 0) (Nat.le_refl _)) $$ [Hc0 Ha0 HO]
  · isplitr; · iexact HI
    isplitr; · iexact Hlev
    isplitl [Hc0]; · iexact Hc0
    isplitl [Ha0]; · iexact Ha0
    iexact HO
  iintro ⟨HO, Hv0, Hp0⟩
  iapply (wait_key det X K c (.ps 1 t) (ps_off 1 t (k0_off31_eq t)) (by rfl) (Above.zero 0) (Nat.le_refl _)) $$ [Hc1 Ha1 HO]
  · isplitr; · iexact HI
    isplitr; · iexact Hlev
    isplitl [Hc1]; · iexact Hc1
    isplitl [Ha1]; · iexact Ha1
    iexact HO
  iintro ⟨HO, Hv1, Hp1⟩
  iapply (wait_key det X K c (.ps 2 t) (ps_off 2 t (k0_off33_eq t)) (by rfl) (Above.zero 0) (Nat.le_refl _)) $$ [Hc2 Ha2 HO]
  · isplitr; · iexact HI
    isplitr; · iexact Hlev
    isplitl [Hc2]; · iexact Hc2
    isplitl [Ha2]; · iexact Ha2
    iexact HO
  iintro ⟨HO, Hv2, Hp2⟩
  unfold WP; rw [wp_ret]; imodintro
  isplitr; · iexact HI
  isplitr; · iexact Hlev
  isplitr [HO]
  · iapply Hf
    unfold got
    isplitl [Hv0 Hp0]
    · isplitl [Hv0]; · iexact Hv0
      iexact Hp0
    isplitl [Hv1 Hp1]
    · isplitl [Hv1]; · iexact Hv1
      iexact Hp1
    isplitl [Hv2]; · iexact Hv2
    iexact Hp2
  iexact HO

end Cert.Proof.Ring

end
-- ==== Proof.Pieces.lean ====
/- The buffers in pieces and whole again, and what is handed over at the barrier. -/
module

public import proofs.«01_k».proof.Proof.Trips

@[expose] public section

noncomputable section

namespace Cert.Proof.Ring

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## A location in pieces -/

section Split

variable {ℓ : Loc nD τ sig} {T : Type} [Fintype T] [DecidableEq T] (A : T → Finset (Idx ℓ)) (S : Finset (Idx ℓ))
  (hd : ∀ t t', t ≠ t' → Disjoint (A t) (A t')) (hu : ∀ i, i ∈ S ↔ ∃ t, i ∈ A t)

include hd hu

/-- A set covered by disjoint pieces is held piece by piece. -/
theorem split_eq (f : Buf (Elt F) ℓ) : ((ℓ ↦[S]{fullShare} f : sProp 𝕄)) = bigSep Finset.univ fun t => (ℓ ↦[A t]{fullShare} f : sProp 𝕄) := by
  have e : S = Finset.univ.biUnion A := by
    ext i; rw [hu i, Finset.mem_biUnion]
    exact ⟨fun ⟨t, h⟩ => ⟨t, Finset.mem_univ _, h⟩, fun ⟨t, _, h⟩ => ⟨t, h⟩⟩
  rw [e]
  exact pointsTo_biUnion Finset.univ A fun t _ t' _ h => hd t t' h

/-- A buffer held whole is held piece by piece, at some contents each. -/
theorem split_ex (f : Buf (Elt F) ℓ) : (ℓ ↦[S]{fullShare} f : sProp 𝕄) ⊢ bigSep Finset.univ fun t => iprop(∃ f, ℓ ↦[A t]{fullShare} f) := by
  rw [split_eq A S hd hu f]
  exact bigSep_mono fun t _ => exists_intro (Φ := fun f => (ℓ ↦[A t]{fullShare} f : sProp 𝕄)) f

/-- Pieces at some contents each join to the whole at some contents. -/
theorem join_ex [Nonempty (Buf (Elt F) ℓ)] :
    (bigSep Finset.univ fun t => (iprop(∃ f, ℓ ↦[A t]{fullShare} f) : sProp 𝕄)) ⊢ iprop(∃ f, ℓ ↦[S]{fullShare} f) := by
  have e : S = Finset.univ.biUnion A := by
    ext i; rw [hu i, Finset.mem_biUnion]
    exact ⟨fun ⟨t, h⟩ => ⟨t, Finset.mem_univ _, h⟩, fun ⟨t, _, h⟩ => ⟨t, h⟩⟩
  rw [e]
  refine (bigSep_exists_pi Finset.univ fun t f => (ℓ ↦[A t]{fullShare} f : sProp 𝕄)).trans ?_
  iintro ⟨%fs, H⟩
  ihave H := (pointsTo_biUnion_join Finset.univ A fs (Classical.arbitrary _) fun t _ t' _ h => hd t t' h) $$ H
  icases H with ⟨%g, -, H⟩
  iexists g; iexact H

end Split

/-- Different slots are disjoint. -/
theorem qS_disj {n : ℕ} (r r' : Fin n) (h : r ≠ r') : Disjoint (qS r) (qS r') :=
  Finset.disjoint_left.mpr fun _ h₁ h₂ => h (Fin.ext ((mem_qS.mp h₁).symm.trans (mem_qS.mp h₂)))
/-- The slots are the whole buffer. -/
theorem qS_cover {n : ℕ} (i : (⟨4, ![n, 8, 256, 128]⟩ : Shape).Idx) : i ∈ Finset.univ ↔ ∃ r : Fin n, i ∈ qS r :=
  ⟨fun _ => ⟨i 0, mem_qS.mpr rfl⟩, fun _ => Finset.mem_univ _⟩
/-- Different slots of denominators are disjoint. -/
theorem lS_disj {n : ℕ} (r r' : Fin n) (h : r ≠ r') : Disjoint (lS r) (lS r') :=
  Finset.disjoint_left.mpr fun _ h₁ h₂ => h (Fin.ext ((mem_lS.mp h₁).symm.trans (mem_lS.mp h₂)))
/-- The slots of denominators are the whole buffer. -/
theorem lS_cover {n : ℕ} (i : (⟨3, ![n, 256, 8]⟩ : Shape).Idx) : i ∈ Finset.univ ↔ ∃ r : Fin n, i ∈ lS r :=
  ⟨fun _ => ⟨i 0, mem_lS.mpr rfl⟩, fun _ => Finset.mem_univ _⟩
/-- Different heads of a slot are disjoint. -/
theorem pS_disj {n : ℕ} (r : Fin n) (h h' : Fin 8) (hne : h ≠ h') : Disjoint (pS r h) (pS r h') :=
  Finset.disjoint_left.mpr fun _ h₁ h₂ => hne (Fin.ext ((mem_pS.mp h₁).2.symm.trans (mem_pS.mp h₂).2))
/-- The heads of a slot are the slot. -/
theorem pS_cover {n : ℕ} (r : Fin n) (i : (⟨4, ![n, 8, 256, 128]⟩ : Shape).Idx) : i ∈ qS r ↔ ∃ h : Fin 8, i ∈ pS r h :=
  ⟨fun hi => ⟨i 1, mem_pS.mpr ⟨mem_qS.mp hi, rfl⟩⟩, fun ⟨_, h⟩ => mem_qS.mpr (mem_pS.mp h).1⟩

/-- A product over four is its four factors. -/
theorem bigSep_fin4 {M : Type} [URA M] (Φ : Fin 4 → sProp M) : bigSep Finset.univ Φ = iprop(Φ 0 ∗ Φ 1 ∗ Φ 2 ∗ Φ 3) :=
  bigSep_univ_eq_bigSepL [0, 1, 2, 3] (by decide) (by decide) Φ

variable (c : Dev nD)

/-- The queries' buffer, slot by slot. -/
theorem q_split (f : Vec F S4x8x256x128 .f32) :
    qPt c Finset.univ fullShare f ⊢ iprop((∃ f, qPt c (qS 0) fullShare f) ∗ (∃ f, qPt c (qS 1) fullShare f) ∗ (∃ f, qPt c (qS 2) fullShare f)
      ∗ (∃ f, qPt c (qS 3) fullShare f)) := by
  refine (split_ex (F := F) (ℓ := (c : Thread nD τ).loc cc0_scratch0) (fun r : Fin 4 => qS r) Finset.univ qS_disj qS_cover f).trans ?_
  rw [bigSep_fin4]; exact BI.Entails.refl _

/-- The queries' slots join to the buffer. -/
theorem q_join (f : Vec F S4x8x256x128 .f32) :
    iprop(qPt c (qS 0) fullShare f ∗ qPt c (qS 1) fullShare f ∗ qPt c (qS 2) fullShare f ∗ qPt c (qS 3) fullShare f)
      ⊢ qPt c Finset.univ fullShare f := by
  have e := split_eq (F := F) (ℓ := (c : Thread nD τ).loc cc0_scratch0) (fun r : Fin 4 => qS r) Finset.univ qS_disj qS_cover f
  rw [bigSep_fin4] at e
  exact Entails.of_eq e.symm

/-- A slot of queries is two halves, one to read and one to send from. -/
theorem q_halves (r : Fin 4) (f : Vec F S4x8x256x128 .f32) :
    qPt c (qS r) fullShare f ⊣⊢ iprop(qPt c (qS r) fullShare.left f ∗ qPt c (qS r) fullShare.right f) :=
  pointsTo_share (PosShare.mem_left_op_right fullShare)

/-- The numerators to send, head by head. -/
theorem s_eq (f : Vec F S3x8x256x128 .f32) : sPt c Finset.univ f
    = iprop((bigSep Finset.univ fun h : Fin 8 => sPt c (pS 0 h) f) ∗ (bigSep Finset.univ fun h : Fin 8 => sPt c (pS 1 h) f)
      ∗ (bigSep Finset.univ fun h : Fin 8 => sPt c (pS 2 h) f)) := by
  have e : ∀ r : Fin 3, sPt c (qS r) f = bigSep Finset.univ fun h : Fin 8 => sPt c (pS r h) f := fun r =>
    split_eq (F := F) (ℓ := (c : Thread nD τ).loc cc0_scratch1) (fun h : Fin 8 => pS r h) (qS r) (pS_disj r) (pS_cover r) f
  have e' : sPt c Finset.univ f = bigSep Finset.univ fun r : Fin 3 => sPt c (qS r) f :=
    split_eq (F := F) (ℓ := (c : Thread nD τ).loc cc0_scratch1) (fun r : Fin 3 => qS r) Finset.univ qS_disj qS_cover f
  rw [e', bigSep_fin3, e, e, e]

/-- The numerators to send, head by head, at some contents each. -/
theorem s_split (f : Vec F S3x8x256x128 .f32) :
    sPt c Finset.univ f ⊢ iprop((bigSep Finset.univ fun h : Fin 8 => iprop(∃ f, sPt c (pS 0 h) f))
      ∗ (bigSep Finset.univ fun h : Fin 8 => iprop(∃ f, sPt c (pS 1 h) f)) ∗ (bigSep Finset.univ fun h : Fin 8 => iprop(∃ f, sPt c (pS 2 h) f))) := by
  have e : ∀ r : Fin 3, (bigSep Finset.univ fun h : Fin 8 => sPt c (pS r h) f) ⊢ bigSep Finset.univ fun h : Fin 8 => iprop(∃ f, sPt (F := F) c (pS r h) f) :=
    fun r => bigSep_mono fun h _ => exists_intro (Φ := fun f => sPt (F := F) c (pS r h) f) f
  rw [s_eq]
  exact BIClass.sep_mono (e 0) (BIClass.sep_mono (e 1) (e 2))

/-- The received numerators, slot by slot. -/
theorem r_split (f : Vec F S3x8x256x128 .f32) :
    rPt c Finset.univ f ⊢ iprop((∃ f, rPt c (qS 0) f) ∗ (∃ f, rPt c (qS 1) f) ∗ (∃ f, rPt c (qS 2) f)) := by
  refine (split_ex (F := F) (ℓ := (c : Thread nD τ).loc cc0_scratch2) (fun r : Fin 3 => qS r) Finset.univ qS_disj qS_cover f).trans ?_
  rw [bigSep_fin3]; exact BI.Entails.refl _

/-- A slot of received numerators, head by head. -/
theorem r_heads (r : Fin 3) : iprop(∃ f, rPt (F := F) c (qS r) f) ⊢ bigSep Finset.univ fun h : Fin 8 => iprop(∃ f, rPt (F := F) c (pS r h) f) := by
  iintro ⟨%f, H⟩
  iapply (split_ex (F := F) (ℓ := (c : Thread nD τ).loc cc0_scratch2) (fun h : Fin 8 => pS r h) (qS r) (pS_disj r) (pS_cover r) f) $$ H

/-- The received numerators are their heads. -/
theorem r_join (f : Vec F S3x8x256x128 .f32) : rPt c Finset.univ f
    = iprop((bigSep Finset.univ fun h : Fin 8 => rPt c (pS 0 h) f) ∗ (bigSep Finset.univ fun h : Fin 8 => rPt c (pS 1 h) f)
      ∗ (bigSep Finset.univ fun h : Fin 8 => rPt c (pS 2 h) f)) := by
  have e : ∀ r : Fin 3, rPt c (qS r) f = bigSep Finset.univ fun h : Fin 8 => rPt c (pS r h) f := fun r =>
    split_eq (F := F) (ℓ := (c : Thread nD τ).loc cc0_scratch2) (fun h : Fin 8 => pS r h) (qS r) (pS_disj r) (pS_cover r) f
  have e' : rPt c Finset.univ f = bigSep Finset.univ fun r : Fin 3 => rPt c (qS r) f :=
    split_eq (F := F) (ℓ := (c : Thread nD τ).loc cc0_scratch2) (fun r : Fin 3 => qS r) Finset.univ qS_disj qS_cover f
  rw [e', bigSep_fin3, e, e, e]

/-- The denominators computed here, slot by slot. -/
theorem l_split (f : Vec F S4x256x8 .f32) :
    lPt c Finset.univ f ⊢ iprop((∃ f, lPt c (lS 0) f) ∗ (∃ f, lPt c (lS 1) f) ∗ (∃ f, lPt c (lS 2) f) ∗ (∃ f, lPt c (lS 3) f)) := by
  refine (split_ex (F := F) (ℓ := (c : Thread nD τ).loc cc0_scratch3) (fun r : Fin 4 => lS r) Finset.univ lS_disj lS_cover f).trans ?_
  rw [bigSep_fin4]; exact BI.Entails.refl _

/-- The slots of denominators join to the buffer. -/
theorem l_join : iprop((∃ f, lPt (F := F) c (lS 0) f) ∗ (∃ f, lPt (F := F) c (lS 1) f) ∗ (∃ f, lPt (F := F) c (lS 2) f) ∗ (∃ f, lPt (F := F) c (lS 3) f))
    ⊢ iprop(∃ f, lPt (F := F) c Finset.univ f) := by
  haveI : Nonempty (Buf (Elt F) ((c : Thread nD τ).loc cc0_scratch3)) := ⟨fun _ => FloatOps.ofBits (F := F) .f32 0#32⟩
  have h := join_ex (F := F) (ℓ := (c : Thread nD τ).loc cc0_scratch3) (fun r : Fin 4 => lS r) Finset.univ lS_disj lS_cover
  rw [bigSep_fin4] at h
  exact h

/-- The received denominators, slot by slot. -/
theorem lr_split (f : Vec F S3x256x8 .f32) :
    lrPt c Finset.univ f ⊢ iprop((∃ f, lrPt c (lS 0) f) ∗ (∃ f, lrPt c (lS 1) f) ∗ (∃ f, lrPt c (lS 2) f)) := by
  refine (split_ex (F := F) (ℓ := (c : Thread nD τ).loc cc0_scratch4) (fun r : Fin 3 => lS r) Finset.univ lS_disj lS_cover f).trans ?_
  rw [bigSep_fin3]; exact BI.Entails.refl _

/-- The slots of received denominators join to the buffer. -/
theorem lr_join : iprop((∃ f, lrPt (F := F) c (lS 0) f) ∗ (∃ f, lrPt (F := F) c (lS 1) f) ∗ (∃ f, lrPt (F := F) c (lS 2) f))
    ⊢ iprop(∃ f, lrPt (F := F) c Finset.univ f) := by
  haveI : Nonempty (Buf (Elt F) ((c : Thread nD τ).loc cc0_scratch4)) := ⟨fun _ => FloatOps.ofBits (F := F) .f32 0#32⟩
  have h := join_ex (F := F) (ℓ := (c : Thread nD τ).loc cc0_scratch4) (fun r : Fin 3 => lS r) Finset.univ lS_disj lS_cover
  rw [bigSep_fin3] at h
  exact h

/-! ## The copy semaphores, kind by kind -/

/-- A product over the copies' semaphores, kind by kind. -/
theorem bigSep_key {M : Type} [URA M] (Φ : Key → sProp M) : bigSep Finset.univ Φ
    = iprop(((bigSep Finset.univ fun r : Fin 3 => Φ (.qs r)) ∗ (bigSep Finset.univ fun r : Fin 3 => Φ (.qr r)))
      ∗ ((bigSep Finset.univ fun r : Fin 3 => bigSep Finset.univ fun h : Fin 8 => Φ (.ps r h))
        ∗ (bigSep Finset.univ fun r : Fin 3 => bigSep Finset.univ fun h : Fin 8 => Φ (.pr r h)))
      ∗ ((bigSep Finset.univ fun r : Fin 3 => Φ (.ls r)) ∗ (bigSep Finset.univ fun r : Fin 3 => Φ (.lr r)))) := by
  rw [bigSep_univ_equiv keySum Φ, BI.bigSep_univ_sum, BI.bigSep_univ_sum, BI.bigSep_univ_sum, BI.bigSep_univ_sum, BI.bigSep_univ_sum,
    bigSep_univ_prod, bigSep_univ_prod]
  rfl

/-- All copy cells of a device are open. -/
def opened (c : Dev nD) : sProp 𝕄 := bigSep Finset.univ fun k : Key => reached ER (cell c k) 0

/-- That the cells are open may be consulted as often as needed. -/
instance opened_persistent : BI.Persistent (opened (F := F) c) := by unfold opened; infer_instance

/-- Each cell is open. -/
theorem opened_at (k : Key) : opened c ⊢ (reached ER (cell c k) 0 : sProp 𝕄) := bigSep_elim (Finset.mem_univ k)

/-- The heads' cells are open. -/
theorem opened_heads (key : Fin 8 → Key) : opened (F := F) c ⊢ bigSep Finset.univ fun h : Fin 8 => reached ER (cell c (key h)) 0 :=
  bigSep_intro_persistent fun h _ => opened_at c (key h)

/-! ## What is handed over at the barrier -/

/-- What a device hands over with its first two signals. -/
theorem give_bar (d : Fin 3) (hd : d ≠ 2) :
    iprop(opened c ∗ (∃ f, rPt (F := F) c (qS d) f) ∗ (∃ f, lrPt (F := F) c (lS d) f)) ⊢ barPay (F := F) (c + d.succ) d := by
  unfold barPay
  rw [fwd_back, if_neg hd]
  iintro ⟨#HR, Hr, Hl⟩
  isplitl [Hr]; · iexact Hr
  isplitl [Hl]; · iexact Hl
  isplitr; · iapply (opened_heads c (Key.pr d)); iexact HR
  isplitr; · iapply (opened_at c (.lr d)); iexact HR
  iempintro

/-- What a device hands over with its last signal: the query slots too. -/
theorem give_bar2 :
    iprop(opened c ∗ (∃ f, rPt (F := F) c (qS 2) f) ∗ (∃ f, lrPt (F := F) c (lS 2) f)
      ∗ (∃ f, qPt (F := F) c (qS 1) fullShare f) ∗ (∃ f, qPt (F := F) c (qS 2) fullShare f) ∗ (∃ f, qPt (F := F) c (qS 3) fullShare f))
      ⊢ barPay (F := F) (c + (2 : Fin 3).succ) 2 := by
  unfold barPay
  rw [fwd_back, if_pos rfl, show c + (2 : Fin 3).succ + 1 = c from by revert c; decide, bigSep_fin3]
  iintro ⟨#HR, Hr, Hl, H1, H2, H3⟩
  isplitl [Hr]; · iexact Hr
  isplitl [Hl]; · iexact Hl
  isplitr; · iapply (opened_heads c (Key.pr 2)); iexact HR
  isplitr; · iapply (opened_at c (.lr 2)); iexact HR
  isplitl [H1]
  · isplitl [H1]; · iexact H1
    iapply (opened_at c (.qr 0)); iexact HR
  isplitl [H2]
  · isplitl [H2]; · iexact H2
    iapply (opened_at c (.qr 1)); iexact HR
  isplitl [H3]; · iexact H3
  iapply (opened_at c (.qr 2)); iexact HR

/-- What a device takes from the first two barrier units. -/
theorem take_bar (d : Fin 3) (hd : d ≠ 2) : barPay (F := F) c d
    ⊢ iprop((bigSep Finset.univ fun h : Fin 8 => iprop(∃ f, rPt (F := F) (c - d.succ) (pS d h) f)) ∗ (∃ f, lrPt (F := F) (c - d.succ) (lS d) f)
      ∗ (bigSep Finset.univ fun h : Fin 8 => reached ER (cell (c - d.succ) (.pr d h)) 0) ∗ reached ER (cell (c - d.succ) (.lr d)) 0) := by
  unfold barPay
  iintro ⟨Hr, Hl, Hp, Hq, -⟩
  isplitl [Hr]; · iapply (r_heads (c - d.succ) d) $$ Hr
  isplitl [Hl]; · iexact Hl
  isplitl [Hp]; · iexact Hp
  iexact Hq

/-- What a device takes from the last barrier unit: the right neighbour's query slots too. -/
theorem take_bar2 : barPay (F := F) c 2
    ⊢ iprop((bigSep Finset.univ fun h : Fin 8 => iprop(∃ f, rPt (F := F) (c - (2 : Fin 3).succ) (pS 2 h) f))
      ∗ (∃ f, lrPt (F := F) (c - (2 : Fin 3).succ) (lS 2) f)
      ∗ (bigSep Finset.univ fun h : Fin 8 => reached ER (cell (c - (2 : Fin 3).succ) (.pr 2 h)) 0) ∗ reached ER (cell (c - (2 : Fin 3).succ) (.lr 2)) 0
      ∗ ((∃ f, qPt (F := F) (c + 1) (qS (0 : Fin 3).succ) fullShare f) ∗ reached ER (cell (c + 1) (.qr 0)) 0)
      ∗ ((∃ f, qPt (F := F) (c + 1) (qS (1 : Fin 3).succ) fullShare f) ∗ reached ER (cell (c + 1) (.qr 1)) 0)
      ∗ ((∃ f, qPt (F := F) (c + 1) (qS (2 : Fin 3).succ) fullShare f) ∗ reached ER (cell (c + 1) (.qr 2)) 0)) := by
  unfold barPay
  rw [if_pos rfl, bigSep_fin3]
  iintro ⟨Hr, Hl, Hp, Hq, Hs⟩
  isplitl [Hr]; · iapply (r_heads (c - (2 : Fin 3).succ) 2) $$ Hr
  isplitl [Hl]; · iexact Hl
  isplitl [Hp]; · iexact Hp
  isplitl [Hq]; · iexact Hq
  iexact Hs

/-! ## The families of the loops -/

/-- What a loop that sends the numerators starts from. -/
theorem before_intro (r : Fin 3) :
    iprop(opened c ∗ (bigSep Finset.univ fun h : Fin 8 => iprop(∃ f, sPt (F := F) c (pS r h) f))
        ∗ (bigSep Finset.univ fun h : Fin 8 => iprop(∃ f, rPt (F := F) (c - r.succ) (pS r h) f))
        ∗ (bigSep Finset.univ fun h : Fin 8 => dutyTok ER (cell c (.ps r h)) 0 0)
        ∗ (bigSep Finset.univ fun h : Fin 8 => dutyTok ER (cell (c - r.succ) (.pr r h)) 0 0)
        ∗ (bigSep Finset.univ fun h : Fin 8 => reached ER (cell (c - r.succ) (.pr r h)) 0))
      ⊢ bigSep Finset.univ (before (F := F) c r) := by
  unfold before
  rw [bigSep_sep', bigSep_sep', bigSep_sep', bigSep_sep', bigSep_sep']
  iintro ⟨#HR, Hs, Hr, Ht₁, Ht₂, Hp⟩
  isplitl [Hs]; · iexact Hs
  isplitl [Hr]; · iexact Hr
  isplitl [Ht₁]; · iexact Ht₁
  isplitr; · iapply (opened_heads c (Key.ps r)); iexact HR
  isplitl [Ht₂]; · iexact Ht₂
  iexact Hp

/-- What is to be waited for, kind by kind. -/
theorem due_eq (key : Fin 3 → Fin 8 → Key) : bigSep Finset.univ (due (F := F) c key)
    = iprop(((bigSep Finset.univ fun h : Fin 8 => cred (tallyAt (cell c (key 0 h)) () (key 0 h).units)) ∗ (bigSep Finset.univ fun h : Fin 8 => atPos ER (cell c (key 0 h)) 0 ∅ 0))
      ∗ ((bigSep Finset.univ fun h : Fin 8 => cred (tallyAt (cell c (key 1 h)) () (key 1 h).units)) ∗ (bigSep Finset.univ fun h : Fin 8 => atPos ER (cell c (key 1 h)) 0 ∅ 0))
      ∗ ((bigSep Finset.univ fun h : Fin 8 => cred (tallyAt (cell c (key 2 h)) () (key 2 h).units)) ∗ (bigSep Finset.univ fun h : Fin 8 => atPos ER (cell c (key 2 h)) 0 ∅ 0))) := by
  unfold due
  rw [bigSep_sep', bigSep_sep', bigSep_sep', bigSep_sep', bigSep_sep']

/-- What was waited for, kind by kind. -/
theorem got_eq (det : Bool) (X : Inputs F) (key : Fin 3 → Fin 8 → Key) : bigSep Finset.univ (got det X c key)
    = iprop(((bigSep Finset.univ fun h : Fin 8 => semVal (cell c (key 0 h)) 0) ∗ (bigSep Finset.univ fun h : Fin 8 => keyPay det X c (key 0 h)))
      ∗ ((bigSep Finset.univ fun h : Fin 8 => semVal (cell c (key 1 h)) 0) ∗ (bigSep Finset.univ fun h : Fin 8 => keyPay det X c (key 1 h)))
      ∗ ((bigSep Finset.univ fun h : Fin 8 => semVal (cell c (key 2 h)) 0) ∗ (bigSep Finset.univ fun h : Fin 8 => keyPay det X c (key 2 h)))) := by
  unfold got
  rw [bigSep_sep', bigSep_sep', bigSep_sep', bigSep_sep', bigSep_sep']

end Cert.Proof.Ring

end
-- ==== Proof.Body.lean ====
/- The kernel's body on one device, from its first signal to its last wait. -/
module

public import proofs.«01_k».proof.Proof.Pieces

@[expose] public section

noncomputable section

namespace Cert.Proof.Ring

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- A counted loop at the head of a program. -/
theorem loop_rule {α : Type} {Q : α → sProp 𝕄} (c : Dev nD) {lb ub st : BitVec 32} {hok : Scf.OK lb ub st}
    {body : Fin (Scf.trips lb ub st) → Unit → Prog (TpuEff nD τ sig (Elt F) Λ₀ .tc) Unit} {kk : Unit → Prog (TpuEff nD τ sig (Elt F) Λ₀ .tc) α}
    (I : ℕ → sProp 𝕄) (h8 : Scf.trips lb ub st = 8) (hbody : ∀ t : Fin (Scf.trips lb ub st), I t.val ⊢ WP c (body t ⟨⟩) (fun _ => I (t.val + 1))) :
    I 0 ⊢ iprop((I 8 -∗ WP c (kk ⟨⟩) Q) -∗ WP c ((Scf.for lb ub st hok ⟨⟩ body).bind kk) Q) := by
  have h := Scf.wp_for_bind frame (wpE (defs₀ (F := F)) 𝒱₀ (c : Thread nD τ) none) Set.univ lb ub st hok ⟨⟩ body (fun k _ => I k)
    (fun k _ => hbody k) (kk := kk) (Q := Q)
  refine h.trans ?_
  rw [h8]
  iintro HW HK
  iapply HW
  iintro %_ HI
  iapply HK; iexact HI

variable (det : Bool) (hdet : det = true → Law F) (X : Inputs F) (K : GSem nD τ sig → ℕ)

/-- What a device starts the kernel with, besides what it knows of the cells: its buffers, its positions on its cells, the duties it
    will do, the units it will take, and what it owes. -/
def start (c : Dev nD) : sProp 𝕄 :=
  iprop((iqPt c (X.q c) ∗ ikPt c (X.k c) ∗ ivPt c (X.v c) ∗ ∃ f, oPt c Finset.univ f)
    ∗ ((∃ f, qPt c Finset.univ fullShare f) ∗ (∃ f, sPt c Finset.univ f) ∗ (∃ f, rPt c Finset.univ f) ∗ (∃ f, lPt c Finset.univ f)
      ∗ ∃ f, lrPt c Finset.univ f)
    ∗ (atPos ER (barCell c) 0 ∅ 0 ∗ bigSep Finset.univ fun k : Key => atPos ER (cell c k) 0 ∅ 0)
    ∗ ((bigSep Finset.univ fun d : Fin 3 => dutyTok ER (barCell (c + d.succ)) 0 d)
      ∗ (bigSep Finset.univ fun r : Fin 3 => dutyTok ER (cell c (.qs r)) 0 0)
      ∗ (bigSep Finset.univ fun r : Fin 3 => dutyTok ER (cell (c + 1) (.qr r)) 0 0)
      ∗ (bigSep Finset.univ fun r : Fin 3 => bigSep Finset.univ fun h : Fin 8 => dutyTok ER (cell c (.ps r h)) 0 0)
      ∗ (bigSep Finset.univ fun r : Fin 3 => bigSep Finset.univ fun h : Fin 8 => dutyTok ER (cell (c - r.succ) (.pr r h)) 0 0)
      ∗ (bigSep Finset.univ fun r : Fin 3 => dutyTok ER (cell c (.ls r)) 0 0)
      ∗ (bigSep Finset.univ fun r : Fin 3 => dutyTok ER (cell (c - r.succ) (.lr r)) 0 0))
    ∗ (cred (tallyAt (barCell c) () 3)
      ∗ (bigSep Finset.univ fun r : Fin 3 => cred (tallyAt (cell c (.qr r)) () Nq))
      ∗ (bigSep Finset.univ fun r : Fin 3 => bigSep Finset.univ fun h : Fin 8 => cred (tallyAt (cell c (.pr r h)) () Np))
      ∗ (bigSep Finset.univ fun r : Fin 3 => cred (tallyAt (cell c (.lr r)) () Nl)))
    ∗ ow c (owe12 c))

/-- What it ends with: its buffers, its results in the output's, every counter at zero, and nothing owed. -/
def done (c : Dev nD) : sProp 𝕄 :=
  iprop((iqPt c (X.q c) ∗ ikPt c (X.k c) ∗ ivPt c (X.v c) ∗ ∃ f, ⌜det = true → f = RES X c⌝ ∗ oPt c Finset.univ f)
    ∗ ((∃ f, qPt c Finset.univ fullShare f) ∗ (∃ f, sPt c Finset.univ f) ∗ (∃ f, rPt c Finset.univ f) ∗ (∃ f, lPt c Finset.univ f)
      ∗ ∃ f, lrPt c Finset.univ f)
    ∗ (semVal (barCell c) 0 ∗ bigSep Finset.univ fun k : Key => semVal (cell c k) 0)
    ∗ ow c 0)

/-- A slot depends only on its own elements. -/
theorem lslab_congr {n : ℕ} {f g : Vec F ⟨3, ![n, 256, 8]⟩ .f32} (r : Fin n) (h : ∀ i ∈ (lS r : Finset (⟨3, ![n, 256, 8]⟩ : Shape).Idx), f i = g i) :
    lslab f r = lslab g r := funext fun _ => h _ (mem_lS.mpr rfl)

/-- The target of the first barrier signal. -/
theorem dev1_eq (c : Dev nD) : (⟨k0_dev1 c, k0_dev1_lt c⟩ : Dev nD) = c + (0 : Fin 3).succ := by revert c; decide
/-- The target of the second barrier signal. -/
theorem dev2_eq (c : Dev nD) : (⟨k0_dev2 c, k0_dev2_lt c⟩ : Dev nD) = c + (1 : Fin 3).succ := by revert c; decide
/-- The target of the third barrier signal. -/
theorem dev3_eq (c : Dev nD) : (⟨k0_dev3 c, k0_dev3_lt c⟩ : Dev nD) = c + (2 : Fin 3).succ := by revert c; decide
/-- The target of the first hop. -/
theorem dev4_eq (c : Dev nD) : (⟨k0_dev4 c, k0_dev4_lt c⟩ : Dev nD) = c + 1 := by revert c; decide
/-- The target of the second hop. -/
theorem dev5_eq (c : Dev nD) : (⟨k0_dev5 c, k0_dev5_lt c⟩ : Dev nD) = c + 1 := by revert c; decide
/-- The target of the third hop. -/
theorem dev8_eq (c : Dev nD) : (⟨k0_dev8 c, k0_dev8_lt c⟩ : Dev nD) = c + 1 := by revert c; decide
/-- The target of the denominators of round 1. -/
theorem dev7_eq (c : Dev nD) : (⟨k0_dev7 c, k0_dev7_lt c⟩ : Dev nD) = c - (0 : Fin 3).succ := by revert c; decide
/-- The target of the denominators of round 2. -/
theorem dev10_eq (c : Dev nD) : (⟨k0_dev10 c, k0_dev10_lt c⟩ : Dev nD) = c - (1 : Fin 3).succ := by revert c; decide
/-- The target of the denominators of round 3. -/
theorem dev12_eq (c : Dev nD) : (⟨k0_dev12 c, k0_dev12_lt c⟩ : Dev nD) = c - (2 : Fin 3).succ := by revert c; decide

/-- The first slot of queries, as it is stored. -/
theorem stored_q (c : Dev nD) : ∀ i ∈ (qS 0 : Finset S4x8x256x128.Idx), QB X c i = k0_pay20 (X.q c) (ix4 (0 : Fin 1) (i 1) (i 2) (i 3)) := by
  intro i hi
  unfold k0_pay20
  rw [shapeCast_self]
  refine Eq.trans ?_ (shapeCast_abc_1abc_apply (X.q c) shapeCasts_S8x256x128_S1x8x256x128 (0 : Fin 1) (i 1) (i 2) (i 3)).symm
  have h0 : slot4 i = (0 : Fin 4) := Fin.ext (mem_qS.mp hi)
  have h1 : c - slot4 i = c := by rw [h0]; revert c; decide
  exact congrArg (fun d => X.q d (ix3 (i 1) (i 2) (i 3))) h1

/-- A landed slot of queries. -/
theorem pay_qr (c : Dev nD) (r : Fin 3) (s : Fin 4) (hs : r.succ = s) : keyPay det X c (.qr r) ⊢ qPt c (qS s) fullShare (QB X c) := by
  subst hs; exact BI.Entails.refl _
/-- A sent slot of queries is given back. -/
theorem pay_qs (c : Dev nD) (r : Fin 3) (s : Fin 4) (hs : r.castSucc = s) : keyPay det X c (.qs r) ⊢ qPt c (qS s) fullShare.left (QB X c) := by
  subst hs; exact BI.Entails.refl _
/-- A sent slot of denominators is given back. -/
theorem pay_ls (c : Dev nD) (r : Fin 3) (s : Fin 4) (hs : r.succ = s) : keyPay det X c (.ls r) ⊢ iprop(∃ f, lPt c (lS s) f) := by
  subst hs; exact BI.Entails.refl _
/-- A landed slot of denominators. -/
theorem pay_lr (c : Dev nD) (r : Fin 3) : keyPay det X c (.lr r) ⊢ iprop(∃ f, ⌜det = true → ∀ i ∈ lS r, f i = LR X c i⌝ ∗ lrPt c (lS r) f) :=
  BI.Entails.refl _
/-- The sent numerators of a round are given back. -/
theorem pay_ps (c : Dev nD) (r : Fin 3) : (bigSep Finset.univ fun h : Fin 8 => keyPay det X c (.ps r h))
    ⊢ bigSep Finset.univ fun h : Fin 8 => sPt c (pS r h) (PS X c) := BI.Entails.refl _
/-- The landed numerators of a round. -/
theorem pay_pr (c : Dev nD) (r : Fin 3) : (bigSep Finset.univ fun h : Fin 8 => keyPay det X c (.pr r h))
    ⊢ bigSep Finset.univ fun h : Fin 8 => rPt c (pS r h) (PR X c) := BI.Entails.refl _

/-- The quotients from the right denominators are the result. -/
theorem RESL_eq (c : Dev nD) {l0 l1 l2 l3 : Vec F S1x256x8 .f32} (h0 : l0 = lslab (LS X c) 0) (h1 : l1 = lslab (LR X c) 0)
    (h2 : l2 = lslab (LR X c) 1) (h3 : l3 = lslab (LR X c) 2) : RESL X c l0 l1 l2 l3 = RES X c := by
  subst h0 h1 h2 h3; rfl

include hdet in
set_option maxHeartbeats 8000000 in
/-- The body of the kernel on a symbolic device: from its buffers and its duties to its result, every counter at zero, nothing owed. -/
theorem body (c : Dev nD) :
    iprop(invs det X K ∗ levAts L lv ∗ opened c ∗ (bigSep Finset.univ fun d : Fin 3 => reached ER (barCell (c + d.succ)) 0) ∗ start X c)
      ⊢ WP c (cc0_body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10) (fun _ => done det X c) := by
  simp only [cc0_body_eq_skeleton]; unfold cc0_body_skel
  simp only [k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton]
  unfold k0_part6_skel k0_part7_skel k0_part8_skel k0_part9_skel k0_part10_skel k0_part11_skel k0_part12_skel k0_part13_skel k0_part14_skel k0_part15_skel k0_part16_skel k0_part17_skel k0_part18_skel k0_part19_skel k0_part20_skel k0_part21_skel k0_part22_skel
  simp only [semSignalWord, semWaitWord, Prog.lift, Prog.bind_op, Prog.bind_ret, Prog.pure_eq_ret, Prog.bind_assoc, wp_deviceId]
  unfold start
  simp only [bigSep_fin3, bigSep_key, -Fin.reduceSucc]
  iintro ⟨#HI, #Hlev, #HR, ⟨#HB0, #HB1, #HB2⟩, ⟨Hiq, Hik, Hiv, ⟨%f0, Ho⟩⟩, ⟨⟨%fq, Hq⟩, ⟨%fs, Hs⟩, ⟨%fr, Hr⟩, ⟨%fl, Hl⟩, ⟨%fm, Hm⟩⟩,
      ⟨Hbp, ⟨⟨Aqs0, Aqs1, Aqs2⟩, ⟨Aqr0, Aqr1, Aqr2⟩⟩, ⟨⟨Aps0, Aps1, Aps2⟩, ⟨Apr0, Apr1, Apr2⟩⟩, ⟨Als0, Als1, Als2⟩, ⟨Alr0, Alr1, Alr2⟩⟩,
      ⟨⟨D0, D1, D2⟩, ⟨Tqs0, Tqs1, Tqs2⟩, ⟨Tqr0, Tqr1, Tqr2⟩, ⟨Tps0, Tps1, Tps2⟩, ⟨Tpr0, Tpr1, Tpr2⟩, ⟨Tls0, Tls1, Tls2⟩, ⟨Tlr0, Tlr1, Tlr2⟩⟩,
      ⟨Cb, ⟨Cqr0, Cqr1, Cqr2⟩, ⟨Cpr0, Cpr1, Cpr2⟩, ⟨Clr0, Clr1, Clr2⟩⟩, HO⟩
  ihave Hq := (q_split c fq) $$ Hq
  icases Hq with ⟨⟨%fq0, Q0⟩, Q1, Q2, Q3⟩
  ihave Hs := (s_split c fs) $$ Hs
  icases Hs with ⟨S0, S1, S2⟩
  ihave Hr := (r_split c fr) $$ Hr
  icases Hr with ⟨R0, R1, R2⟩
  ihave Hl := (l_split c fl) $$ Hl
  icases Hl with ⟨⟨%fl0, L0⟩, ⟨%fl1, L1⟩, ⟨%fl2, L2⟩, ⟨%fl3, L3⟩⟩
  ihave Hm := (lr_split c fm) $$ Hm
  icases Hm with ⟨M0, M1, M2⟩
  rw [show owe12 c = owe11 c + oB c 0 from rfl]
  ihave P0 := (give_bar c 0 (by decide)) $$ [R0 M0]
  · isplitr; · iexact HR
    isplitl [R0]; · iexact R0
    iexact M0
  iapply (signal_bar det X K c _ 0 (dev1_eq c) (owe11 c)) $$ [D0 P0 HO]
  · isplitr; · iexact HI
    isplitr; · iexact HB0
    isplitl [D0]; · iexact D0
    isplitl [P0]; · iexact P0
    iexact HO
  iintro HO
  rw [show owe11 c = owe10 c + oB c 1 from rfl]
  ihave P1 := (give_bar c 1 (by decide)) $$ [R1 M1]
  · isplitr; · iexact HR
    isplitl [R1]; · iexact R1
    iexact M1
  iapply (signal_bar det X K c _ 1 (dev2_eq c) (owe10 c)) $$ [D1 P1 HO]
  · isplitr; · iexact HI
    isplitr; · iexact HB1
    isplitl [D1]; · iexact D1
    isplitl [P1]; · iexact P1
    iexact HO
  iintro HO
  rw [show owe10 c = owe9 c + oB c 2 from rfl]
  ihave P2 := (give_bar2 c) $$ [R2 M2 Q1 Q2 Q3]
  · isplitr; · iexact HR
    isplitl [R2]; · iexact R2
    isplitl [M2]; · iexact M2
    isplitl [Q1]; · iexact Q1
    isplitl [Q2]; · iexact Q2
    iexact Q3
  iapply (signal_bar det X K c _ 2 (dev3_eq c) (owe9 c)) $$ [D2 P2 HO]
  · isplitr; · iexact HI
    isplitr; · iexact HB2
    isplitl [D2]; · iexact D2
    isplitl [P2]; · iexact P2
    iexact HO
  iintro HO
  iapply (wait_bar det X K c (above_owe9 c (by decide))) $$ [Cb Hbp HO]
  · isplitr; · iexact HI
    isplitr; · iexact Hlev
    isplitl [Cb]; · iexact Cb
    isplitl [Hbp]; · iexact Hbp
    iexact HO
  iintro ⟨HO, Vb, P0, P1, P2⟩
  ihave P0 := (take_bar c 0 (by decide)) $$ P0
  icases P0 with ⟨R0, M0, G0, #H0⟩
  ihave P1 := (take_bar c 1 (by decide)) $$ P1
  icases P1 with ⟨R1, M1, G1, #H1⟩
  ihave P2 := (take_bar2 c) $$ P2
  icases P2 with ⟨R2, M2, G2, #H2, ⟨Q1, #E0⟩, ⟨Q2, #E1⟩, ⟨Q3, #E2⟩⟩
  ihave B0 := (before_intro c 0) $$ [S0 R0 Tps0 Tpr0 G0]
  · isplitr; · iexact HR
    isplitl [S0]; · iexact S0
    isplitl [R0]; · iexact R0
    isplitl [Tps0]; · iexact Tps0
    isplitl [Tpr0]; · iexact Tpr0
    iexact G0
  ihave B1 := (before_intro c 1) $$ [S1 R1 Tps1 Tpr1 G1]
  · isplitr; · iexact HR
    isplitl [S1]; · iexact S1
    isplitl [R1]; · iexact R1
    isplitl [Tps1]; · iexact Tps1
    isplitl [Tpr1]; · iexact Tpr1
    iexact G1
  ihave B2 := (before_intro c 2) $$ [S2 R2 Tps2 Tpr2 G2]
  · isplitr; · iexact HR
    isplitl [S2]; · iexact S2
    isplitl [R2]; · iexact R2
    isplitl [Tps2]; · iexact Tps2
    isplitl [Tpr2]; · iexact Tpr2
    iexact G2
  iapply (load_iq c rfl) $$ Hiq; iintro Hiq
  iapply (load_q_slot c 0 rfl) $$ Q0; iintro Q0
  iapply (store_q c 0 rfl (stored_q X c)) $$ Q0; iintro Q0
  ihave Q0 := (q_halves c 0 (QB X c)).1 $$ Q0
  icases Q0 with ⟨QL0, QR0⟩
  rw [show owe9 c = owe8 c + oQ c 0 from rfl]
  iapply (send_q det X K c _ 0 (dev4_eq c) rfl rfl (by decide) (by decide) (owe8 c)) $$ [QL0 Q1 Tqs0 Tqr0 HO]
  · isplitr; · iexact HI
    isplitl [QL0]; · iexact QL0
    isplitl [Q1]; · iexact Q1
    isplitl [Tqs0]; · iexact Tqs0
    isplitr; · iapply (opened_at c (.qs 0)); iexact HR
    isplitl [Tqr0]; · iexact Tqr0
    isplitr; · iexact E0
    iexact HO
  iintro ⟨Cqs0, HO⟩
  iapply (loop_rule c (inv1 X c f0 fl0) (by rfl) (by intro t; exact trip1 X c f0 fl0 t _ _ _ _ _ _ _ rfl rfl)) $$ [QR0 Hik Hiv Ho L0]
  · unfold inv1
    rw [mix_zero]
    isplitl [QR0]; · iexact QR0
    isplitl [Hik]; · iexact Hik
    isplitl [Hiv]; · iexact Hiv
    isplitl [Ho]; · iexact Ho
    iexact L0
  iintro HL
  unfold inv1
  icases HL with ⟨QR0, Hik, Hiv, Ho, L0⟩
  rw [mix_all]
  iapply (wait_key det X K c (.qr 0) (by decide) (by rfl) (above_owe8 c (by decide)) (by decide : Key.level _ ≤ 2)) $$ [Cqr0 Aqr0 HO]
  · isplitr; · iexact HI
    isplitr; · iexact Hlev
    isplitl [Cqr0]; · iexact Cqr0
    isplitl [Aqr0]; · iexact Aqr0
    iexact HO
  iintro ⟨HO, Vqr0, Q1⟩
  ihave Q1 := (pay_qr det X c 0 1 rfl) $$ Q1
  ihave Q1 := (q_halves c 1 (QB X c)).1 $$ Q1
  icases Q1 with ⟨QL1, QR1⟩
  rw [show owe8 c = owe7 c + oQ c 1 from rfl]
  iapply (send_q det X K c _ 1 (dev5_eq c) rfl rfl (by decide) (by decide) (owe7 c)) $$ [QL1 Q2 Tqs1 Tqr1 HO]
  · isplitr; · iexact HI
    isplitl [QL1]; · iexact QL1
    isplitl [Q2]; · iexact Q2
    isplitl [Tqs1]; · iexact Tqs1
    isplitr; · iapply (opened_at c (.qs 1)); iexact HR
    isplitl [Tqr1]; · iexact Tqr1
    isplitr; · iexact E1
    iexact HO
  iintro ⟨Cqs1, HO⟩
  rw [show owe7 c = owe6 c + oPs c 0 0 from rfl]
  iapply (loop_rule c (inv2 det X K c 0 fullShare.right fl1 (owe6 c)) (by rfl) (by intro t; exact trip2 det X K c fullShare.right fl1 (owe6 c) t _ _ _ _ _ _ rfl rfl)) $$ [QR1 Hik Hiv L1 B0 HO]
  · unfold inv2
    rw [fam_start]
    isplitr; · iexact HI
    isplitl [QR1]; · iexact QR1
    isplitl [Hik]; · iexact Hik
    isplitl [Hiv]; · iexact Hiv
    isplitl [L1]; · iexact L1
    isplitl [B0]; · iexact B0
    iexact HO
  iintro HL
  unfold inv2
  rw [fam_end, oPs_done, add_zero]
  icases HL with ⟨-, QR1, Hik, Hiv, L1, Cps0, HO⟩
  rw [show owe6 c = owe5 c + oL c 0 from rfl]
  iapply (send_l det X K c _ 0 (dev7_eq c) rfl rfl (by decide) (by decide) (lacc X c 1 fl1 8) (fun hd => lacc_all X (hdet hd) c 1 fl1) (owe5 c)) $$ [L1 M0 Tls0 Tlr0 HO]
  · isplitr; · iexact HI
    isplitl [L1]; · iexact L1
    isplitl [M0]; · iexact M0
    isplitl [Tls0]; · iexact Tls0
    isplitr; · iapply (opened_at c (.ls 0)); iexact HR
    isplitl [Tlr0]; · iexact Tlr0
    isplitr; · iexact H0
    iexact HO
  iintro ⟨Cls0, HO⟩
  iapply (wait_key det X K c (.qr 1) (by decide) (by rfl) (above_owe5 c (by decide)) (by decide : Key.level _ ≤ 3)) $$ [Cqr1 Aqr1 HO]
  · isplitr; · iexact HI
    isplitr; · iexact Hlev
    isplitl [Cqr1]; · iexact Cqr1
    isplitl [Aqr1]; · iexact Aqr1
    iexact HO
  iintro ⟨HO, Vqr1, Q2⟩
  ihave Q2 := (pay_qr det X c 1 2 rfl) $$ Q2
  ihave Q2 := (q_halves c 2 (QB X c)).1 $$ Q2
  icases Q2 with ⟨QL2, QR2⟩
  rw [show owe5 c = owe4 c + oQ c 2 from rfl]
  iapply (send_q det X K c _ 2 (dev8_eq c) rfl rfl (by decide) (by decide) (owe4 c)) $$ [QL2 Q3 Tqs2 Tqr2 HO]
  · isplitr; · iexact HI
    isplitl [QL2]; · iexact QL2
    isplitl [Q3]; · iexact Q3
    isplitl [Tqs2]; · iexact Tqs2
    isplitr; · iapply (opened_at c (.qs 2)); iexact HR
    isplitl [Tqr2]; · iexact Tqr2
    isplitr; · iexact E2
    iexact HO
  iintro ⟨Cqs2, HO⟩
  rw [show owe4 c = owe3 c + oPs c 1 0 from rfl]
  iapply (loop_rule c (inv2 det X K c 1 fullShare.right fl2 (owe3 c)) (by rfl) (by intro t; exact trip3 det X K c fullShare.right fl2 (owe3 c) t _ _ _ _ _ _ _ rfl rfl)) $$ [QR2 Hik Hiv L2 B1 HO]
  · unfold inv2
    rw [fam_start]
    isplitr; · iexact HI
    isplitl [QR2]; · iexact QR2
    isplitl [Hik]; · iexact Hik
    isplitl [Hiv]; · iexact Hiv
    isplitl [L2]; · iexact L2
    isplitl [B1]; · iexact B1
    iexact HO
  iintro HL
  unfold inv2
  rw [fam_end, oPs_done, add_zero]
  icases HL with ⟨-, QR2, Hik, Hiv, L2, Cps1, HO⟩
  rw [show owe3 c = owe2 c + oL c 1 from rfl]
  iapply (send_l det X K c _ 1 (dev10_eq c) rfl rfl (by decide) (by decide) (lacc X c 2 fl2 8) (fun hd => lacc_all X (hdet hd) c 2 fl2) (owe2 c)) $$ [L2 M1 Tls1 Tlr1 HO]
  · isplitr; · iexact HI
    isplitl [L2]; · iexact L2
    isplitl [M1]; · iexact M1
    isplitl [Tls1]; · iexact Tls1
    isplitr; · iapply (opened_at c (.ls 1)); iexact HR
    isplitl [Tlr1]; · iexact Tlr1
    isplitr; · iexact H1
    iexact HO
  iintro ⟨Cls1, HO⟩
  iapply (wait_key det X K c (.qr 2) (by decide) (by rfl) (above_owe2 c (by decide)) (by decide : Key.level _ ≤ 4)) $$ [Cqr2 Aqr2 HO]
  · isplitr; · iexact HI
    isplitr; · iexact Hlev
    isplitl [Cqr2]; · iexact Cqr2
    isplitl [Aqr2]; · iexact Aqr2
    iexact HO
  iintro ⟨HO, Vqr2, Q3⟩
  ihave Q3 := (pay_qr det X c 2 3 rfl) $$ Q3
  rw [show owe2 c = owe1 c + oPs c 2 0 from rfl]
  iapply (loop_rule c (inv2 det X K c 2 fullShare fl3 (owe1 c)) (by rfl) (by intro t; exact trip4 det X K c fullShare fl3 (owe1 c) t _ _ _ _ rfl rfl)) $$ [Q3 Hik Hiv L3 B2 HO]
  · unfold inv2
    rw [fam_start]
    isplitr; · iexact HI
    isplitl [Q3]; · iexact Q3
    isplitl [Hik]; · iexact Hik
    isplitl [Hiv]; · iexact Hiv
    isplitl [L3]; · iexact L3
    isplitl [B2]; · iexact B2
    iexact HO
  iintro HL
  unfold inv2
  rw [fam_end, oPs_done, add_zero]
  icases HL with ⟨-, Q3, Hik, Hiv, L3, Cps2, HO⟩
  rw [show owe1 c = 0 + oL c 2 from (zero_add _).symm]
  iapply (send_l det X K c _ 2 (dev12_eq c) rfl rfl (by decide) (by decide) (lacc X c 3 fl3 8) (fun hd => lacc_all X (hdet hd) c 3 fl3) (0)) $$ [L3 M2 Tls2 Tlr2 HO]
  · isplitr; · iexact HI
    isplitl [L3]; · iexact L3
    isplitl [M2]; · iexact M2
    isplitl [Tls2]; · iexact Tls2
    isplitr; · iapply (opened_at c (.ls 2)); iexact HR
    isplitl [Tlr2]; · iexact Tlr2
    isplitr; · iexact H2
    iexact HO
  iintro ⟨Cls2, HO⟩
  iapply (wait_key det X K c (.lr 0) (by decide) (by rfl) (Above.zero 5) (by decide : Key.level _ ≤ 5)) $$ [Clr0 Alr0 HO]
  · isplitr; · iexact HI
    isplitr; · iexact Hlev
    isplitl [Clr0]; · iexact Clr0
    isplitl [Alr0]; · iexact Alr0
    iexact HO
  iintro ⟨HO, Vlr0, N0⟩
  iapply (wait_key det X K c (.lr 1) (by decide) (by rfl) (Above.zero 5) (by decide : Key.level _ ≤ 5)) $$ [Clr1 Alr1 HO]
  · isplitr; · iexact HI
    isplitr; · iexact Hlev
    isplitl [Clr1]; · iexact Clr1
    isplitl [Alr1]; · iexact Alr1
    iexact HO
  iintro ⟨HO, Vlr1, N1⟩
  iapply (wait_key det X K c (.lr 2) (by decide) (by rfl) (Above.zero 5) (by decide : Key.level _ ≤ 5)) $$ [Clr2 Alr2 HO]
  · isplitr; · iexact HI
    isplitr; · iexact Hlev
    isplitl [Clr2]; · iexact Clr2
    isplitl [Alr2]; · iexact Alr2
    iexact HO
  iintro ⟨HO, Vlr2, N2⟩
  ihave N0 := (pay_lr det X c 0) $$ N0
  ihave N1 := (pay_lr det X c 1) $$ N1
  ihave N2 := (pay_lr det X c 2) $$ N2
  icases N0 with ⟨%g0, %hg0, N0⟩
  icases N1 with ⟨%g1, %hg1, N1⟩
  icases N2 with ⟨%g2, %hg2, N2⟩
  iapply (load_l c 0 rfl (Finset.Subset.refl _)) $$ L0; iintro L0
  iapply (load_lr c 0 rfl (Finset.Subset.refl _)) $$ N0; iintro N0
  iapply (load_lr c 1 rfl (Finset.Subset.refl _)) $$ N1; iintro N1
  iapply (load_lr c 2 rfl (Finset.Subset.refl _)) $$ N2; iintro N2
  ihave F5 := (Entails.of_eq (due_eq c Key.pr).symm) $$ [Cpr0 Cpr1 Cpr2 Apr0 Apr1 Apr2]
  · isplitl [Cpr0 Apr0]
    · isplitl [Cpr0]; · iexact Cpr0
      iexact Apr0
    isplitl [Cpr1 Apr1]
    · isplitl [Cpr1]; · iexact Cpr1
      iexact Apr1
    isplitl [Cpr2]; · iexact Cpr2
    iexact Apr2
  iapply (loop_rule c (inv5 det X K c (lslab (lacc X c 0 fl0 8) 0) (lslab g0 0) (lslab g1 1) (lslab g2 2)) (by rfl) (by intro t; exact trip5 det X K c _ _ _ _ t _ _ rfl)) $$ [Ho F5 HO]
  · unfold inv5
    rw [fam_start, mix_zero]
    isplitr; · iexact HI
    isplitr; · iexact Hlev
    isplitl [Ho]; · iexact Ho
    isplitl [F5]; · iexact F5
    iexact HO
  iintro HL
  unfold inv5
  rw [fam_end, mix_all, got_eq]
  icases HL with ⟨-, -, Ho, ⟨⟨Vpr0, R0⟩, ⟨Vpr1, R1⟩, ⟨Vpr2, R2⟩⟩, HO⟩
  ihave F6 := (Entails.of_eq (due_eq c Key.ps).symm) $$ [Cps0 Cps1 Cps2 Aps0 Aps1 Aps2]
  · isplitl [Cps0 Aps0]
    · isplitl [Cps0]; · iexact Cps0
      iexact Aps0
    isplitl [Cps1 Aps1]
    · isplitl [Cps1]; · iexact Cps1
      iexact Aps1
    isplitl [Cps2]; · iexact Cps2
    iexact Aps2
  iapply (loop_rule c (inv6 det X K c) (by rfl) (by intro t; exact trip6 det X K c t _ _)) $$ [F6 HO]
  · unfold inv6
    rw [fam_start]
    isplitr; · iexact HI
    isplitr; · iexact Hlev
    isplitl [F6]; · iexact F6
    iexact HO
  iintro HL
  unfold inv6
  rw [fam_end, got_eq]
  icases HL with ⟨-, -, ⟨⟨Vps0, S0⟩, ⟨Vps1, S1⟩, ⟨Vps2, S2⟩⟩, HO⟩
  iapply (wait_key det X K c (.qs 0) (by decide) (by rfl) (Above.zero 0) (by decide : Key.level _ ≤ 0)) $$ [Cqs0 Aqs0 HO]
  · isplitr; · iexact HI
    isplitr; · iexact Hlev
    isplitl [Cqs0]; · iexact Cqs0
    isplitl [Aqs0]; · iexact Aqs0
    iexact HO
  iintro ⟨HO, Vqs0, QL0⟩
  iapply (wait_key det X K c (.qs 1) (by decide) (by rfl) (Above.zero 0) (by decide : Key.level _ ≤ 0)) $$ [Cqs1 Aqs1 HO]
  · isplitr; · iexact HI
    isplitr; · iexact Hlev
    isplitl [Cqs1]; · iexact Cqs1
    isplitl [Aqs1]; · iexact Aqs1
    iexact HO
  iintro ⟨HO, Vqs1, QL1⟩
  iapply (wait_key det X K c (.ls 0) (by decide) (by rfl) (Above.zero 0) (by decide : Key.level _ ≤ 0)) $$ [Cls0 Als0 HO]
  · isplitr; · iexact HI
    isplitr; · iexact Hlev
    isplitl [Cls0]; · iexact Cls0
    isplitl [Als0]; · iexact Als0
    iexact HO
  iintro ⟨HO, Vls0, L1⟩
  iapply (wait_key det X K c (.qs 2) (by decide) (by rfl) (Above.zero 0) (by decide : Key.level _ ≤ 0)) $$ [Cqs2 Aqs2 HO]
  · isplitr; · iexact HI
    isplitr; · iexact Hlev
    isplitl [Cqs2]; · iexact Cqs2
    isplitl [Aqs2]; · iexact Aqs2
    iexact HO
  iintro ⟨HO, Vqs2, QL2⟩
  iapply (wait_key det X K c (.ls 1) (by decide) (by rfl) (Above.zero 0) (by decide : Key.level _ ≤ 0)) $$ [Cls1 Als1 HO]
  · isplitr; · iexact HI
    isplitr; · iexact Hlev
    isplitl [Cls1]; · iexact Cls1
    isplitl [Als1]; · iexact Als1
    iexact HO
  iintro ⟨HO, Vls1, L2⟩
  iapply (wait_key det X K c (.ls 2) (by decide) (by rfl) (Above.zero 0) (by decide : Key.level _ ≤ 0)) $$ [Cls2 Als2 HO]
  · isplitr; · iexact HI
    isplitr; · iexact Hlev
    isplitl [Cls2]; · iexact Cls2
    isplitl [Als2]; · iexact Als2
    iexact HO
  iintro ⟨HO, Vls2, L3⟩
  unfold WP; rw [wp_ret]; imodintro
  unfold done
  ihave QL0 := (pay_qs det X c 0 0 rfl) $$ QL0
  ihave QL1 := (pay_qs det X c 1 1 rfl) $$ QL1
  ihave QL2 := (pay_qs det X c 2 2 rfl) $$ QL2
  ihave L1 := (pay_ls det X c 0 1 rfl) $$ L1
  ihave L2 := (pay_ls det X c 1 2 rfl) $$ L2
  ihave L3 := (pay_ls det X c 2 3 rfl) $$ L3
  ihave S0 := (pay_ps det X c 0) $$ S0
  ihave S1 := (pay_ps det X c 1) $$ S1
  ihave S2 := (pay_ps det X c 2) $$ S2
  ihave R0 := (pay_pr det X c 0) $$ R0
  ihave R1 := (pay_pr det X c 1) $$ R1
  ihave R2 := (pay_pr det X c 2) $$ R2
  simp only [bigSep_fin3, bigSep_key, -Fin.reduceSucc]
  ihave Q0 := (q_halves c 0 (QB X c)).2 $$ [QL0 QR0]
  · isplitl [QL0]; · iexact QL0
    iexact QR0
  ihave Q1 := (q_halves c 1 (QB X c)).2 $$ [QL1 QR1]
  · isplitl [QL1]; · iexact QL1
    iexact QR1
  ihave Q2 := (q_halves c 2 (QB X c)).2 $$ [QL2 QR2]
  · isplitl [QL2]; · iexact QL2
    iexact QR2
  isplitl [Hiq Hik Hiv Ho]
  · isplitl [Hiq]; · iexact Hiq
    isplitl [Hik]; · iexact Hik
    isplitl [Hiv]; · iexact Hiv
    iexists _
    isplitr
    · ipureintro
      intro hd
      exact RESL_eq X c (lslab_congr 0 (lacc_all X (hdet hd) c 0 fl0)) (lslab_congr 0 (hg0 hd)) (lslab_congr 1 (hg1 hd)) (lslab_congr 2 (hg2 hd))
    · iexact Ho
  isplitl [Q0 Q1 Q2 Q3 S0 S1 S2 R0 R1 R2 L0 L1 L2 L3 N0 N1 N2]
  · isplitl [Q0 Q1 Q2 Q3]
    · iexists (QB X c)
      iapply (q_join c (QB X c))
      isplitl [Q0]; · iexact Q0
      isplitl [Q1]; · iexact Q1
      isplitl [Q2]; · iexact Q2
      iexact Q3
    isplitl [S0 S1 S2]
    · iexists (PS X c)
      rw [s_eq]
      isplitl [S0]; · iexact S0
      isplitl [S1]; · iexact S1
      iexact S2
    isplitl [R0 R1 R2]
    · iexists (PR X c)
      rw [r_join]
      isplitl [R0]; · iexact R0
      isplitl [R1]; · iexact R1
      iexact R2
    isplitl [L0 L1 L2 L3]
    · iapply (l_join c)
      isplitl [L0]; · iexists _; iexact L0
      isplitl [L1]; · iexact L1
      isplitl [L2]; · iexact L2
      iexact L3
    iapply (lr_join c)
    isplitl [N0]; · iexists _; iexact N0
    isplitl [N1]; · iexists _; iexact N1
    iexists _; iexact N2
  isplitr [HO]
  · isplitl [Vb]; · iexact Vb
    isplitl [Vqs0 Vqs1 Vqs2 Vqr0 Vqr1 Vqr2]
    · isplitl [Vqs0 Vqs1 Vqs2]
      · isplitl [Vqs0]; · iexact Vqs0
        isplitl [Vqs1]; · iexact Vqs1
        iexact Vqs2
      isplitl [Vqr0]; · iexact Vqr0
      isplitl [Vqr1]; · iexact Vqr1
      iexact Vqr2
    isplitl [Vps0 Vps1 Vps2 Vpr0 Vpr1 Vpr2]
    · isplitl [Vps0 Vps1 Vps2]
      · isplitl [Vps0]; · iexact Vps0
        isplitl [Vps1]; · iexact Vps1
        iexact Vps2
      isplitl [Vpr0]; · iexact Vpr0
      isplitl [Vpr1]; · iexact Vpr1
      iexact Vpr2
    isplitl [Vls0 Vls1 Vls2]
    · isplitl [Vls0]; · iexact Vls0
      isplitl [Vls1]; · iexact Vls1
      iexact Vls2
    isplitl [Vlr0]; · iexact Vlr0
    isplitl [Vlr1]; · iexact Vlr1
    iexact Vlr2
  iexact HO

end Cert.Proof.Ring

end
-- ==== Proof.Region.lean ====
/- The kernel's region of @main: what a device brings to it, what it takes away, and the region's record. -/
module

public import proofs.«01_k».proof.Proof.Body
public import proofs.«01_k».proof.Proof.Gen.KernelIdeal.Frame
public import Idealize.ShloMosaic.Lib.Pipeline.RegionTalk
public import Idealize.ShloMosaic.Lib.Pipeline.RegionsOwned
public import Idealize.ShloMosaic.Lib.Pipeline.ValueKit

@[expose] public section

noncomputable section

namespace Cert.Proof.Ring

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (det : Bool) (m : (ℓ : Loc nD τ sig) → Buf (Elt F) ℓ)

/-- What the devices bring: the arrays the region finds. -/
def inputs : Inputs F := ⟨fun c => V m c main_v4, fun c => V m c main_arg2, fun c => V m c main_arg3⟩

/-- The three barrier cells a device signals are in their first round. -/
def bars (c : Dev nD) : sProp 𝕄 := bigSep Finset.univ fun d : Fin 3 => reached ER (barCell (c + d.succ)) 0

/-- That the barriers are in their first round may be consulted as often as needed. -/
instance bars_persistent (c : Dev nD) : BI.Persistent (bars (F := F) c) := by unfold bars; infer_instance

/-- The duties a device does. -/
def dues (c : Dev nD) : sProp 𝕄 :=
  iprop((bigSep Finset.univ fun d : Fin 3 => dutyTok ER (barCell (c + d.succ)) 0 d)
      ∗ (bigSep Finset.univ fun r : Fin 3 => dutyTok ER (cell c (.qs r)) 0 0)
      ∗ (bigSep Finset.univ fun r : Fin 3 => dutyTok ER (cell (c + 1) (.qr r)) 0 0)
      ∗ (bigSep Finset.univ fun r : Fin 3 => bigSep Finset.univ fun h : Fin 8 => dutyTok ER (cell c (.ps r h)) 0 0)
      ∗ (bigSep Finset.univ fun r : Fin 3 => bigSep Finset.univ fun h : Fin 8 => dutyTok ER (cell (c - r.succ) (.pr r h)) 0 0)
      ∗ (bigSep Finset.univ fun r : Fin 3 => dutyTok ER (cell c (.ls r)) 0 0)
      ∗ (bigSep Finset.univ fun r : Fin 3 => dutyTok ER (cell (c - r.succ) (.lr r)) 0 0))

/-- The units a device will take that others pay. -/
def takes (c : Dev nD) : sProp 𝕄 :=
  iprop(cred (tallyAt (barCell c) () 3)
      ∗ (bigSep Finset.univ fun r : Fin 3 => cred (tallyAt (cell c (.qr r)) () Nq))
      ∗ (bigSep Finset.univ fun r : Fin 3 => bigSep Finset.univ fun h : Fin 8 => cred (tallyAt (cell c (.pr r h)) () Np))
      ∗ (bigSep Finset.univ fun r : Fin 3 => cred (tallyAt (cell c (.lr r)) () Nl)))

/-- The five scratch buffers. -/
def scratch (c : Dev nD) : sProp 𝕄 :=
  iprop((∃ f, qPt (F := F) c Finset.univ fullShare f) ∗ (∃ f, sPt (F := F) c Finset.univ f) ∗ (∃ f, rPt (F := F) c Finset.univ f)
    ∗ (∃ f, lPt (F := F) c Finset.univ f) ∗ ∃ f, lrPt (F := F) c Finset.univ f)

/-- What a device carries from the launch to the region: its scoped cells not yet open. -/
def Tk (c : Dev nD) : sProp 𝕄 :=
  iprop((∃ K, invs det (inputs m) K) ∗ bars c
    ∗ (atPos ER (barCell c) 0 ∅ 0 ∗ bigSep Finset.univ fun k : Key => openTok ER (cell c k)) ∗ dues c ∗ takes c)

/-- The same with its cells open. -/
def Xk (c : Dev nD) : sProp 𝕄 :=
  iprop((∃ K, invs det (inputs m) K) ∗ levAts L lv ∗ opened c ∗ bars c
    ∗ (atPos ER (barCell c) 0 ∅ 0 ∗ bigSep Finset.univ fun k : Key => atPos ER (cell c k) 0 ∅ 0) ∗ dues c ∗ takes c)

/-- What it takes away for the end of the program: its barrier's counter. -/
def Yk (c : Dev nD) : sProp 𝕄 := semVal (barCell c) 0

/-- The copies' semaphores are distinct. -/
theorem loc_inj : Function.Injective Key.loc := by decide

/-- The copies' semaphores are the region's own. -/
theorem ownSem_facts : Pipeline.OwnSemFacts spec0 Key.loc := by decide

/-- The region opens every copy cell of the device. -/
theorem open_cells (c : Dev nD) :
    iprop(Tk det m c ∗ Pipeline.ownSems0 Key.loc c ∗ levAts L lv) ⊢ (|={Set.univ}=> Xk det m c : sProp 𝕄) := by
  unfold Tk Xk
  iintro ⟨⟨⟨%K, #HI⟩, #HB, ⟨Hat, Hop⟩, Hd, Ht⟩, Hs, #HL⟩
  have hone (k : Key) : iprop(invs det (inputs m) K ∗ (openTok ER (cell c k) ∗ semVal (cell c k) 0))
      ⊢ (|={Set.univ}=> iprop(atPos ER (cell c k) 0 ∅ 0 ∗ reached ER (cell c k) 0) : sProp 𝕄) := by
    iintro ⟨#HI, Ho, Hv⟩
    iapply (Rounds.cell_open ER (ringRd det (inputs m)) (g := cell c k) (Set.mem_univ (K (cell c k))))
    isplitr; · iapply (inv_key det (inputs m) K c k); iexact HI
    isplitl [Ho] <;> iassumption
  have hall : iprop(invs det (inputs m) K ∗ bigSep Finset.univ fun k : Key => iprop(openTok ER (cell c k) ∗ semVal (cell c k) 0))
      ⊢ (|={Set.univ}=> bigSep Finset.univ fun k : Key => iprop(atPos ER (cell c k) 0 ∅ 0 ∗ reached ER (cell c k) 0) : sProp 𝕄) :=
    (bigSep_with_persistent (Ψ := fun k : Key => iprop(|={Set.univ}=> (atPos ER (cell c k) 0 ∅ 0 ∗ reached ER (cell c k) 0))) fun k _ => hone k).trans (bigSep_fupd _ _)
  imod hall $$ [Hop Hs] with H
  · isplitr; · iexact HI
    iapply (Entails.of_eq (bigSep_sep' Finset.univ (fun k : Key => openTok ER (cell c k)) fun k : Key => (semVal (cell c k) 0 : sProp 𝕄)).symm)
    isplitl [Hop]; · iexact Hop
    iapply (show Pipeline.ownSems0 Key.loc c ⊢ (bigSep Finset.univ fun k : Key => semVal (cell c k) 0 : sProp 𝕄) from .rfl) $$ Hs
  ihave H := (Entails.of_eq (bigSep_sep' Finset.univ (fun k : Key => atPos ER (cell c k) 0 ∅ 0) fun k : Key => (reached ER (cell c k) 0 : sProp 𝕄))) $$ H
  icases H with ⟨Hpos, #HR⟩
  imodintro
  isplitr; · iexists K; iexact HI
  isplitr; · iexact HL
  isplitr; · unfold opened; iexact HR
  isplitr; · iexact HB
  isplitl [Hat Hpos]; · isplitl [Hat] <;> iassumption
  isplitl [Hd] <;> iassumption

/-- The region's proof data. -/
def dat0 (c : Dev nD) : Dat τ (Elt F) Unit ℕ UU ℕ cfg0 c where
  A w := V m c (Pipeline.arrRef spec0 w)
  after w t := match w with
    | 0 => iblk m c 0 t
    | 1 => iblk m c 1 t
    | 2 => iblk m c 2 t
    | 3 => RES (inputs m) c
    | ⟨_ + 4, h⟩ => absurd h (Nat.not_lt.2 (Nat.le_add_left _ _))
  Φ t := if t.val = 0 then iprop(Xk det m c ∗ scratch c ∗ ∃ r, prngReg c r)
    else iprop(Yk c ∗ (bigSep Finset.univ fun k : Key => semVal (cell c k) 0) ∗ scratch c ∗ ∃ r, prngReg c r)
  q _ := fullShare
  owed t := if t.val = 0 then owe12 c else 0

/-- The one region is admissible. -/
abbrev adm : (p : Fin 1) → (pcfgs (F := F) p).Adm := fun p => (cfgs p).toPCfg_adm
/-- The regions' proof data: there is one region. -/
def pdats : (p : Fin 1) → (c : Dev nD) → Dat τ (Elt F) Unit ℕ UU ℕ (Pipeline.pin (pcfgs (F := F)) adm p) c := fun _ => dat0 det m

/-- Which windows' contents are not named after the region: the result's, unless it is determined. -/
def fgt : (p : Fin 1) → Fin (Pipeline.pin (pcfgs (F := F)) adm p).W → Bool := fun _ w => (w.val == 3) && !det

/-- The region's scratch buffers, by name. -/
theorem scratch_eq (c : Dev nD) : (Pipeline.scopedRest (Pipeline.pin (pcfgs (F := F)) adm 0).spec c : sProp 𝕄) = scratch c :=
  scopedRest0_eq c

/-- Every window has its one block at the origin. -/
theorem index_zero : ∀ w a, (cfg0.win w).index t0_0 a = 0 := by decide

/-- The first window is the queries. -/
theorem blk0 (c : Dev nD) : iblk m c 0 t0_0 = (inputs m).q c := by
  funext j; show V m c main_v4 _ = V m c main_v4 j; congr 1; funext a; apply Fin.ext
  exact Pipeline.Window.rect_emb_val_of_index_zero (cfg0.win 0) t0_0 a (index_zero 0 a) j

/-- The second window is the keys. -/
theorem blk1 (c : Dev nD) : iblk m c 1 t0_0 = (inputs m).k c := by
  funext j; show V m c main_arg2 _ = V m c main_arg2 j; congr 1; funext a; apply Fin.ext
  exact Pipeline.Window.rect_emb_val_of_index_zero (cfg0.win 1) t0_0 a (index_zero 1 a) j

/-- The third window is the values. -/
theorem blk2 (c : Dev nD) : iblk m c 2 t0_0 = (inputs m).v c := by
  funext j; show V m c main_arg3 _ = V m c main_arg3 j; congr 1; funext a; apply Fin.ext
  exact Pipeline.Window.rect_emb_val_of_index_zero (cfg0.win 2) t0_0 a (index_zero 2 a) j

/-- The first window holds the fetched queries before the body. -/
theorem before0 (c : Dev nD) (t : Fin cfg0.N) (d) : (dat0 det m c).before 0 t d = iblk m c 0 t :=
  ((dat0 det m c).before_in_eq_fetched 0 rfl (fun _ => rfl) (fun _ _ _ => rfl) (fun _ => rfl) t d).trans rfl
/-- The second window holds the fetched keys before the body. -/
theorem before1 (c : Dev nD) (t : Fin cfg0.N) (d) : (dat0 det m c).before 1 t d = iblk m c 1 t :=
  ((dat0 det m c).before_in_eq_fetched 1 rfl (fun _ => rfl) (fun _ _ _ => rfl) (fun _ => rfl) t d).trans rfl
/-- The third window holds the fetched values before the body. -/
theorem before2 (c : Dev nD) (t : Fin cfg0.N) (d) : (dat0 det m c).before 2 t d = iblk m c 2 t :=
  ((dat0 det m c).before_in_eq_fetched 2 rfl (fun _ => rfl) (fun _ _ _ => rfl) (fun _ => rfl) t d).trans rfl

/-- The result's array after the region, where it is named. -/
theorem arr3 (c : Dev nD) : (dat0 det m c).arrAt 3 cfg0.N = RES (inputs m) c := by
  refine (dat0 det m c).arrAt_eq_of_after_last 3 t0_0 (by decide +kernel) _ fun j => ?_
  rfl

/-- What a device owes, handed to the region. -/
theorem owes_in (c : Dev nD) (t : Fin (cfg0.N + 1)) (O : CellTallies nD τ sig Unit) (h0 : (dat0 det m c).owed t = O) :
    ow c O ⊢ ((dat0 det m c).owesAt () t : sProp 𝕄) := by
  unfold ow Dat.owesAt Pipeline.owesWithin Dat.bound; rw [h0]
  iintro ⟨%W, HO⟩; iexists W; isplitr; · ipureintro; exact fun _ _ => Or.inl trivial
  iexact HO
/-- What a device owes, taken back from the region. -/
theorem owes_out (c : Dev nD) (t : Fin (cfg0.N + 1)) (O : CellTallies nD τ sig Unit) (h0 : (dat0 det m c).owed t = O) :
    ((dat0 det m c).owesAt () t : sProp 𝕄) ⊢ ow c O := by
  unfold ow Dat.owesAt Pipeline.owesWithin; rw [h0]
  iintro ⟨%W, -, HO⟩; iexists W; iexact HO

/-- Before the body a device owes all its signals and receive units. -/
theorem owed_first (c : Dev nD) : (dat0 det m c).owed 0 = owe12 c := by
  show (if ((0 : Fin (cfg0.N + 1)).val = 0) then owe12 c else 0) = owe12 c; exact if_pos rfl
/-- After the body a device owes nothing. -/
theorem owed_last (c : Dev nD) : (dat0 det m c).owed (Fin.last cfg0.N) = 0 := by
  show (if (Fin.last cfg0.N).val = 0 then owe12 c else 0) = 0
  rw [Fin.val_last, if_neg (by rw [show cfg0.N = 1 from N_0]; decide)]

/-- What is held besides the windows before and after the kernel runs. -/
theorem phi_first (c : Dev nD) : (dat0 det m c).Φ 0 = iprop(Xk det m c ∗ scratch c ∗ ∃ r, prngReg c r) := by
  show (if ((0 : Fin (cfg0.N + 1)).val = 0) then iprop(Xk det m c ∗ scratch c ∗ ∃ r, prngReg c r) else iprop(Yk c ∗ (bigSep Finset.univ fun k : Key => semVal (cell c k) 0) ∗ scratch c ∗ ∃ r, prngReg c r)) = _; exact if_pos rfl
/-- After the body the counters are at zero and the scratch buffers are held again. -/
theorem phi_last (c : Dev nD) : (dat0 det m c).Φ (Fin.last cfg0.N)
    = iprop(Yk c ∗ (bigSep Finset.univ fun k : Key => semVal (cell c k) 0) ∗ scratch c ∗ ∃ r, prngReg c r) := by
  show (if (Fin.last cfg0.N).val = 0 then iprop(Xk det m c ∗ scratch c ∗ ∃ r, prngReg c r) else iprop(Yk c ∗ (bigSep Finset.univ fun k : Key => semVal (cell c k) 0) ∗ scratch c ∗ ∃ r, prngReg c r)) = _
  rw [Fin.val_last, if_neg (by rw [show cfg0.N = 1 from N_0]; decide)]

/-- The kernel, from what the region hands it to what it hands back. -/
theorem body_run (hdet : det = true → Law F) (c : Dev nD) :
    iprop((Xk det m c ∗ scratch c ∗ ∃ r, prngReg c r) ∗ ow c (owe12 c)
      ∗ iqPt c ((inputs m).q c) ∗ ikPt c ((inputs m).k c) ∗ ivPt c ((inputs m).v c) ∗ ∃ f, oPt c Finset.univ f)
      ⊢ WP c (bodyAt0 (F := F) t0_0) (fun _ => iprop((Yk c ∗ (bigSep Finset.univ fun k : Key => semVal (cell c k) 0) ∗ scratch c ∗ ∃ r, prngReg c r) ∗ ow c 0
        ∗ iqPt c ((inputs m).q c) ∗ ikPt c ((inputs m).k c) ∗ ivPt c ((inputs m).v c)
        ∗ ∃ f, ⌜det = true → f = RES (inputs m) c⌝ ∗ oPt c Finset.univ f)) := by
  unfold Xk dues takes scratch
  iintro ⟨⟨⟨⟨%K, #HI⟩, #HL, #HR, #HB, Hpos, Hd, Ht⟩, Hs, Hp⟩, HO, Hq, Hk, Hv, Ho⟩
  have hb := body det hdet (inputs m) K c
  unfold start done at hb
  ihave HW := hb $$ [Hpos Hd Ht Hs HO Hq Hk Hv Ho]
  · isplitr; · iexact HI
    isplitr; · iexact HL
    isplitr; · iexact HR
    isplitr; · unfold bars; iexact HB
    isplitl [Hq Hk Hv Ho]
    · isplitl [Hq]; · iexact Hq
      isplitl [Hk]; · iexact Hk
      isplitl [Hv] <;> iassumption
    isplitl [Hs]; · iexact Hs
    isplitl [Hpos]; · iexact Hpos
    isplitl [Hd]; · iexact Hd
    isplitl [Ht]; · iexact Ht
    iexact HO
  unfold WP
  iapply (wp_wand _ _ _) $$ HW
  iintro %_ ⟨⟨Hq, Hk, Hv, Ho⟩, Hs, ⟨Vb, Vk⟩, HO⟩
  isplitl [Hp Hs Vb Vk]
  · unfold Yk
    isplitl [Vb]; · iexact Vb
    isplitl [Vk]; · iexact Vk
    isplitl [Hs]; · iexact Hs
    iexact Hp
  isplitl [HO]; · iexact HO
  isplitl [Hq]; · iexact Hq
  isplitl [Hk]; · iexact Hk
  isplitl [Hv] <;> iassumption

/-- The kernel over the windows' buffers. -/
theorem body_windows (hdet : det = true → Law F) (c : Dev nD) :
    iprop((dat0 det m c).Φ 0 ∗ (dat0 det m c).owesAt () 0
        ∗ (∃ d, owns (c : Thread nD τ) (Memref.whole cc0_stg0_0) fullShare ((dat0 det m c).before 0 t0_0 d)) ∗ (∃ d, owns (c : Thread nD τ) (Memref.whole cc0_stg1_0) fullShare ((dat0 det m c).before 1 t0_0 d)) ∗ (∃ d, owns (c : Thread nD τ) (Memref.whole cc0_stg2_0) fullShare ((dat0 det m c).before 2 t0_0 d)) ∗ (∃ X, owns (c : Thread nD τ) (Memref.whole cc0_stg3_0) fullShare (X)))
      ⊢ WP c (bodyAt0 (F := F) t0_0) (fun _ => iprop((dat0 det m c).Φ (Fin.last cfg0.N) ∗ (dat0 det m c).owesAt () (Fin.last cfg0.N)
        ∗ owns (c : Thread nD τ) (Memref.whole cc0_stg0_0) fullShare (iblk m c 0 t0_0) ∗ owns (c : Thread nD τ) (Memref.whole cc0_stg1_0) fullShare (iblk m c 1 t0_0) ∗ owns (c : Thread nD τ) (Memref.whole cc0_stg2_0) fullShare (iblk m c 2 t0_0) ∗ (∃ f, ⌜det = true → f = RES (inputs m) c⌝ ∗ owns (c : Thread nD τ) (Memref.whole cc0_stg3_0) fullShare (f)))) := by
  rw [phi_first, phi_last]
  simp only [before0, before1, before2, blk0, blk1, blk2, owns_whole]
  iintro ⟨HΦ, HO, ⟨%d0, H0⟩, ⟨%d1, H1⟩, ⟨%d2, H2⟩, H3⟩
  ihave HO := (owes_out det m c 0 (owe12 c) (owed_first det m c)) $$ HO
  ihave HW := (body_run det m hdet c) $$ [HΦ HO H0 H1 H2 H3]
  · isplitl [HΦ]; · iexact HΦ
    isplitl [HO]; · iexact HO
    isplitl [H0]; · iexact H0
    isplitl [H1]; · iexact H1
    isplitl [H2] <;> iassumption
  unfold WP
  iapply (wp_wand _ _ _) $$ HW
  iintro %_ ⟨HΦ, HO, H0, H1, H2, H3⟩
  isplitl [HΦ]; · iexact HΦ
  isplitl [HO]; · iapply (owes_in det m c (Fin.last cfg0.N) 0 (owed_last det m c)); iexact HO
  isplitl [H0]; · iexact H0
  isplitl [H1]; · iexact H1
  isplitl [H2] <;> iassumption

/-- The body's obligation, the result's contents unnamed unless they are determined. -/
theorem body_owed (hdet : det = true → Law F) (c : Dev nD) : BodyObligation (dat0 det m c) defs₀ 𝒱₀ () Set.univ (fgt (F := F) det 0) := fun t => by
  obtain rfl := fin_N0 t
  rw [bigSep_W0, bigSep_W0]
  have hr := body_windows det m hdet c
  cases det
  · change iprop((dat0 false m c).Φ 0 ∗ (dat0 false m c).owesAt () 0
        ∗ (∃ d, owns (c : Thread nD τ) (Memref.whole cc0_stg0_0) fullShare ((dat0 false m c).before 0 t0_0 d)) ∗ (∃ d, owns (c : Thread nD τ) (Memref.whole cc0_stg1_0) fullShare ((dat0 false m c).before 1 t0_0 d)) ∗ (∃ d, owns (c : Thread nD τ) (Memref.whole cc0_stg2_0) fullShare ((dat0 false m c).before 2 t0_0 d)) ∗ (∃ X, owns (c : Thread nD τ) (Memref.whole cc0_stg3_0) fullShare (X)))
      ⊢ WP c (bodyAt0 (F := F) t0_0) (fun _ => iprop((dat0 false m c).Φ (Fin.last cfg0.N) ∗ (dat0 false m c).owesAt () (Fin.last cfg0.N)
        ∗ owns (c : Thread nD τ) (Memref.whole cc0_stg0_0) fullShare (iblk m c 0 t0_0) ∗ owns (c : Thread nD τ) (Memref.whole cc0_stg1_0) fullShare (iblk m c 1 t0_0) ∗ owns (c : Thread nD τ) (Memref.whole cc0_stg2_0) fullShare (iblk m c 2 t0_0) ∗ (∃ X, owns (c : Thread nD τ) (Memref.whole cc0_stg3_0) fullShare (X))))
    refine hr.trans ?_
    unfold WP
    refine wp_mono _ _ _ fun _ => ?_
    iintro ⟨HΦ, HO, H0, H1, H2, ⟨%f, -, H3⟩⟩
    isplitl [HΦ]; · iexact HΦ
    isplitl [HO]; · iexact HO
    isplitl [H0]; · iexact H0
    isplitl [H1]; · iexact H1
    isplitl [H2]; · iexact H2
    iexists f; iexact H3
  · change iprop((dat0 true m c).Φ 0 ∗ (dat0 true m c).owesAt () 0
        ∗ (∃ d, owns (c : Thread nD τ) (Memref.whole cc0_stg0_0) fullShare ((dat0 true m c).before 0 t0_0 d)) ∗ (∃ d, owns (c : Thread nD τ) (Memref.whole cc0_stg1_0) fullShare ((dat0 true m c).before 1 t0_0 d)) ∗ (∃ d, owns (c : Thread nD τ) (Memref.whole cc0_stg2_0) fullShare ((dat0 true m c).before 2 t0_0 d)) ∗ (∃ d, owns (c : Thread nD τ) (Memref.whole cc0_stg3_0) fullShare ((dat0 true m c).before 3 t0_0 d)))
      ⊢ WP c (bodyAt0 (F := F) t0_0) (fun _ => iprop((dat0 true m c).Φ (Fin.last cfg0.N) ∗ (dat0 true m c).owesAt () (Fin.last cfg0.N)
        ∗ owns (c : Thread nD τ) (Memref.whole cc0_stg0_0) fullShare (iblk m c 0 t0_0) ∗ owns (c : Thread nD τ) (Memref.whole cc0_stg1_0) fullShare (iblk m c 1 t0_0) ∗ owns (c : Thread nD τ) (Memref.whole cc0_stg2_0) fullShare (iblk m c 2 t0_0) ∗ owns (c : Thread nD τ) (Memref.whole cc0_stg3_0) fullShare (RES (inputs m) c)))
    have h1 : iprop((dat0 true m c).Φ 0 ∗ (dat0 true m c).owesAt () 0 ∗ (∃ d, owns (c : Thread nD τ) (Memref.whole cc0_stg0_0) fullShare ((dat0 true m c).before 0 t0_0 d)) ∗ (∃ d, owns (c : Thread nD τ) (Memref.whole cc0_stg1_0) fullShare ((dat0 true m c).before 1 t0_0 d)) ∗ (∃ d, owns (c : Thread nD τ) (Memref.whole cc0_stg2_0) fullShare ((dat0 true m c).before 2 t0_0 d)) ∗ (∃ d, owns (c : Thread nD τ) (Memref.whole cc0_stg3_0) fullShare ((dat0 true m c).before 3 t0_0 d)))
        ⊢ (iprop((dat0 true m c).Φ 0 ∗ (dat0 true m c).owesAt () 0 ∗ (∃ d, owns (c : Thread nD τ) (Memref.whole cc0_stg0_0) fullShare ((dat0 true m c).before 0 t0_0 d)) ∗ (∃ d, owns (c : Thread nD τ) (Memref.whole cc0_stg1_0) fullShare ((dat0 true m c).before 1 t0_0 d)) ∗ (∃ d, owns (c : Thread nD τ) (Memref.whole cc0_stg2_0) fullShare ((dat0 true m c).before 2 t0_0 d)) ∗ (∃ X, owns (c : Thread nD τ) (Memref.whole cc0_stg3_0) fullShare (X))) : sProp 𝕄) := by
      iintro ⟨HΦ, HO, H0, H1, H2, ⟨%d, H3⟩⟩
      isplitl [HΦ]; · iexact HΦ
      isplitl [HO]; · iexact HO
      isplitl [H0]; · iexact H0
      isplitl [H1]; · iexact H1
      isplitl [H2]; · iexact H2
      iexists _; iexact H3
    refine h1.trans (hr.trans ?_)
    unfold WP
    refine wp_mono _ _ _ fun _ => ?_
    iintro ⟨HΦ, HO, H0, H1, H2, ⟨%f, %hf, H3⟩⟩
    obtain rfl := hf rfl
    isplitl [HΦ]; · iexact HΦ
    isplitl [HO]; · iexact HO
    isplitl [H0]; · iexact H0
    isplitl [H1]; · iexact H1
    isplitl [H2] <;> iassumption

/-- The facts on the windows that the launch of the region needs. -/
theorem kitP : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

/-- All that a device owes lies above level 0. -/
theorem cut_owed (c : Dev nD) (t : Fin ((Pipeline.pin (pcfgs (F := F)) adm 0).N + 1)) (g : GSem nD τ sig) (i : Unit)
    (h : 0 < (pdats (F := F) det m 0 c).owed t g i) : i ∈ L g ∧ (0 : ℕ) < lv g i := by
  have e : (pdats (F := F) det m 0 c).owed t = if t.val = 0 then owe12 c else 0 := rfl
  rw [e] at h
  split at h
  · exact above_owe12 c (by decide) g i h
  · exact absurd h (Nat.lt_irrefl 0)

/-- Every window is held whole. -/
theorem share_full (c : Dev nD) (w : Fin cfg0.W) : (dat0 det m c).share w = fullShare := by
  unfold Dat.share; split <;> rfl

/-- The windows' staging semaphores are none of the protocol's. -/
theorem stage_decode : ∀ (w : Fin cfg0.W) (s : Fin (cfg0.win w).nbuf), decode (.dma ((cfg0.win w).sem s)) = none := by decide

/-- The buffers of @main. -/
def bufs : Finset (DevRef τ sig) := (StableHlo.tcRefs τ sig).filter fun b => ¬ b.isScoped

/-- Those that no window of the kernel is on. -/
def others : Finset (DevRef τ sig) := bufs \ Pipeline.arrRefs (τ := τ) (pcfgs (F := F) 0).spec

/-- What enters the region is what the body starts from, besides the windows. -/
theorem region_in (c : Dev nD) : iprop(Pipeline.scopedRest (Pipeline.pin (pcfgs (F := F)) adm 0).spec c ∗ (∃ r, prngReg c r)
      ∗ StableHlo.held (c.tc : Thread nD τ) ∅ (V0 m c) ∗ Xk det m c) ⊢ (pdats det m 0 c).Φ 0 := by
  rw [show (pdats det m 0 c).Φ 0 = _ from phi_first det m c, scratch_eq]
  iintro ⟨Hs, Hp, -, HX⟩
  isplitl [HX]; · iexact HX
  isplitl [Hs] <;> iassumption

/-- What the body ends with, besides the windows, is what leaves the region. -/
theorem region_out (c : Dev nD) : (pdats det m 0 c).Φ (Fin.last (Pipeline.pin (pcfgs (F := F)) adm 0).N)
    ⊢ iprop(Pipeline.scopedRest (Pipeline.pin (pcfgs (F := F)) adm 0).spec c ∗ (∃ r, prngReg c r)
      ∗ (∃ W' : Valuation τ sig (Elt F), ⌜True⌝ ∗ StableHlo.held (c.tc : Thread nD τ) ∅ W') ∗ Pipeline.ownSems0 Key.loc c ∗ Yk c) := by
  rw [show (pdats det m 0 c).Φ (Fin.last (Pipeline.pin (pcfgs (F := F)) adm 0).N) = _ from phi_last det m c, scratch_eq]
  iintro ⟨HY, HK, Hs, Hp⟩
  isplitl [Hs]; · iexact Hs
  isplitl [Hp]; · iexact Hp
  isplitr
  · iexists V0 m c
    isplitr; · ipureintro; trivial
    unfold StableHlo.held; rw [BI.bigSep_empty]; iempintro
  isplitl [HK]
  · iapply (show (bigSep Finset.univ fun k : Key => semVal (cell c k) 0 : sProp 𝕄) ⊢ Pipeline.ownSems0 Key.loc c from .rfl) $$ HK
  iexact HY

set_option backward.isDefEq.respectTransparency.types false in
/-- The region's record. -/
def region (hdet : det = true → Law F) :
    Pipeline.RDat.RegionSeg (pcfgs (F := F)) adm (Pipeline.toRsF (pcfgs (F := F)) adm (pdats det m) (fgt det)) () defs₀ 𝒱₀ L lv 0 :=
  Pipeline.RDat.RegionSeg.ofTalkF (pcfgs (F := F)) adm (pdats det m) () defs₀ 𝒱₀ L lv 0 (fgt det) Key.loc ownSem_facts
    ∅ (others (F := F)) (Finset.empty_subset _) kitP rfl (fun c => (body_owed det m hdet c).loose)
    (fun _ => 0) owe12 (fun c => (owed_first det m c).trans (zero_add _).symm) (owed_last det m) (fun _ => rfl)
    (fun c w => share_full det m c w)
    (V0 m) (fun _ _ => True)
    (Tk det m) Yk (Xk det m) Yk (open_cells det m) (region_in det m) (region_out det m)
    (fun c => by iintro H; imodintro; iexact H)
    (fun _ => 0)
    ⟨fun _ w s => by rw [L_tc]; exact Finset.mem_singleton_self _, fun c w s => by show lv ((c : Thread nD τ), .dma ((cfg0.win w).sem s)) () ≤ 0; unfold lv; rw [stage_decode w s], fun c t g i h => cut_owed det m c t g i h⟩
    (fun _ => iprop(emp))
    (fun _ w => rfl)

end Cert.Proof.Ring

end
-- ==== Proof.Deal.lean ====
/- The launch of the ring: the cells funded, the duties' tokens and the units each device is dealt. -/
module

public import proofs.«01_k».proof.Proof.Region

@[expose] public section

noncomputable section

namespace Cert.Proof.Ring

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The cells -/

/-- The barrier's semaphore is no copy's. -/
theorem bar_ne_key (k : Key) : (SemLoc.reg barS : SemLoc sig) ≠ k.loc := fun h => nomatch h

/-- Equal cells have equal devices and equal semaphores. -/
theorem dev_of_cell {c d : Dev nD} {s t : SemLoc sig} (h : (((c : Thread nD τ), s) : GSem nD τ sig) = ((d : Thread nD τ), t)) : c = d ∧ s = t :=
  ⟨Fin.ext (congrArg (fun g : GSem nD τ sig => g.1.1.val) h), congrArg Prod.snd h⟩

/-- The barrier's cell of a device, as an embedding. -/
def barEmb : Dev nD ↪ GSem nD τ sig := ⟨fun c => barCell c, fun _ _ h => (dev_of_cell h).1⟩
/-- The copies' cells, as an embedding. -/
def scEmb : Dev nD × Key ↪ GSem nD τ sig :=
  ⟨fun p => cell p.1 p.2, fun _ _ h => Prod.ext (dev_of_cell h).1 (Key.loc_inj (dev_of_cell h).2)⟩

/-- The barrier's cells, live from the launch. -/
def barCells : Finset (GSem nD τ sig) := Finset.univ.map barEmb
/-- The copies' cells, dormant until the region opens them. -/
def scCells : Finset (GSem nD τ sig) := Finset.univ.map scEmb

/-- No cell is both the barrier's and a copy's. -/
theorem disjoint_cells : Disjoint barCells scCells := by
  rw [Finset.disjoint_left]
  intro g hb hs
  obtain ⟨c, -, rfl⟩ := Finset.mem_map.mp hb
  obtain ⟨p, -, h⟩ := Finset.mem_map.mp hs
  exact bar_ne_key p.2 (dev_of_cell h).2.symm

/-- A barrier's cell is among all cells. -/
theorem bar_mem (c : Dev nD) : barCell c ∈ (barCells ∪ scCells : Finset (GSem nD τ sig)) :=
  Finset.mem_union_left _ (Finset.mem_map_of_mem barEmb (Finset.mem_univ c))
/-- A copy's cell is among all cells. -/
theorem key_mem (c : Dev nD) (k : Key) : cell c k ∈ (barCells ∪ scCells : Finset (GSem nD τ sig)) :=
  Finset.mem_union_right _ (Finset.mem_map_of_mem scEmb (Finset.mem_univ (c, k)))

/-! ## The duties' tokens -/

/-- Every device's three barrier duties and each copy cell's one. -/
def tokEmb : Dev nD × (Fin 3 ⊕ Key) ↪ GSem nD τ sig × ℕ × Fin 3 :=
  ⟨fun p => match p.2 with | .inl d => (barCell p.1, 0, d) | .inr k => (cell p.1 k, 0, 0), by
    rintro ⟨c, d | k⟩ ⟨c', d' | k'⟩ h
    · obtain ⟨h1, h2⟩ := Prod.ext_iff.mp h
      have := (dev_of_cell h1).1; have := (Prod.ext_iff.mp h2).2
      dsimp only at *; subst_vars; rfl
    · exact absurd (dev_of_cell (Prod.ext_iff.mp h).1).2 (bar_ne_key k')
    · exact absurd (dev_of_cell (Prod.ext_iff.mp h).1).2.symm (bar_ne_key k)
    · obtain ⟨h1, -⟩ := Prod.ext_iff.mp h
      have h3 := (dev_of_cell h1).1; have h4 := Key.loc_inj (dev_of_cell h1).2
      exact Prod.ext h3 (congrArg Sum.inr h4)⟩
/-- All the duties, as a set. -/
def toks : Finset (GSem nD τ sig × ℕ × Fin 3) := Finset.univ.map tokEmb

/-- The tokens of one device's cells. -/
theorem toks_eq : bigSep toks (fun x => (dutyTok ER x.1 x.2.1 x.2.2 : sProp 𝕄)) = bigSep Finset.univ fun c : Dev nD =>
    iprop((bigSep Finset.univ fun d : Fin 3 => dutyTok ER (barCell c) 0 d) ∗ (bigSep Finset.univ fun k : Key => dutyTok ER (cell c k) 0 0)) := by
  unfold toks; rw [BI.bigSep_map, BI.bigSep_univ_prod]
  exact bigSep_congr fun c _ => by rw [BI.bigSep_univ_sum]; rfl

/-- A family indexed by the devices may be dealt out shifted, each index by its own amount. -/
theorem deal {ι : Type} [Fintype ι] (e : ι → Equiv.Perm (Dev nD)) (A : Dev nD → ι → sProp 𝕄) :
    (bigSep Finset.univ fun c : Dev nD => bigSep Finset.univ fun i : ι => A c i)
      = bigSep Finset.univ fun c : Dev nD => bigSep Finset.univ fun i : ι => A (e i c) i := by
  rw [← BI.bigSep_univ_prod (fun p : Dev nD × ι => A p.1 p.2), ← BI.bigSep_univ_prod (fun p : Dev nD × ι => A (e p.2 p.1) p.2)]
  exact BI.bigSep_univ_equiv (⟨fun p => (e p.2 p.1, p.2), fun p => ((e p.2).symm p.1, p.2),
    fun p => Prod.ext ((e p.2).symm_apply_apply p.1) rfl, fun p => Prod.ext ((e p.2).apply_symm_apply p.1) rfl⟩ : Dev nD × ι ≃ Dev nD × ι) _

/-- All the tokens, each with the device that does the duty. -/
theorem toks_dealt : bigSep toks (fun x => (dutyTok ER x.1 x.2.1 x.2.2 : sProp 𝕄)) ⊢ bigSep Finset.univ fun c : Dev nD => dues (F := F) c := by
  rw [toks_eq, BI.bigSep_sep' Finset.univ, deal (fun d => Equiv.addRight d.succ) (fun c (d : Fin 3) => dutyTok ER (barCell c) 0 d)]
  rw [bigSep_congr (s := Finset.univ) (Φ := fun c : Dev nD => (bigSep Finset.univ fun k : Key => (dutyTok ER (cell c k) 0 0 : sProp 𝕄))) fun c _ => bigSep_key _]
  rw [BI.bigSep_sep' Finset.univ, BI.bigSep_sep' Finset.univ, BI.bigSep_sep' Finset.univ, BI.bigSep_sep' Finset.univ, BI.bigSep_sep' Finset.univ]
  rw [deal (fun _ => Equiv.addRight 1) (fun c (r : Fin 3) => dutyTok ER (cell c (.qr r)) 0 0),
    deal (fun r => Equiv.subRight r.succ) (fun c (r : Fin 3) => bigSep Finset.univ fun h : Fin 8 => dutyTok ER (cell c (.pr r h)) 0 0),
    deal (fun r => Equiv.subRight r.succ) (fun c (r : Fin 3) => dutyTok ER (cell c (.lr r)) 0 0)]
  unfold dues
  rw [BI.bigSep_sep' Finset.univ, BI.bigSep_sep' Finset.univ, BI.bigSep_sep' Finset.univ, BI.bigSep_sep' Finset.univ, BI.bigSep_sep' Finset.univ, BI.bigSep_sep' Finset.univ]
  iintro ⟨HB, ⟨Hqs, Hqr⟩, ⟨Hps, Hpr⟩, Hls, Hlr⟩
  isplitl [HB]; · iexact HB
  isplitl [Hqs]; · iexact Hqs
  isplitl [Hqr]; · iexact Hqr
  isplitl [Hps]; · iexact Hps
  isplitl [Hpr]; · iexact Hpr
  isplitl [Hls]; · iexact Hls
  iexact Hlr

/-! ## The units owed -/

/-- Over all devices, each paying one unit group on a semaphore of another: a copy's cell is paid by exactly one. -/
theorem sum_key (σ : Equiv.Perm (Dev nD)) (c : Dev nD) (k k' : Key) (n : ℕ) :
    ∑ d : Dev nD, (tallyAt (cell (σ d) k') () n : CellTallies nD τ sig Unit) (cell c k) () = if k = k' then n else 0 := by
  rw [Finset.sum_eq_single (σ.symm c)]
  · rw [tallyAt_apply, Equiv.apply_symm_apply]
    by_cases h : k = k'
    · subst h; rw [if_pos ⟨rfl, rfl⟩, if_pos rfl]
    · rw [if_neg fun e => h (Key.loc_inj (dev_of_cell e.1).2), if_neg h]
  · intro d _ hd
    rw [tallyAt_apply, if_neg fun e => hd (by rw [(dev_of_cell e.1).1, Equiv.symm_apply_apply])]
  · exact fun h => absurd (Finset.mem_univ _) h

/-- Over all devices, each signalling one barrier: every barrier is signalled once. -/
theorem sum_bar (σ : Equiv.Perm (Dev nD)) (c : Dev nD) (n : ℕ) :
    ∑ d : Dev nD, (tallyAt (barCell (σ d)) () n : CellTallies nD τ sig Unit) (barCell c) () = n := by
  rw [Finset.sum_eq_single (σ.symm c)]
  · rw [tallyAt_apply, Equiv.apply_symm_apply, if_pos ⟨rfl, rfl⟩]
  · intro d _ hd
    rw [tallyAt_apply, if_neg fun e => hd (by rw [(dev_of_cell e.1).1, Equiv.symm_apply_apply])]
  · exact fun h => absurd (Finset.mem_univ _) h

/-- A tally on a copy's cell is none on a barrier's. -/
theorem key_at_bar (e c : Dev nD) (k : Key) (n : ℕ) : (tallyAt (cell e k) () n : CellTallies nD τ sig Unit) (barCell c) () = 0 := by
  rw [tallyAt_apply, if_neg fun h => bar_ne_key k (dev_of_cell h.1).2]
/-- A tally on a barrier's cell is none on a copy's. -/
theorem bar_at_key (e c : Dev nD) (k : Key) (n : ℕ) : (tallyAt (barCell e) () n : CellTallies nD τ sig Unit) (cell c k) () = 0 := by
  rw [tallyAt_apply, if_neg fun h => bar_ne_key k (dev_of_cell h.1).2.symm]

/-- What is owed a cell by the queries' copies of hop `r`. -/
theorem sum_oQ (c : Dev nD) (k : Key) (r : Fin 3) : ∑ d : Dev nD, oQ d r (cell c k) () = if k = .qr r then Nq else 0 :=
  sum_key (Equiv.addRight 1) c k (.qr r) Nq
/-- What is owed a cell by the denominators' copies of one round. -/
theorem sum_oL (c : Dev nD) (k : Key) (r : Fin 3) : ∑ d : Dev nD, oL d r (cell c k) () = if k = .lr r then Nl else 0 :=
  sum_key (Equiv.subRight r.succ) c k (.lr r) Nl
/-- What is owed a cell by the numerators' copies of one round. -/
theorem sum_oPs (c : Dev nD) (k : Key) (r : Fin 3) :
    ∑ d : Dev nD, oPs d r 0 (cell c k) () = ∑ h : Fin 8, if k = .pr r h then Np else 0 := by
  have e (d : Dev nD) : oPs d r 0 (cell c k) () = ∑ h : Fin 8, oP d r h (cell c k) () := by
    unfold oPs
    rw [show (Finset.univ.filter fun h : Fin 8 => 0 ≤ h.val) = Finset.univ from by decide, Finset.sum_apply, Finsupp.finset_sum_apply]
  rw [Finset.sum_congr rfl fun d _ => e d, Finset.sum_comm]
  exact Finset.sum_congr rfl fun h _ => sum_key (Equiv.subRight r.succ) c k (.pr r h) Np

/-- What is owed a copy's cell by all devices together, kind by kind. -/
theorem owed_key (c : Dev nD) (k : Key) : ∑ d : Dev nD, owe12 d (cell c k) ()
    = (if k = .lr 2 then Nl else 0) + (∑ h : Fin 8, if k = .pr 2 h then Np else 0) + (if k = .lr 1 then Nl else 0)
      + (∑ h : Fin 8, if k = .pr 1 h then Np else 0) + (if k = .qr 2 then Nq else 0) + (if k = .lr 0 then Nl else 0)
      + (∑ h : Fin 8, if k = .pr 0 h then Np else 0) + (if k = .qr 1 then Nq else 0) + (if k = .qr 0 then Nq else 0) := by
  rw [← sum_oL c k 2, ← sum_oPs c k 2, ← sum_oL c k 1, ← sum_oPs c k 1, ← sum_oQ c k 2, ← sum_oL c k 0, ← sum_oPs c k 0, ← sum_oQ c k 1, ← sum_oQ c k 0]
  simp only [← Finset.sum_add_distrib]
  refine Finset.sum_congr rfl fun d _ => ?_
  have hb (e : Fin 3) : oB d e (cell c k) () = 0 := bar_at_key _ _ _ _
  simp only [owe12, owe11, owe10, owe9, owe8, owe7, owe6, owe5, owe4, owe3, owe2, owe1, Pi.add_apply, Finsupp.add_apply, hb, add_zero]

/-- A queries' receive cell is owed one copy. -/
theorem owed_qr (c : Dev nD) (r : Fin 3) : ∑ d : Dev nD, owe12 d (cell c (.qr r)) () = Nq := by
  rw [owed_key]
  simp only [reduceCtorEq, if_false, Finset.sum_const_zero, Key.qr.injEq, zero_add, add_zero]
  generalize Nq = n; revert r; intro r; fin_cases r <;> simp
/-- A denominators' receive cell is owed one copy. -/
theorem owed_lr (c : Dev nD) (r : Fin 3) : ∑ d : Dev nD, owe12 d (cell c (.lr r)) () = Nl := by
  rw [owed_key]
  simp only [reduceCtorEq, if_false, Finset.sum_const_zero, Key.lr.injEq, zero_add, add_zero]
  generalize Nl = n; revert r; intro r; fin_cases r <;> simp
/-- A numerators' receive cell is owed one copy. -/
theorem owed_pr (c : Dev nD) (r : Fin 3) (h : Fin 8) : ∑ d : Dev nD, owe12 d (cell c (.pr r h)) () = Np := by
  rw [owed_key]
  simp only [reduceCtorEq, if_false, Key.pr.injEq, zero_add, add_zero]
  generalize Np = n; revert r; intro r; fin_cases r <;> simp

/-- A barrier is owed three units. -/
theorem owed_bar (c : Dev nD) : ∑ d : Dev nD, owe12 d (barCell c) () = 3 := by
  have e (d : Dev nD) : owe12 d (barCell c) () = oB d 2 (barCell c) () + oB d 1 (barCell c) () + oB d 0 (barCell c) () := by
    have hQ (r : Fin 3) : oQ d r (barCell c) () = 0 := key_at_bar _ _ _ _
    have hL (r : Fin 3) : oL d r (barCell c) () = 0 := key_at_bar _ _ _ _
    have hP (r : Fin 3) : oPs d r 0 (barCell c) () = 0 := by
      unfold oPs; rw [Finset.sum_apply, Finsupp.finset_sum_apply]
      exact Finset.sum_eq_zero fun h _ => key_at_bar _ _ _ _
    simp only [owe12, owe11, owe10, owe9, owe8, owe7, owe6, owe5, owe4, owe3, owe2, owe1, Pi.add_apply, Finsupp.add_apply, hQ, hL, hP, add_zero, zero_add]
  have hb (k : Fin 3) : ∑ d : Dev nD, oB d k (barCell c) () = 1 := sum_bar (Equiv.addRight k.succ) c 1
  rw [Finset.sum_congr rfl fun d _ => e d, Finset.sum_add_distrib, Finset.sum_add_distrib, hb, hb, hb]

/-- A cell's launch units, given what is owed it in all. -/
theorem launch_at (g : GSem nD τ sig) (n : ℕ) (h : ∑ d : Dev nD, owe12 d g () = n) :
    tallyOn g (launchCredit (Pipeline.owing owe12) 0 g) = (tallyAt g () n : CellTallies nD τ sig Unit) := by
  unfold tallyAt; refine congrArg _ (Finsupp.ext fun u => ?_); cases u
  rw [Pipeline.launchCredit_owing, Finsupp.single_eq_same, h]

/-- The copies' semaphores, as an embedding. -/
def keyEmb : Key ↪ SemLoc sig := ⟨Key.loc, Key.loc_inj⟩

/-- The units each device is dealt at the launch. -/
theorem creds (c : Dev nD) : (Pipeline.launchCred owe12 c : sProp 𝕄) ⊢ takes c := by
  unfold Pipeline.launchCred
  rw [bigSep_univ_at _ (SemLoc.reg barS), launch_at (barCell c) 3 (owed_bar c)]
  have h1 : (bigSep (Finset.univ.erase (SemLoc.reg barS)) fun sm : SemLoc sig =>
        cred (tallyOn ((c.tc : Thread nD τ), sm) (launchCredit (Pipeline.owing owe12) 0 ((c.tc : Thread nD τ), sm))))
      ⊢ (bigSep (Finset.univ.map keyEmb) fun sm : SemLoc sig =>
        cred (tallyOn ((c.tc : Thread nD τ), sm) (launchCredit (Pipeline.owing owe12) 0 ((c.tc : Thread nD τ), sm))) : sProp 𝕄) :=
    BI.bigSep_subset fun sm hsm => by
      obtain ⟨k, -, rfl⟩ := Finset.mem_map.mp hsm
      exact Finset.mem_erase.mpr ⟨(bar_ne_key k).symm, Finset.mem_univ _⟩
  rw [BI.bigSep_map, bigSep_key] at h1
  have hq : (bigSep Finset.univ fun r : Fin 3 => (cred (tallyOn (cell c (.qr r)) (launchCredit (Pipeline.owing owe12) 0 (cell c (.qr r)))) : sProp 𝕄))
      ⊢ bigSep Finset.univ fun r : Fin 3 => cred (tallyAt (cell c (.qr r)) () Nq) :=
    BI.bigSep_mono fun r _ => by rw [launch_at _ Nq (owed_qr c r)]; exact BI.Entails.refl _
  have hp : (bigSep Finset.univ fun r : Fin 3 => bigSep Finset.univ fun h : Fin 8 => (cred (tallyOn (cell c (.pr r h)) (launchCredit (Pipeline.owing owe12) 0 (cell c (.pr r h)))) : sProp 𝕄))
      ⊢ bigSep Finset.univ fun r : Fin 3 => bigSep Finset.univ fun h : Fin 8 => cred (tallyAt (cell c (.pr r h)) () Np) :=
    BI.bigSep_mono fun r _ => BI.bigSep_mono fun h _ => by rw [launch_at _ Np (owed_pr c r h)]; exact BI.Entails.refl _
  have hl : (bigSep Finset.univ fun r : Fin 3 => (cred (tallyOn (cell c (.lr r)) (launchCredit (Pipeline.owing owe12) 0 (cell c (.lr r)))) : sProp 𝕄))
      ⊢ bigSep Finset.univ fun r : Fin 3 => cred (tallyAt (cell c (.lr r)) () Nl) :=
    BI.bigSep_mono fun r _ => by rw [launch_at _ Nl (owed_lr c r)]; exact BI.Entails.refl _
  unfold takes
  iintro ⟨HB, H⟩
  ihave H := h1 $$ H
  icases H with ⟨⟨-, Hq⟩, ⟨-, Hp⟩, -, Hl⟩
  isplitl [HB]; · iexact HB
  isplitl [Hq]; · iapply hq; iexact Hq
  isplitl [Hp]; · iapply hp; iexact Hp
  iapply hl; iexact Hl

end Cert.Proof.Ring

end
-- ==== Proof.Launch.lean ====
/- The run of @main: its segments chained, what the launch deals, and what the final memory holds. -/
module

public import proofs.«01_k».proof.Proof.Deal

@[expose] public section

noncomputable section

namespace Cert.Proof.Ring

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (det : Bool) (m : (ℓ : Loc nD τ sig) → Buf (Elt F) ℓ) (ρ : Dev nD → PrngReg)

/-! ## The buffers -/

/-- The memory a device is launched on. -/
def Vm (c : Dev nD) : Valuation τ sig (Elt F) := fun b => m (c, b)

/-- What the result's array may hold after the region. -/
abbrev Out (c : Dev nD) : Type := { f : Vec F S8x256x128 .f32 // det = true → f = RES (inputs m) c }

/-- The buffers after the region, its result at `γ`. -/
def V1 (c : Dev nD) (γ : Out det m c) : Valuation τ sig (Elt F) := Function.update (V0 m c) (Proc.devRef .tc main_v5) γ.1

/-- The buffers at the end. -/
def V2 (c : Dev nD) (γ : Out det m c) : Valuation τ sig (Elt F) := StableHlo.after hostOps1 (V1 det m c γ)

/-- The windows' arrays are among the buffers of `@main`. -/
theorem arr_sub : Pipeline.arrRefs (τ := τ) (pcfgs (F := F) 0).spec ⊆ (bufs : Finset (DevRef τ sig)) :=
  (by decide : Pipeline.arrRefs (τ := τ) spec0 ⊆ (bufs : Finset (DevRef τ sig)))

/-- A buffer held at its contents. -/
abbrev bufPt (c : Dev nD) (W : Valuation τ sig (Elt F)) (b : Ref sig .tc) : sProp 𝕄 :=
  ((c : Thread nD τ).loc b) ↦[Finset.univ]{fullShare} (W (Proc.devRef .tc b) : Buf (Elt F) ((c : Thread nD τ).loc b))

/-- The buffers by name. -/
theorem held_bufs (c : Dev nD) (W : Valuation τ sig (Elt F)) :
    (StableHlo.held (c.tc : Thread nD τ) bufs W : sProp 𝕄)
      = iprop(bufPt c W main_arg0
        ∗ bufPt c W main_arg1
        ∗ bufPt c W main_arg2
        ∗ bufPt c W main_arg3
        ∗ bufPt c W main_arg4
        ∗ bufPt c W main_v1
        ∗ bufPt c W main_v2
        ∗ bufPt c W main_v3
        ∗ bufPt c W main_v4
        ∗ bufPt c W main_v5
        ∗ bufPt c W main_v6
        ∗ bufPt c W main_v7
        ∗ bufPt c W main_v8
        ∗ bufPt c W main_v9) := by
  unfold StableHlo.held
  rw [bigSep_eq_bigSepL_of_eq ([main_arg0, main_arg1, main_arg2, main_arg3, main_arg4, main_v1, main_v2, main_v3, main_v4, main_v5, main_v6, main_v7, main_v8, main_v9].map
    (Proc.devRef (τ := τ) .tc)) (by decide) (by decide)]
  rfl

/-- The buffers that outlive the regions are the buffers of `@main`. -/
theorem unscopedBufs_held (c : Dev nD) (W : Valuation τ sig (Elt F)) :
    (unscopedBufs c (fun b => W (Proc.devRef .tc b)) : sProp 𝕄) = StableHlo.held (c.tc : Thread nD τ) bufs W := by
  unfold unscopedBufs StableHlo.held bufs StableHlo.tcRefs
  rw [Finset.filter_map, BI.bigSep_map]; rfl

/-- The only semaphore outside the regions is the barrier's. -/
theorem unscopedSems0_eq (c : Dev nD) : (unscopedSems0 c : sProp 𝕄) = semVal (barCell c) 0 := by
  unfold unscopedSems0
  rw [show (Finset.univ.filter fun sm : SemLoc sig => ¬ sm.isScoped .tc) = {SemLoc.reg barS} from by decide, BI.bigSep_singleton]

/-- A semaphore outside the regions is the barrier's. -/
theorem unscoped_eq : ∀ sm : SemLoc sig, sm.isScoped .tc = false → sm = .reg barS := by decide

/-! ## The segments -/

/-- What rides beside the buffers up to the region. -/
def Rin (c : Dev nD) : sProp 𝕄 := iprop((∃ r, prngReg c r) ∗ Tk det m c ∗ ∃ W, owes (c : Thread nD τ) (owe12 c) W)
/-- What rides beside them after it. -/
def Rout (c : Dev nD) : sProp 𝕄 := iprop(Yk c ∗ ∃ W, owes (c : Thread nD τ) (0 : CellTallies nD τ sig Unit) W)

/-- The first host operations touch only the buffers of `@main`. -/
theorem ops0_sub : ∀ op ∈ (hostOps0 : List (HloOp τ sig (Elt F))), op.bufs ⊆ bufs := fun op h => by
  have := List.forall_iff_forall_mem.mp (hostOps0_sub (F := F)) op h
  exact Pipeline.sub_ucRefs op this
/-- The last host operations touch only the buffers of `@main`. -/
theorem ops1_sub : ∀ op ∈ (hostOps1 : List (HloOp τ sig (Elt F))), op.bufs ⊆ bufs := fun op h => by
  have := List.forall_iff_forall_mem.mp (hostOps1_sub (F := F)) op h
  exact Pipeline.sub_ucRefs op this

/-- The operations before the region. -/
def host0 : Pipeline.HostSeg (Ix := Unit) (Name := ℕ) (U := UU) (Lvl := ℕ) (pcfgs (F := F)) defs₀ 𝒱₀ L lv :=
  Pipeline.HostSeg.ofOps (pcfgs (F := F)) defs₀ 𝒱₀ L lv bufs hostOps0 ops0_sub (List.forall_iff_forall_mem.mp hostOps0_fresh) (Vm m) (Rin det m)
/-- The operations after it. -/
def host1 : Pipeline.HostSeg (Ix := Unit) (Name := ℕ) (U := UU) (Lvl := ℕ) (pcfgs (F := F)) defs₀ 𝒱₀ L lv :=
  Pipeline.HostSeg.ofOpsEx (pcfgs (F := F)) defs₀ 𝒱₀ L lv bufs hostOps1 ops1_sub (List.forall_iff_forall_mem.mp hostOps1_fresh) (V1 det m) Rout

/-- The segments of `@main`: host operations, the region, host operations. -/
abbrev segs (hdet : det = true → Law F) :
    List (Pipeline.RDat.Seg (pcfgs (F := F)) adm (Pipeline.toRsF (pcfgs (F := F)) adm (pdats det m) (fgt det)) () defs₀ 𝒱₀ L lv) :=
  [.host (host0 det m), .region (region det m hdet), .host (host1 det m)]

/-- `@main` is its segments in order. -/
theorem main_eq (hdet : det = true → Law F) (c : Dev nD) : main c = Pipeline.RDat.Seg.run (segs det m hdet) := by
  simp only [Pipeline.RDat.Seg.run]
  rfl

/-- What is held of the buffers, split between the windows' and the others. -/
theorem held_split (c : Dev nD) (W : Valuation τ sig (Elt F)) : (StableHlo.held (c.tc : Thread nD τ) bufs W : sProp 𝕄)
    = iprop(StableHlo.held (c.tc : Thread nD τ) (Pipeline.arrRefs (pcfgs (F := F) 0).spec) W ∗ StableHlo.held (c.tc : Thread nD τ) (others (F := F)) W) :=
  StableHlo.held_sub_split (c.tc : Thread nD τ) (arr_sub (F := F)) W

/-- The first host operations end with what the region starts from. -/
theorem to_region (hdet : det = true → Law F) (c : Dev nD) : (host0 det m).post c ⊢ (region det m hdet).pre c := by
  change iprop(StableHlo.held (c.tc : Thread nD τ) bufs (V0 m c) ∗ Rin det m c)
    ⊢ iprop(StableHlo.held (c.tc : Thread nD τ) (Pipeline.arrRefs (pcfgs (F := F) 0).spec) (V0 m c) ∗ (∃ r, prngReg c r)
      ∗ (StableHlo.held (c.tc : Thread nD τ) (others (F := F)) (V0 m c) ∗ emp) ∗ Tk det m c ∗ ∃ Wd, owes (c : Thread nD τ) (0 + owe12 c) Wd)
  rw [held_split, zero_add]
  unfold Rin
  iintro ⟨⟨H1, H2⟩, Hp, HT, HO⟩
  isplitl [H1]; · iexact H1
  isplitl [Hp]; · iexact Hp
  isplitl [H2]
  · isplitl [H2]; · iexact H2
    iempintro
  isplitl [HT]; · iexact HT
  iexact HO

/-- The region changes no buffer but its result. -/
theorem v1_arr (c : Dev nD) (γ : Out det m c) (b : Ref sig .tc) (h : b ≠ main_v5) : V1 det m c γ (Proc.devRef .tc b) = V0 m c (Proc.devRef .tc b) :=
  Function.update_of_ne (StableHlo.devRef_ne_of_ne h) _ _

/-- The region's result is a window's array. -/
theorem v5_other : (Proc.devRef (τ := τ) .tc main_v5) ∉ others (F := F) := fun h =>
  (Finset.mem_sdiff.mp h).2 ((by decide : Proc.devRef (τ := τ) .tc main_v5 ∈ Pipeline.arrRefs (τ := τ) spec0))

/-- The windows' arrays after the region are the buffers at the result's contents. -/
theorem arrays_after (c : Dev nD) (G : (w : Fin (Pipeline.pin (pcfgs (F := F)) adm 0).W) → Buf (Elt F) (((Pipeline.pin (pcfgs (F := F)) adm 0).win w).arr.view.loc (c.tc : Thread nD τ)))
    (hG : ∀ w, fgt (F := F) det 0 w = false → G w = (pdats det m 0 c).arrAt w (Pipeline.pin (pcfgs (F := F)) adm 0).N)
    (γ : Out det m c) (hγ : γ.1 = G 3) :
    ((pdats det m 0 c).arrays G : sProp 𝕄) = StableHlo.held (c.tc : Thread nD τ) (Pipeline.arrRefs (pcfgs (F := F) 0).spec) (V1 det m c γ) := by
  refine Pipeline.arrays_held (pcfgs (F := F)) adm (pdats det m) 0 kitP c (fun w => share_full det m c w) G (V1 det m c γ) fun w => ?_
  match w with
  | 0 => exact (hG 0 rfl).trans (((dat0 det m c).arrAt_in 0 rfl _).trans (v1_arr det m c γ main_v4 (by decide)).symm)
  | 1 => exact (hG 1 rfl).trans (((dat0 det m c).arrAt_in 1 rfl _).trans (v1_arr det m c γ main_arg2 (by decide)).symm)
  | 2 => exact (hG 2 rfl).trans (((dat0 det m c).arrAt_in 2 rfl _).trans (v1_arr det m c γ main_arg3 (by decide)).symm)
  | 3 => exact hγ.symm.trans (Function.update_self (Proc.devRef .tc main_v5) γ.1 (V0 m c)).symm
  | ⟨_ + 4, h⟩ => exact absurd h (Nat.not_lt.2 (Nat.le_add_left _ _))

/-- The region ends with what the last host operations start from. -/
theorem from_region (hdet : det = true → Law F) (c : Dev nD) : (region det m hdet).post c ⊢ (host1 det m).pre c := by
  change iprop((∃ G, ⌜∀ w, fgt (F := F) det 0 w = false → G w = (pdats det m 0 c).arrAt w (Pipeline.pin (pcfgs (F := F)) adm 0).N⌝ ∗ (pdats det m 0 c).arrays G)
      ∗ (∃ r, prngReg c r) ∗ ((∃ W' : Valuation τ sig (Elt F), ⌜True⌝ ∗ StableHlo.held (c.tc : Thread nD τ) ∅ W') ∗ StableHlo.held (c.tc : Thread nD τ) (others (F := F) \ ∅) (V0 m c) ∗ emp)
      ∗ Yk c ∗ ∃ Wd, owes (c : Thread nD τ) (0 : CellTallies nD τ sig Unit) Wd)
    ⊢ iprop((∃ γ : Out det m c, StableHlo.held (c.tc : Thread nD τ) bufs (V1 det m c γ)) ∗ Rout c)
  iintro ⟨⟨%G, %hG, HA⟩, -, ⟨-, Ho, -⟩, HY, HO⟩
  isplitr [HY HO]
  · have hγ : det = true → G 3 = RES (inputs m) c := fun h => by
      subst h; exact (hG 3 rfl).trans (arr3 true m c)
    iexists (⟨G 3, hγ⟩ : Out det m c)
    rw [held_split]
    isplitl [HA]
    · iapply (Entails.of_eq (arrays_after det m c G hG ⟨G 3, hγ⟩ rfl)); iexact HA
    · have ho : (StableHlo.held (c.tc : Thread nD τ) (others (F := F) \ ∅) (V0 m c) : sProp 𝕄) = StableHlo.held (c.tc : Thread nD τ) (others (F := F)) (V1 det m c ⟨G 3, hγ⟩) := by
        rw [Finset.sdiff_empty]
        unfold StableHlo.held
        refine bigSep_congr fun b hb => ?_
        have hne : b ≠ Proc.devRef .tc main_v5 := fun e => v5_other (F := F) (e ▸ hb)
        unfold V1
        rw [Function.update_of_ne hne]
      iapply (Entails.of_eq ho); iexact Ho
  · unfold Rout
    isplitl [HY]; · iexact HY
    iexact HO

end Cert.Proof.Ring

end
-- ==== Proof.Run.lean ====
/- The run of @main on the four devices: it ends, the arguments are unchanged, the semaphores are back at zero, and the result is what the
   host's operations make of the region's. -/
module

public import proofs.«01_k».proof.Proof.Launch

@[expose] public section

noncomputable section

namespace Cert.Proof.Ring

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (det : Bool) (m : (ℓ : Loc nD τ sig) → Buf (Elt F) ℓ) (ρ : Dev nD → PrngReg)

/-! ## The values around the region -/

/-- The queries the region finds, of a device's tokens and the projection. -/
def qOf (x : Vec F S1x256x1024 .f32) (w : Vec F S1024x1024 .f32) : Vec F S8x256x128 .f32 :=
  transpose S8x256x128 [1, 0, 2] (shapeCast S256x8x128 (Host.dotGeneral dot_S256x1024_S1024x1024_S256x1024_1_0_0_1_n_n none
    (shapeCast S256x1024 x shapeCasts_S1x256x1024_S256x1024) w) shapeCasts_S256x1024_S256x8x128) transposes_S256x8x128_S8x256x128_1_0_2

/-- The result, of the attention and the projection back. -/
def outOf (f : Vec F S8x256x128 .f32) (w : Vec F S1024x1024 .f32) : Vec F S1x256x1024 .f32 :=
  broadcastInDim S1x256x1024 ![1, 2] bcast_S256x1024_S1x256x1024_1_2
    (Host.dotGeneral dot_S256x1024_S1024x1024_S256x1024_1_0_0_1_n_n none
      (shapeCast S256x1024 (transpose S256x8x128 [1, 0, 2] f transposes_S8x256x128_S256x8x128_1_0_2) shapeCasts_S256x8x128_S256x1024) w)

/-- The queries the region finds are the projected tokens. -/
theorem inputs_q (c : Dev nD) : (inputs m).q c = qOf (m ((c : Thread nD τ).loc main_arg0)) (m ((c : Thread nD τ).loc main_arg1)) := by
  show StableHlo.after hostOps0 (Vm m c) (Proc.devRef .tc main_v4) = _
  rw [hostOps0]
  rw [StableHlo.after_cons, StableHlo.after_cons, StableHlo.after_cons, StableHlo.after_cons, StableHlo.after_nil,
    StableHlo.unary_result, StableHlo.reshape_result, StableHlo.binary_result, StableHlo.reshape_result,
    StableHlo.reshape_result_ne]
  · rfl
  · decide
/-- The keys the region finds are the argument. -/
theorem inputs_k (c : Dev nD) : (inputs m).k c = m ((c : Thread nD τ).loc main_arg2) := V_main_arg2 m c
/-- The values the region finds are the argument. -/
theorem inputs_v (c : Dev nD) : (inputs m).v c = m ((c : Thread nD τ).loc main_arg3) := V_main_arg3 m c

/-- A buffer neither the host's later operations nor the region write ends as the region found it. -/
theorem V2_keep (c : Dev nD) (γ : Out det m c) (b : Ref sig .tc) (h6 : b ≠ main_v6) (h7 : b ≠ main_v7) (h8 : b ≠ main_v8) (h9 : b ≠ main_v9) (h5 : b ≠ main_v5) :
    V2 det m c γ (Proc.devRef .tc b) = V m c b := by
  unfold V2
  rw [StableHlo.after_of_forall_not_mem (b := Proc.devRef .tc b) _ _ (List.forall_iff_forall_mem.mp (by
      simp only [hostOps1, List.Forall, StableHlo.unary_writes, StableHlo.binary_writes, StableHlo.reshape_writes, Finset.mem_singleton]
      exact ⟨StableHlo.devRef_ne_of_ne h6, StableHlo.devRef_ne_of_ne h7, StableHlo.devRef_ne_of_ne h8, StableHlo.devRef_ne_of_ne h9⟩)),
    v1_arr det m c γ b h5]

/-- The result's buffer at the end. -/
theorem V2_out (c : Dev nD) (γ : Out det m c) : V2 det m c γ (Proc.devRef .tc main_v9) = outOf γ.1 (m ((c : Thread nD τ).loc main_arg4)) := by
  unfold V2
  rw [hostOps1]
  rw [StableHlo.after_cons, StableHlo.after_cons, StableHlo.after_cons, StableHlo.after_cons, StableHlo.after_nil,
    StableHlo.unary_result, StableHlo.binary_result, StableHlo.reshape_result, StableHlo.unary_result,
    StableHlo.reshape_result_ne (r := main_arg4) (h := by decide), StableHlo.unary_result_ne (r := main_arg4) (h := by decide)]
  rw [v1_arr det m c γ main_arg4 (by decide), show V1 det m c γ (Proc.devRef .tc main_v5) = γ.1 from Function.update_self _ _ _,
    show V0 m c (Proc.devRef .tc main_arg4) = m ((c : Thread nD τ).loc main_arg4) from V_main_arg4 m c]
  rfl

/-! ## The launch -/

/-- The launch element: the pipeline's at its staging cells, the protocol's at its own. -/
def u₀ : UU :=
  (initOf (Pipeline.cells (Pipeline.pin (pcfgs (F := F)) adm) cellOf_inj) (Pipeline.launchToks (Pipeline.pin (pcfgs (F := F)) adm) cellOf_inj),
    launchOf barCells scCells toks)

/-- Everything on device 0. -/
def atZero (X : sProp 𝕄) (c : Dev nD) : sProp 𝕄 := if c = 0 then X else iprop(emp)
/-- What is on device 0 alone is there among all devices. -/
theorem bigSep_atZero (X : sProp 𝕄) : bigSep Finset.univ (atZero X) = X := by
  rw [bigSep_univ_at _ (0 : Dev nD), bigSep_congr (s := Finset.univ.erase (0 : Dev nD)) (Ψ := fun _ => (BI.emp : sProp 𝕄))
      fun c hc => by unfold atZero; rw [if_neg (Finset.ne_of_mem_erase hc)]; rfl, BI.bigSep_emp_const]
  unfold atZero; rw [if_pos rfl]
  exact BI.equiv_iff.mp sep_emp

/-- The protocol's launch element, kept whole until the cells are funded. -/
def seed : Dev nD → sProp 𝕄 := atZero (BI.own (ER (launchOf barCells scCells toks)))

/-- What every device may consult: the cells' invariants, and the barriers in their first round. -/
def records (κ : GSem nD τ sig → ℕ) : sProp 𝕄 :=
  iprop((bigSep (barCells ∪ scCells) fun g => cellInv ER (ringRd det (inputs m)) (κ g) g) ∗ bigSep barCells fun g => reached ER g 0)

/-- The records may be consulted as often as needed. -/
instance records_persistent (κ : GSem nD τ sig → ℕ) : BI.Persistent (records det m κ) := by unfold records; infer_instance

/-- The records hold every invariant. -/
theorem records_invs (κ : GSem nD τ sig → ℕ) : records det m κ ⊢ invs det (inputs m) κ := by
  unfold records invs
  iintro ⟨#H, -⟩
  have h : (bigSep (barCells ∪ scCells) fun g => cellInv ER (ringRd det (inputs m)) (κ g) g)
      ⊢ (bigSep Finset.univ fun p : Dev nD × Option Key => cellInv ER (ringRd det (inputs m)) (κ (cellAt p)) (cellAt p) : sProp 𝕄) :=
    bigSep_intro_persistent fun p _ => by
      obtain ⟨c, k | k⟩ := p
      · exact bigSep_elim (Φ := fun g => cellInv ER (ringRd det (inputs m)) (κ g) g) (bar_mem c)
      · exact bigSep_elim (Φ := fun g => cellInv ER (ringRd det (inputs m)) (κ g) g) (key_mem c k)
  iapply h; iexact H

/-- The records say that the barriers a device signals are in their first round. -/
theorem records_bars (κ : GSem nD τ sig → ℕ) (c : Dev nD) : records det m κ ⊢ bars c := by
  unfold records bars
  iintro ⟨-, #H⟩
  have h : (bigSep barCells fun g => reached ER g 0) ⊢ (bigSep Finset.univ fun d : Fin 3 => reached ER (barCell (c + d.succ)) 0 : sProp 𝕄) :=
    bigSep_intro_persistent fun d _ => bigSep_elim (Φ := fun g => reached ER g 0) (Finset.mem_map_of_mem barEmb (Finset.mem_univ (c + d.succ)))
  iapply h; iexact H

/-- A device's own share of the protocol's launch. -/
def linear (c : Dev nD) : sProp 𝕄 :=
  iprop((atPos ER (barCell c) 0 ∅ 0 ∗ bigSep Finset.univ fun k : Key => openTok ER (cell c k)) ∗ dues c)

/-- And what the launch gives it besides. -/
def bundle (c : Dev nD) : sProp 𝕄 :=
  iprop(StableHlo.held (c.tc : Thread nD τ) bufs (Vm m c) ∗ takes c ∗ owes (c : Thread nD τ) (owe12 c) ∅ ∗ ∃ r, prngReg c r)

/-- What a device starts `@main` with. -/
abbrev T₀ (c : Dev nD) : sProp 𝕄 := iprop(StableHlo.held (c.tc : Thread nD τ) bufs (Vm m c) ∗ Rin det m c)
/-- What a device ends `@main` with. -/
abbrev Tₙ (c : Dev nD) : sProp 𝕄 := iprop((∃ γ : Out det m c, StableHlo.held (c.tc : Thread nD τ) bufs (V2 det m c γ)) ∗ semVal (barCell c) 0)

/-- The launch gives each device what it starts with. -/
theorem T₀_intro (κ : GSem nD τ sig → ℕ) (c : Dev nD) : iprop(records det m κ ∗ (linear c ∗ bundle m c)) ⊢ T₀ det m c := by
  unfold bundle linear T₀ Rin Tk
  iintro ⟨#HR, ⟨Hpos, Hd⟩, Hh, Ht, HO, Hp⟩
  isplitl [Hh]; · iexact Hh
  isplitl [Hp]; · iexact Hp
  isplitr [HO]
  · isplitr; · iexists κ; iapply (records_invs det m κ); iexact HR
    isplitr; · iapply (records_bars det m κ c); iexact HR
    isplitl [Hpos]; · iexact Hpos
    isplitl [Hd] <;> iassumption
  · iexists ∅; iexact HO

/-- The launch deals every device its share. -/
theorem init :
    iprop((bigSep Finset.univ fun c : Dev nD => iprop(unscopedBufs c (fun b => m ((c : Thread nD τ).loc b)) ∗ unscopedSems0 c
          ∗ owes (c : Thread nD τ) (owe12 c) ∅ ∗ Pipeline.launchCred owe12 c ∗ prngReg c (ρ c) ∗ seed c)) ∗ levAts L lv)
      ⊢ (|={Set.univ}=> bigSep Finset.univ (T₀ det m) : sProp 𝕄) := by
  have hcore (c : Dev nD) : iprop(unscopedBufs c (fun b => m ((c : Thread nD τ).loc b)) ∗ unscopedSems0 c
        ∗ owes (c : Thread nD τ) (owe12 c) ∅ ∗ Pipeline.launchCred owe12 c ∗ prngReg c (ρ c) ∗ seed c)
      ⊢ (iprop(bundle m c ∗ (semVal (barCell c) 0 ∗ seed c)) : sProp 𝕄) := by
    rw [show unscopedBufs c (fun b => m ((c : Thread nD τ).loc b)) = StableHlo.held (c.tc : Thread nD τ) bufs (Vm m c) from unscopedBufs_held c (Vm m c),
      unscopedSems0_eq]
    unfold bundle
    iintro ⟨Hh, Hus, HO, Hcr, Hp, HG⟩
    ihave Hc := (creds (F := F) c) $$ Hcr
    isplitl [Hh Hc HO Hp]
    · isplitl [Hh]; · iexact Hh
      isplitl [Hc]; · iexact Hc
      isplitl [HO]; · iexact HO
      iexists (ρ c); iexact Hp
    isplitl [Hus] <;> iassumption
  have hv : bigSep Finset.univ (fun c : Dev nD => (semVal (barCell c) 0 : sProp 𝕄)) ⊢ bigSep barCells (fun g => (semVal g 0 : sProp 𝕄)) :=
    Entails.of_eq (BI.bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (barCell c) 0 ∅ 0 : sProp 𝕄)) :=
    Entails.of_eq (BI.bigSep_map (s := Finset.univ) barEmb (Φ := fun g : GSem nD τ sig => (atPos ER g 0 ∅ 0 : sProp 𝕄)))
  have hopen : bigSep scCells (fun g => (openTok ER g : sProp 𝕄))
      ⊢ bigSep Finset.univ (fun c : Dev nD => bigSep Finset.univ fun k : Key => openTok ER (cell c k)) :=
    Entails.of_eq (by unfold scCells; rw [BI.bigSep_map, BI.bigSep_univ_prod]; rfl)
  have hpair {Φ Ψ : Dev nD → sProp 𝕄} : iprop(bigSep Finset.univ Φ ∗ bigSep Finset.univ Ψ) ⊢ bigSep Finset.univ fun c => iprop(Φ c ∗ Ψ c) :=
    Entails.of_eq (bigSep_sep' Finset.univ Φ Ψ).symm
  have hunpair {Φ Ψ : Dev nD → sProp 𝕄} : (bigSep Finset.univ fun c => iprop(Φ c ∗ Ψ c)) ⊢ iprop(bigSep Finset.univ Φ ∗ bigSep Finset.univ Ψ) :=
    Entails.of_eq (bigSep_sep' Finset.univ Φ Ψ)
  iintro ⟨H, -⟩
  ihave H' := (show (bigSep Finset.univ fun c : Dev nD => iprop(unscopedBufs c (fun b => m ((c : Thread nD τ).loc b)) ∗ unscopedSems0 c
          ∗ owes (c : Thread nD τ) (owe12 c) ∅ ∗ Pipeline.launchCred owe12 c ∗ prngReg c (ρ c) ∗ seed c))
      ⊢ (bigSep Finset.univ fun c : Dev nD => iprop(bundle m c ∗ (semVal (barCell c) 0 ∗ seed c)) : sProp 𝕄) from bigSep_mono fun c _ => hcore c) $$ H
  ihave H2 := hunpair $$ H'; icases H2 with ⟨HB, H3⟩
  ihave H4 := hunpair $$ H3; icases H4 with ⟨Hv, HG⟩
  ihave Hu := (show bigSep Finset.univ (seed (F := F)) ⊢ BI.own (ER (launchOf barCells scCells toks)) from
    Entails.of_eq (bigSep_atZero (F := F) (BI.own (ER (launchOf barCells scCells toks))))) $$ HG
  imod (Rounds.fund_launch ER (ringRd det (inputs m)) disjoint_cells (fun g _ h => h) toks) $$ [Hv Hu] with ⟨%κ, -, #Hinv, #Hr, Hat, Hopen, Htok⟩
  · isplitl [Hv]
    · iapply hv $$ Hv
    · iexact Hu
  imodintro
  iapply (bigSep_with_persistent (R := records det m κ) (Φ := fun c => iprop(linear c ∗ bundle m c)) fun c _ => T₀_intro det m κ c)
  isplitr
  · unfold records
    isplitr; · iexact Hinv
    iexact Hr
  iapply hpair
  isplitr [HB]
  · unfold linear
    iapply hpair
    isplitl [Hat Hopen]
    · iapply hpair
      isplitl [Hat]; · iapply hat $$ Hat
      iapply hopen $$ Hopen
    iapply (toks_dealt (F := F)) $$ Htok
  · iexact HB

/-! ## The run -/

set_option backward.isDefEq.respectTransparency.types false in
/-- THE RUN: from any memory with zero counters, every weakly fair execution of @main on the four devices terminates, and every final
    state has the arguments unchanged and every semaphore counter at zero; the result is the host's operations over an array that, when the
    contents are followed, is the attention of the devices' queries, keys and values. -/
theorem run_main (hdet : det = true → Law F) : θ_run defs (onTc (τ := τ) (main (F := F))) ⟨m, fun _ => 0, ρ⟩
    (fun r => (∀ c : Dev nD,
        (∃ f : Vec F S8x256x128 .f32, (det = true → f = RES (inputs m) c)
          ∧ r.2.mem ((c.tc : Thread nD τ).loc main_v9) = outOf f (m ((c : Thread nD τ).loc main_arg4)))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)) ∧ r.2.sem = fun _ => 0) :=
  Pipeline.RDat.θ_run_regions_kit_sems (pcfgs (F := F)) adm (Pipeline.toRsF (pcfgs (F := F)) adm (pdats det m) (fgt det)) () cellOf_inj EP defs₀ 𝒱₀ L lv m ρ main (segs det m hdet)
    (fun c Q => by rw [main_eq det m hdet c])
    (by simp only [segs, Pipeline.RDat.Seg.pipes_host, Pipeline.RDat.Seg.pipes_region, Pipeline.RDat.Seg.pipes_nil]; decide)
    (O₀ := owe12) (hL := L_of_ne) (G := seed) (u₀ := u₀ (F := F))
    (hu₀ := by
      unfold u₀ seed
      iintro Hu
      ihave H := (ownU_pair _ _) $$ Hu
      icases H with ⟨HP, HX⟩
      imodintro
      isplitl [HP]; · iexact HP
      rw [bigSep_atZero]; iexact HX)
    (T₀ := T₀ det m) (Tₙ := Tₙ det m)
    (hch := by
      refine ⟨fun c => .rfl, fun c => to_region det m hdet c, fun c => from_region det m hdet c, fun c => ?_⟩
      change iprop((∃ γ : Out det m c, StableHlo.held (c.tc : Thread nD τ) bufs (V2 det m c γ)) ∗ Rout c)
        ⊢ iprop(Tₙ det m c ∗ ∃ W, owes (c : Thread nD τ) (0 : CellTallies nD τ sig Unit) W)
      unfold Rout Yk
      iintro ⟨Hh, Hb0, HO⟩
      isplitr [HO]
      · isplitl [Hh] <;> iassumption
      · iexact HO)
    (hinit := init det m ρ)
    (QY := fun c s => (∃ γ : Out det m c,
        s.mem ((Memref.whole main_v9).view.loc (c : Thread nD τ)) = V2 det m c γ main_v9
        ∧ s.mem ((Memref.whole main_arg0).view.loc (c : Thread nD τ)) = V2 det m c γ main_arg0
        ∧ s.mem ((Memref.whole main_arg1).view.loc (c : Thread nD τ)) = V2 det m c γ main_arg1
        ∧ s.mem ((Memref.whole main_arg2).view.loc (c : Thread nD τ)) = V2 det m c γ main_arg2
        ∧ s.mem ((Memref.whole main_arg3).view.loc (c : Thread nD τ)) = V2 det m c γ main_arg3
        ∧ s.mem ((Memref.whole main_arg4).view.loc (c : Thread nD τ)) = V2 det m c γ main_arg4)
      ∧ s.sem (barCell c) = 0)
    (hfin := fun c s' => by
      dsimp only [Tₙ]
      simp only [held_bufs]
      iintro ⟨⟨⟨%γ, H0, H1, H2, H3, H4, -, -, -, -, -, -, -, -, H9⟩, Hb0⟩, HSI⟩
      icombine HSI H0 gives %h0
      icombine HSI H1 gives %h1
      icombine HSI H2 gives %h2
      icombine HSI H3 gives %h3
      icombine HSI H4 gives %h4
      icombine HSI H9 gives %h9
      icombine HSI Hb0 gives %hb
      imodintro
      isplitr
      · ipureintro
        exact ⟨⟨γ, Buf.eq_of_forall_mem_univ h9, Buf.eq_of_forall_mem_univ h0, Buf.eq_of_forall_mem_univ h1, Buf.eq_of_forall_mem_univ h2,
          Buf.eq_of_forall_mem_univ h3, Buf.eq_of_forall_mem_univ h4⟩, by simpa using hb⟩
      iexact HSI)
    (hQ := fun s h hs => ⟨fun c => by
        obtain ⟨⟨γ, h9, h0, h1, h2, h3, h4⟩, -⟩ := h c
        refine ⟨⟨γ.1, γ.2, h9.trans (V2_out det m c γ)⟩, ?_, ?_, ?_, ?_, ?_⟩
        · exact h0.trans ((V2_keep det m c γ main_arg0 (by decide) (by decide) (by decide) (by decide) (by decide)).trans (V_main_arg0 m c))
        · exact h1.trans ((V2_keep det m c γ main_arg1 (by decide) (by decide) (by decide) (by decide) (by decide)).trans (V_main_arg1 m c))
        · exact h2.trans ((V2_keep det m c γ main_arg2 (by decide) (by decide) (by decide) (by decide) (by decide)).trans (V_main_arg2 m c))
        · exact h3.trans ((V2_keep det m c γ main_arg3 (by decide) (by decide) (by decide) (by decide) (by decide)).trans (V_main_arg3 m c))
        · exact h4.trans ((V2_keep det m c γ main_arg4 (by decide) (by decide) (by decide) (by decide) (by decide)).trans (V_main_arg4 m c)),
      sem_eq_zero hs fun c sm hsm => by
        obtain rfl := unscoped_eq sm hsm
        exact (h c).2⟩)

end Cert.Proof.Ring

end
-- ==== Proof.Frames.lean ====
/- The frames: the kernel as printed, its idealization, and the reference each end with their arguments unchanged and every counter at zero. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Run

@[expose] public section

noncomputable section

namespace Cert.Proof

open Idealize.ShloMosaic Idealize.SL.Sem

/-- The idealized kernel's frame: its run without following the result. -/
theorem frame_ideal : Cert.quiescent_KernelIdeal (hKernelIdeal := Cert.KernelIdeal.Gen.facts) := fun m ρ _ =>
  (θ_run (Cert.KernelIdeal.defs (F := Ideal)) _ _).mono (fun _ h => ⟨fun c => (h.1 c).2, h.2⟩)
    (Ring.run_main false m ρ (fun h => nomatch h))

/-- The two printed programs are the same text: their function bodies are equal. -/
theorem main_same : (Cert.Kernel.main (F := Bits)) = Cert.KernelIdeal.main (F := Bits) := rfl

/-- The two printed body tables agree at every label. -/
theorem bodies_same : (Cert.Kernel.defs₀ (F := Bits)) = Cert.KernelIdeal.defs₀ (F := Bits) := by
  unfold Cert.Kernel.defs₀ Cert.KernelIdeal.defs₀
  refine congrArg Defs.onTc (funext fun l => ?_)
  match l with
  | ⟨0, _⟩ => rfl

/-- The two printed programs call the same functions. -/
theorem defs_same : (Cert.Kernel.defs (F := Bits)) = Cert.KernelIdeal.defs (F := Bits) :=
  congrArg (Pipeline.defs (Cert.KernelIdeal.pcfgs (F := Bits))) bodies_same

/-- The printed kernel's frame: the same program over bit patterns. -/
theorem frame_kernel : Cert.quiescent_Kernel (hKernel := Cert.Kernel.Gen.facts) := by
  intro m ρ _
  have h := (θ_run (Cert.KernelIdeal.defs (F := Bits)) _ _).mono (fun _ h => (⟨fun c => (h.1 c).2, h.2⟩ : _ ∧ _))
    (Ring.run_main (F := Bits) false m ρ (fun h => nomatch h))
  rw [defs_same, main_same]
  exact h

/-- The reference's frame: no operation writes an argument, and it declares no counter. -/
theorem frame_reference : Cert.quiescent_ReferenceIdeal (hReferenceIdeal := Cert.ReferenceIdeal.Gen.facts) := fun m ρ _ =>
  (θ_run (Cert.ReferenceIdeal.defs (F := Ideal)) _ _).mono
    (fun r h => ⟨fun c => (h c).2, Idealize.ShloMosaic.sem_eq_zero_of_no_sems (by decide) r.2⟩)
    (Cert.ReferenceIdeal.Value.run m ρ)

end Cert.Proof

end
-- ==== Proof.Masks.lean ====
/- The masks of the four rounds, read at an index: which keys a query attends to, by the block numbers of both. -/
module

public import proofs.«01_k».proof.Proof.Contents
public import Idealize.ShloMosaic.Lib.Pointwise

@[expose] public section

set_option maxRecDepth 16384

noncomputable section

namespace Cert.Proof

/-- Whether the query in row `r` attends to the key in column `c`: in the same block of 64, in the first block, or in blocks whose
    numbers add up to a multiple of three. -/
def allowed (r c : ℕ) : Bool := decide (r / 64 = c / 64) || decide (c / 64 = 0) || decide ((r / 64 + c / 64) % 3 = 0)

namespace Ring

open Cert.KernelIdeal Cert.KernelIdeal.Gen
open Idealize.ShloMosaic

/-- The block of key `j` of device `c`, as the kernel computes it. -/
theorem keyBlk_at (c : Dev nD) (j : Fin 4096) : keyBlk c (ix2 0 j) = BitVec.ofNat 32 ((4096 * c.val + j.val) / 64) := by
  unfold keyBlk k0_pay21
  pointwise
  revert c j
  decide +kernel

/-- The block of query `i`, round 0. -/
theorem qBlk0_at (c : Dev nD) (i : Fin 256) :
    k0_pay26 (k0_pay22 (ringPos c)) (k0_pay23 (ringPos c)) (k0_pay24 (ringPos c)) k0_pay25 (ix2 i 0)
      = BitVec.ofNat 32 ((256 * c.val + i.val) / 64) := by
  unfold k0_pay26 k0_pay23 k0_pay24 k0_pay25 k0_pay22
  pointwise
  revert c i
  decide +kernel

/-- The block of query `i`, round 1. -/
theorem qBlk1_at (c : Dev nD) (i : Fin 256) :
    k0_pay31 (ringPos c) (ix2 i 0) = BitVec.ofNat 32 ((256 * (c - 1).val + i.val) / 64) := by
  unfold k0_pay31
  pointwise
  revert c i
  decide +kernel

/-- The block of query `i`, round 2. -/
theorem qBlk2_at (c : Dev nD) (i : Fin 256) :
    k0_pay41 (k0_pay37 (ringPos c)) (k0_pay38 (ringPos c)) (k0_pay39 (ringPos c)) k0_pay40 (ix2 i 0)
      = BitVec.ofNat 32 ((256 * (c - 2).val + i.val) / 64) := by
  unfold k0_pay41 k0_pay38 k0_pay39 k0_pay40 k0_pay37
  pointwise
  revert c i
  decide +kernel

/-- The block of query `i`, round 3. -/
theorem qBlk3_at (c : Dev nD) (i : Fin 256) :
    k0_pay46 (ringPos c) (ix2 i 0) = BitVec.ofNat 32 ((256 * (c - 3).val + i.val) / 64) := by
  unfold k0_pay46
  pointwise
  revert c i
  decide +kernel

/-- The mask of round 0 at an index. -/
theorem mask0_at (c : Dev nD) (i : Fin 256) (j : Fin 4096) :
    mask c 0 (ix2 i j) = BitVec.ofBool (allowed (256 * c.val + i.val) (4096 * c.val + j.val)) := by
  have hb : (4096 * c.val + j.val) / 64 < 256 := by have := c.isLt; change c.val < 4 at this; omega
  have ha : (256 * c.val + i.val) / 64 < 16 := by have := c.isLt; change c.val < 4 at this; omega
  unfold mask k0_pay29 k0_pay27 k0_pay28
  pointwise
  rw [qBlk0_at c i, keyBlk_at c j]
  unfold allowed
  generalize (4096 * c.val + j.val) / 64 = b at *
  generalize (256 * c.val + i.val) / 64 = a at *
  obtain ⟨a, rfl⟩ : ∃ a' : Fin 16, a'.val = a := ⟨⟨a, ha⟩, rfl⟩
  obtain ⟨b, rfl⟩ : ∃ b' : Fin 256, b'.val = b := ⟨⟨b, hb⟩, rfl⟩
  clear ha hb
  revert a b
  decide +kernel

/-- The mask of round 1 at an index. -/
theorem mask1_at (c : Dev nD) (i : Fin 256) (j : Fin 4096) :
    mask c 1 (ix2 i j) = BitVec.ofBool (allowed (256 * (c - 1).val + i.val) (4096 * c.val + j.val)) := by
  have hb : (4096 * c.val + j.val) / 64 < 256 := by have := c.isLt; change c.val < 4 at this; omega
  have ha : (256 * (c - 1).val + i.val) / 64 < 16 := by have := (c - 1).isLt; change (c - 1).val < 4 at this; omega
  unfold mask k0_pay35 k0_pay33 k0_pay34 k0_pay32
  pointwise
  rw [qBlk1_at c i, keyBlk_at c j]
  unfold allowed
  generalize (4096 * c.val + j.val) / 64 = b at *
  generalize (256 * (c - 1).val + i.val) / 64 = a at *
  obtain ⟨a, rfl⟩ : ∃ a' : Fin 16, a'.val = a := ⟨⟨a, ha⟩, rfl⟩
  obtain ⟨b, rfl⟩ : ∃ b' : Fin 256, b'.val = b := ⟨⟨b, hb⟩, rfl⟩
  clear ha hb
  revert a b
  decide +kernel

/-- The mask of round 2 at an index. -/
theorem mask2_at (c : Dev nD) (i : Fin 256) (j : Fin 4096) :
    mask c 2 (ix2 i j) = BitVec.ofBool (allowed (256 * (c - 2).val + i.val) (4096 * c.val + j.val)) := by
  have hb : (4096 * c.val + j.val) / 64 < 256 := by have := c.isLt; change c.val < 4 at this; omega
  have ha : (256 * (c - 2).val + i.val) / 64 < 16 := by have := (c - 2).isLt; change (c - 2).val < 4 at this; omega
  unfold mask k0_pay44 k0_pay42 k0_pay43
  pointwise
  rw [qBlk2_at c i, keyBlk_at c j]
  unfold allowed
  generalize (4096 * c.val + j.val) / 64 = b at *
  generalize (256 * (c - 2).val + i.val) / 64 = a at *
  obtain ⟨a, rfl⟩ : ∃ a' : Fin 16, a'.val = a := ⟨⟨a, ha⟩, rfl⟩
  obtain ⟨b, rfl⟩ : ∃ b' : Fin 256, b'.val = b := ⟨⟨b, hb⟩, rfl⟩
  clear ha hb
  revert a b
  decide +kernel

/-- The mask of round 3 at an index. -/
theorem mask3_at (c : Dev nD) (i : Fin 256) (j : Fin 4096) :
    mask c 3 (ix2 i j) = BitVec.ofBool (allowed (256 * (c - 3).val + i.val) (4096 * c.val + j.val)) := by
  have hb : (4096 * c.val + j.val) / 64 < 256 := by have := c.isLt; change c.val < 4 at this; omega
  have ha : (256 * (c - 3).val + i.val) / 64 < 16 := by have := (c - 3).isLt; change (c - 3).val < 4 at this; omega
  unfold mask k0_pay47
  pointwise
  rw [qBlk3_at c i, keyBlk_at c j]
  unfold allowed
  generalize (4096 * c.val + j.val) / 64 = b at *
  generalize (256 * (c - 3).val + i.val) / 64 = a at *
  obtain ⟨a, rfl⟩ : ∃ a' : Fin 16, a'.val = a := ⟨⟨a, ha⟩, rfl⟩
  obtain ⟨b, rfl⟩ : ∃ b' : Fin 256, b'.val = b := ⟨⟨b, hb⟩, rfl⟩
  clear ha hb
  revert a b
  decide +kernel

/-- The mask of any round: the queries are those of the device `r` places before, the keys this device's. -/
theorem mask_at (c r : Dev nD) (i : Fin 256) (j : Fin 4096) :
    mask c r (ix2 i j) = BitVec.ofBool (allowed (256 * (c - r).val + i.val) (4096 * c.val + j.val)) := by
  change Fin 4 at r
  fin_cases r
  · have h := mask0_at c i j
    rw [show c = c - (0 : Fin 4) from (sub_zero c).symm] at h
    simpa using h
  · exact mask1_at c i j
  · exact mask2_at c i j
  · exact mask3_at c i j

end Ring

end Cert.Proof

end
-- ==== Proof.KerValue.lean ====
/- The kernel's result at an index: numerators and denominators as sums over a shard's keys, and the quotient of their sums over the
   four shards. -/
module

public import proofs.«01_k».proof.Proof.Masks
public import proofs.«01_k».proof.Proof.Run

@[expose] public section

set_option maxRecDepth 16384

noncomputable section

namespace Cert.Proof.Ring

open Cert.KernelIdeal Cert.KernelIdeal.Gen
open Idealize.ShloMosaic

/-- The indicator of a bit, as the kernel converts it. -/
theorem sitofp_bit (b : Bool) :
    (FloatOps.sitofp .f32 (BitVec.setWidth 32 (BitVec.ofBool b)) : Ideal .f32) = if b then 1 else 0 := by
  cases b <;> simp [FloatOps.sitofp]

/-- The bit of column `j` being column `h`. -/
theorem isCol_word (h j : Fin 8) :
    IntOp.cmpi .eq (BitVec.ofNat 32 j.val) (Scf.iv 0#32 1#32 h.val) = BitVec.ofBool (decide (j = h)) := by
  revert h j
  decide +kernel

/-- Over the extended reals the row sums go into their column, whatever the slot held. -/
theorem law_ideal : Law Ideal := by
  intro h s old j
  idx_vars j
  unfold lput k0_pay36 k0_pay7 k0_pay4
  pointwise [cols]
  obtain rfl : j0 = 0 := Subsingleton.elim _ _
  rw [isCol_word, sitofp_bit]
  by_cases e : j2 = h
  · subst e
    simp only [decide_true, if_true]
    rw [show ((1 : EReal) - 1) = 0 from by rw [← EReal.coe_one, ← EReal.coe_sub, sub_self, EReal.coe_zero], mul_zero, zero_add, mul_one]
    rfl
  · refine Eq.trans ?_ (if_neg (fun h' => e (Fin.ext h'))).symm
    simp only [e, decide_false, Bool.false_eq_true, if_false, sub_zero, mul_one, mul_zero, add_zero]

variable (X : Inputs Ideal)

/-- The masked score of a query row against a key, the row's components and the key's given. -/
def sco (b : BitVec 1) (q k : Fin 128 → EReal) : EReal :=
  Scalar.select b ((∑ d, q d * k d) * Ideal.ofBits .f32 0x3DB504F3#32) (Ideal.ofBits .f32 0xCE6E6B28#32)

/-- The numerators of a round: the exponentials of the scores times the values, summed over the keys of the shard. -/
theorem num_at (c : Dev nD) (r : Fin 4) (h : Fin 8) (i : Fin 256) (d : Fin 128) :
    num X c r h (ix3 0 i d) = ∑ j : Fin 4096,
      Ideal.exp (sco (mask c r (ix2 i j)) (fun t => X.q (c - r) (ix3 h i t)) (fun t => X.k c (ix4 0 j h t))) * X.v c (ix4 0 j h d) := by
  unfold num k0_pay2 k0_pay1
  generalize mask c r = mk
  generalize X.q (c - r) = q
  pointwise [qHead, kHead]
  rfl

/-- The row sums of a round: the exponentials of the scores, summed over the keys of the shard. -/
theorem den_at (c : Dev nD) (r : Fin 4) (h : Fin 8) (i : Fin 256) (n : Fin 8) :
    den X c r h (ix2 i n) = ∑ j : Fin 4096,
      Ideal.exp (sco (mask c r (ix2 i j)) (fun t => X.q (c - r) (ix3 h i t)) (fun t => X.k c (ix4 0 j h t))) := by
  unfold den k0_pay8 k0_pay5
  generalize mask c r = mk
  generalize X.q (c - r) = q
  pointwise [qHead, kHead]
  rfl

/-- The quotient of one head: the four numerators by the four slots' column of that head. -/
theorem quot_read (l0 l1 l2 l3 : Vec Ideal S1x256x8 .f32) (h : Fin 8) (o : Vec Ideal S1x256x128 .f32) (p1 p2 p3 : Vec Ideal S1x1x256x128 .f32)
    (i : Fin 256) (d : Fin 128) :
    k0_pay49 l0 l1 l2 l3 (isCol h) o p1 p2 p3 (ix3 0 i d)
      = Ideal.div (o (ix3 0 i d) + p1 (ix4 0 0 i d) + p2 (ix4 0 0 i d) + p3 (ix4 0 0 i d))
          (l0 (ix3 0 i h) + l1 (ix3 0 i h) + l2 (ix3 0 i h) + l3 (ix3 0 i h)) := by
  unfold k0_pay49
  pointwise [isCol, cols]
  refine congrArg (Ideal.div _) ?_
  simp only [isCol_word, sitofp_bit, decide_eq_true_eq, mul_ite, mul_one, mul_zero, Finset.sum_ite_eq', Finset.mem_univ, if_true]

/-- The numerators over the four shards, from the device that computed each. -/
theorem RES_read (c : Dev nD) (h : Fin 8) (i : Fin 256) (d : Fin 128) :
    RES X c (ix3 h i d)
      = Ideal.div
          (num X c 0 h (ix3 0 i d) + num X (c + 1) 1 h (ix3 0 i d) + num X (c + 2) 2 h (ix3 0 i d) + num X (c + 3) 3 h (ix3 0 i d))
          (den X c 0 h (ix2 i h) + den X (c + 1) 1 h (ix2 i h) + den X (c + 2) 2 h (ix2 i h) + den X (c + 3) 3 h (ix2 i h)) :=
  quot_read _ _ _ _ h _ _ _ _ i d

/-- The queries a device projects, at an index. -/
theorem qOf_at (x : Vec Ideal S1x256x1024 .f32) (w : Vec Ideal S1024x1024 .f32) (h : Fin 8) (i : Fin 256) (d : Fin 128) :
    qOf x w (ix3 h i d) = ∑ t : Fin 1024, x (ix3 0 i t) * w (ix2 t ⟨h.val * 128 + d.val, by omega⟩) := by
  unfold qOf
  pointwise

/-- The output projection, at an index. -/
theorem outOf_at (f : Vec Ideal S8x256x128 .f32) (w : Vec Ideal S1024x1024 .f32) (i : Fin 256) (n : Fin 1024) :
    outOf f w (ix3 0 i n) = ∑ t : Fin 1024, f (ix3 ⟨t.val / 128, by omega⟩ i ⟨t.val % 128, by omega⟩) * w (ix2 t n) := by
  unfold outOf
  pointwise

end Cert.Proof.Ring

end
-- ==== Proof.Reference.lean ====
/- The reference's result, cut into named stages over plain arrays. -/
module

public import Idealize.ShloMosaic.PureOps.Ideal
public import proofs.«01_k».proof.Proof.Gen.ReferenceIdeal
public import proofs.«01_k».proof.Proof.Gen.ReferenceIdeal.Run

@[expose] public section

noncomputable section

namespace Cert.Proof.Ref

open Cert.ReferenceIdeal Cert.ReferenceIdeal.Gen
open Idealize.ShloMosaic

/-- The divisor 64, the width of a block. -/
def sixtyFour : IVec S_ 32 := id (constantI S_ 32 64#32)

/-- The block of each query. -/
def rowBlk : IVec S1024 32 :=
  select
    (andi (cmpi .ne (signi (iotaInDim S1024 32 0)) (broadcastInDim S1024 ![] bcast_S_S1024 (signi sixtyFour)))
      (cmpi .ne (Host.remsi (iotaInDim S1024 32 0) (broadcastInDim S1024 ![] bcast_S_S1024 sixtyFour))
        (broadcastInDim S1024 ![] bcast_S_S1024 (constantI S_ 32 0#32))))
    (subi (Host.divsi (iotaInDim S1024 32 0) (broadcastInDim S1024 ![] bcast_S_S1024 sixtyFour))
      (broadcastInDim S1024 ![] bcast_S_S1024 (constantI S_ 32 1#32)))
    (Host.divsi (iotaInDim S1024 32 0) (broadcastInDim S1024 ![] bcast_S_S1024 sixtyFour))

/-- The block of each key. -/
def colBlk : IVec S16384 32 :=
  select
    (andi (cmpi .ne (signi (iotaInDim S16384 32 0)) (broadcastInDim S16384 ![] bcast_S_S16384 (signi sixtyFour)))
      (cmpi .ne (Host.remsi (iotaInDim S16384 32 0) (broadcastInDim S16384 ![] bcast_S_S16384 sixtyFour))
        (broadcastInDim S16384 ![] bcast_S_S16384 (constantI S_ 32 0#32))))
    (subi (Host.divsi (iotaInDim S16384 32 0) (broadcastInDim S16384 ![] bcast_S_S16384 sixtyFour))
      (broadcastInDim S16384 ![] bcast_S_S16384 (constantI S_ 32 1#32)))
    (Host.divsi (iotaInDim S16384 32 0) (broadcastInDim S16384 ![] bcast_S_S16384 sixtyFour))

/-- The queries' blocks down the rows. -/
def qb : IVec S1024x16384 32 :=
  broadcastInDim S1024x16384 ![0, 1] bcast_S1024x1_S1024x16384_0_1 (broadcastInDim S1024x1 ![0] bcast_S1024_S1024x1_0 rowBlk)

/-- The keys' blocks in one row. -/
def kb1 : IVec S1x16384 32 := broadcastInDim S1x16384 ![1] bcast_S16384_S1x16384_1 colBlk

/-- The keys' blocks along the columns. -/
def kb : IVec S1024x16384 32 := broadcastInDim S1024x16384 ![0, 1] bcast_S1x16384_S1024x16384_0_1 kb1

/-- The modulus 3. -/
def three : IVec S_ 32 :=
  select (cmpi .eq (id (constantI S_ 32 3#32)) (constantI S_ 32 0#32)) (constantI S_ 32 1#32) (id (constantI S_ 32 3#32))

/-- The zero of the remainders' shape. -/
def zeros : IVec S1024x16384 32 := broadcastInDim S1024x16384 ![] bcast_S_S1024x16384 (constantI S_ 32 0#32)

/-- The truncated remainder of the blocks' sum by 3. -/
def rem3 : IVec S1024x16384 32 := Host.remsi (addi qb kb) (broadcastInDim S1024x16384 ![] bcast_S_S1024x16384 three)

/-- The remainder with the divisor's sign. -/
def mod3 : IVec S1024x16384 32 :=
  select
    (andi (cmpi .ne (cmpi .slt rem3 zeros) (broadcastInDim S1024x16384 ![] bcast_S_S1024x16384 (cmpi .slt three (constantI S_ 32 0#32))))
      (cmpi .ne rem3 zeros))
    (addi rem3 (broadcastInDim S1024x16384 ![] bcast_S_S1024x16384 three)) rem3

/-- Which keys each query attends to. -/
def allow : IVec S1024x16384 1 :=
  ori
    (ori (cmpi .eq qb kb)
      (broadcastInDim S1024x16384 ![0, 1] bcast_S1x16384_S1024x16384_0_1
        (cmpi .eq kb1 (broadcastInDim S1x16384 ![] bcast_S_S1x16384 (constantI S_ 32 0#32)))))
    (cmpi .eq mod3 zeros)

/-- Which queries attend to some key. -/
def keep : IVec S1x1x1024x1 1 :=
  broadcastInDim S1x1x1024x1 ![2] bcast_S1024_S1x1x1024x1_2
    (Host.reduce IntOp.ori allow (constantI S_ 1 0#1) reducesTo_S1024x16384_S1024_d1 h_S_)

variable (x : FVec Ideal S1x1024x1024 .f32) (wq : FVec Ideal S1024x1024 .f32) (k v : FVec Ideal S1x16384x8x128 .f32)
  (wo : FVec Ideal S1024x1024 .f32)

/-- The projected queries by head. -/
def queries : FVec Ideal S1x1024x8x128 .f32 :=
  shapeCast _ (Host.dotGeneral dot_S1x1024x1024_S1024x1024_S1x1024x1024_2_0_01_1_n_n none x wq : FVec Ideal S1x1024x1024 .f32)
    shapeCasts_S1x1024x1024_S1x1024x8x128

/-- The masked, scaled scores. -/
def scores : FVec Ideal S1x8x1024x16384 .f32 :=
  select
    (broadcastInDim S1x8x1024x16384 ![0, 1, 2, 3] bcast_S1x1x1024x16384_S1x8x1024x16384_0_1_2_3
      (broadcastInDim S1x1x1024x16384 ![2, 3] bcast_S1024x16384_S1x1x1024x16384_2_3 allow))
    (mulf (Host.dotGeneral dot_S1x1024x8x128_S1x16384x8x128_S1x8x1024x16384_3_3_1_1_02_02 none (queries x wq) k)
      (broadcastInDim S1x8x1024x16384 ![] bcast_S_S1x8x1024x16384 (constant S_ .f32 0x3DB504F3#32)))
    (broadcastInDim S1x8x1024x16384 ![] bcast_S_S1x8x1024x16384 (id (constant S_ .f32 0xCE6E6B28#32)))

/-- The greatest score of each row. -/
def top : FVec Ideal S1x8x1024 .f32 :=
  Host.reduce FloatOps.maximumf (scores x wq k) (constant S_ .f32 0xFF800000#32) reducesTo_S1x8x1024x16384_S1x8x1024_d3 h_S_

/-- The exponentials of the scores less their row's greatest. -/
def exps : FVec Ideal S1x8x1024x16384 .f32 :=
  Host.exp (subf (scores x wq k)
    (broadcastInDim S1x8x1024x16384 ![0, 1, 2, 3] bcast_S1x8x1024x1_S1x8x1024x16384_0_1_2_3
      (broadcastInDim S1x8x1024x1 ![0, 1, 2] bcast_S1x8x1024_S1x8x1024x1_0_1_2 (top x wq k))))

/-- Each row's sum of exponentials, one where no key is attended to. -/
def total : FVec Ideal S1x8x1024x1 .f32 :=
  select (broadcastInDim S1x8x1024x1 ![0, 1, 2, 3] bcast_S1x1x1024x1_S1x8x1024x1_0_1_2_3 keep)
    (broadcastInDim S1x8x1024x1 ![0, 1, 2] bcast_S1x8x1024_S1x8x1024x1_0_1_2
      (Host.reduceAdd (exps x wq k) (constant S_ .f32 0x00000000#32) reducesTo_S1x8x1024x16384_S1x8x1024_d3 h_S_))
    (broadcastInDim S1x8x1024x1 ![] bcast_S_S1x8x1024x1 (id (constant S_ .f32 0x3F800000#32)))

/-- The attention weights, zero where no key is attended to. -/
def weights : FVec Ideal S1x8x1024x16384 .f32 :=
  select (broadcastInDim S1x8x1024x16384 ![0, 1, 2, 3] bcast_S1x1x1024x1_S1x8x1024x16384_0_1_2_3 keep)
    (Host.divf (exps x wq k)
      (broadcastInDim S1x8x1024x16384 ![0, 1, 2, 3] bcast_S1x8x1024x1_S1x8x1024x16384_0_1_2_3 (total x wq k)))
    (broadcastInDim S1x8x1024x16384 ![] bcast_S_S1x8x1024x16384 (id (constant S_ .f32 0x00000000#32)))

/-- The weighted values, a row per head, component and query. -/
def mixed : FVec Ideal S1x8x128x1024 .f32 :=
  Host.dotGeneral dot_S1x16384x8x128_S1x8x1024x16384_S1x8x128x1024_1_3_3_2_02_01 none v (weights x wq k)

/-- The reference's result. -/
def result : FVec Ideal S1x1024x1024 .f32 :=
  Host.dotGeneral dot_S1x1024x1024_S1024x1024_S1x1024x1024_2_0_01_1_n_n none
    (shapeCast _ (transpose S1x1024x8x128 [0, 3, 1, 2] (mixed x wq k v) transposes_S1x8x128x1024_S1x1024x8x128_0_3_1_2)
      shapeCasts_S1x1024x8x128_S1x1024x1024 : FVec Ideal S1x1024x1024 .f32) wo

/-- What the reference's run leaves in its result is `result` of its arguments. -/
theorem res_eq (m : (ℓ : Loc nD τ sig) → Buf (Elt Ideal) ℓ) (c : Dev nD) :
    Cert.ReferenceIdeal.Value.res_main_v44 m c
      = result (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) := by
  unfold Cert.ReferenceIdeal.Value.res_main_v44
  rfl

end Cert.Proof.Ref

end
-- ==== Proof.RefWords.lean ====
/- The reference's blocks and mask, read at an index. -/
module

public import proofs.«01_k».proof.Proof.Masks
public import proofs.«01_k».proof.Proof.Reference
public import Idealize.ShloMosaic.Lib.Routing.OpsOrder

@[expose] public section

set_option maxRecDepth 16384

noncomputable section

namespace Cert.Proof.Ref

open Cert.ReferenceIdeal Cert.ReferenceIdeal.Gen
open Idealize.ShloMosaic

/-- The block of query `i`, of all queries. -/
theorem rowBlk_at (i : Fin 1024) : rowBlk (ix1 i) = BitVec.ofNat 32 (i.val / 64) := by
  unfold rowBlk sixtyFour
  pointwise
  revert i
  decide +kernel

/-- The block of key `j`, of all keys. -/
theorem colBlk_at (j : Fin 16384) : colBlk (ix1 j) = BitVec.ofNat 32 (j.val / 64) := by
  unfold colBlk sixtyFour
  pointwise
  revert j
  decide +kernel

/-- The mask at an index. -/
theorem allow_at (i : Fin 1024) (j : Fin 16384) : allow (ix2 i j) = BitVec.ofBool (allowed i.val j.val) := by
  have hb : j.val / 64 < 256 := by omega
  have ha : i.val / 64 < 16 := by omega
  unfold allow
  pointwise [mod3, rem3, three, zeros, qb, kb, kb1]
  rw [rowBlk_at i, colBlk_at j]
  unfold allowed
  generalize j.val / 64 = b at *
  generalize i.val / 64 = a at *
  obtain ⟨a, rfl⟩ : ∃ a' : Fin 16, a'.val = a := ⟨⟨a, ha⟩, rfl⟩
  obtain ⟨b, rfl⟩ : ∃ b' : Fin 256, b'.val = b := ⟨⟨b, hb⟩, rfl⟩
  clear ha hb
  revert a b
  decide +kernel

/-- Every query attends to the first key. -/
theorem keep_at (i : Fin 1024) : keep (ix4 0 0 i 0) = 1#1 := by
  unfold keep
  pointwise
  rw [Routing.fold_ori]
  refine ⟨0, Finset.mem_univ _, ?_⟩
  rw [allow_at]
  simp [allowed]

end Cert.Proof.Ref

end
-- ==== Proof.Softmax.lean ====
/- The arithmetic of one attention row: subtracting the largest score first changes nothing, when the scores are real numbers. -/
module

public import Idealize.ShloMosaic.PureOps.Ideal

@[expose] public section

noncomputable section

namespace Cert.Proof

open Idealize.ShloMosaic

/-- A real number that is not negative goes into a finite sum of extended reals as a factor. -/
theorem coe_mul_sum {ι : Type*} (s : Finset ι) {a : ℝ} (ha : 0 ≤ a) (f : ι → EReal) :
    (∑ j ∈ s, f j) * (a : EReal) = ∑ j ∈ s, f j * (a : EReal) := by
  classical
  induction s using Finset.induction_on with
  | empty => simp
  | insert j s hj ih =>
    rw [Finset.sum_insert hj, Finset.sum_insert hj, ← ih,
      EReal.right_distrib_of_nonneg_of_ne_top (by exact_mod_cast ha) (EReal.coe_ne_top a)]

/-- A finite sum of reals, taken among the extended reals. -/
theorem coe_sum {ι : Type*} (s : Finset ι) (f : ι → ℝ) : ∑ j ∈ s, ((f j : ℝ) : EReal) = ((∑ j ∈ s, f j : ℝ) : EReal) := by
  classical
  induction s using Finset.induction_on with
  | empty => simp
  | insert j s hj ih => rw [Finset.sum_insert hj, Finset.sum_insert hj, ih, EReal.coe_add]

/-- The exponential of a real is the real exponential. -/
theorem exp_coe (x : ℝ) : Ideal.exp (x : EReal) = ((Real.exp x : ℝ) : EReal) := rfl

/-- Division by a positive real. -/
theorem div_coe_pos (x : EReal) {y : ℝ} (h : 0 < y) : Ideal.div x (y : EReal) = x * ((y⁻¹ : ℝ) : EReal) := by
  unfold Ideal.div
  rw [if_neg (by exact_mod_cast h.ne'), EReal.coe_inv]

/-- The quotient of the sums is the sum of the values by the quotients, whatever real is first subtracted from the scores. -/
theorem softmax_eq {ι : Type*} [Fintype ι] [Nonempty ι] (s : ι → ℝ) (v : ι → EReal) (m : ℝ) :
    Ideal.div (∑ j, Ideal.exp (s j : EReal) * v j) (∑ j, Ideal.exp (s j : EReal))
      = ∑ j, v j * Ideal.div (Ideal.exp ((s j : EReal) - (m : EReal))) (∑ l, Ideal.exp ((s l : EReal) - (m : EReal))) := by
  have hE : 0 < ∑ j, Real.exp (s j) := Finset.sum_pos (fun j _ => Real.exp_pos _) Finset.univ_nonempty
  have hE' : 0 < ∑ j, Real.exp (s j - m) := Finset.sum_pos (fun j _ => Real.exp_pos _) Finset.univ_nonempty
  have hd : ∑ j, Real.exp (s j - m) = (∑ j, Real.exp (s j)) * Real.exp (-m) := by
    rw [Finset.sum_mul]
    exact Finset.sum_congr rfl fun j _ => by rw [← Real.exp_add, sub_eq_add_neg]
  have h1 : (∑ j, Ideal.exp (s j : EReal)) = ((∑ j, Real.exp (s j) : ℝ) : EReal) := by
    rw [← coe_sum]
    rfl
  have h2 : (∑ l, Ideal.exp ((s l : EReal) - (m : EReal))) = ((∑ j, Real.exp (s j - m) : ℝ) : EReal) := by
    rw [← coe_sum]
    exact Finset.sum_congr rfl fun l _ => by rw [← EReal.coe_sub, exp_coe]
  rw [h1, h2, div_coe_pos _ hE, coe_mul_sum _ (inv_nonneg.mpr hE.le)]
  refine Finset.sum_congr rfl fun j _ => ?_
  rw [div_coe_pos _ hE', ← EReal.coe_sub, exp_coe, exp_coe, mul_comm ((Real.exp (s j) : ℝ) : EReal) (v j), mul_assoc,
    ← EReal.coe_mul, ← EReal.coe_mul]
  congr 2
  rw [hd, sub_eq_add_neg, Real.exp_add, mul_inv]
  have := Real.exp_ne_zero (-m)
  field_simp

/-- The maximum of finitely many reals, at least one of them, is a real. -/
theorem fold_max_coe {ι : Type*} (t : Finset ι) (ht : t.Nonempty) (s : ι → ℝ) :
    ∃ m : ℝ, t.fold max (⊥ : EReal) (fun j => (s j : EReal)) = (m : EReal) := by
  classical
  induction ht using Finset.Nonempty.cons_induction with
  | singleton a => exact ⟨s a, by simp⟩
  | cons a t h _ ih =>
    obtain ⟨m, hm⟩ := ih
    exact ⟨max (s a) m, by rw [Finset.fold_cons, hm, EReal.coe_strictMono.monotone.map_max]⟩

end Cert.Proof

end
-- ==== Proof.RefValue.lean ====
/- The reference's stages read at an index, up to the weighted values as one quotient of sums. -/
module

public import proofs.«01_k».proof.Proof.RefWords
public import proofs.«01_k».proof.Proof.Softmax

@[expose] public section

set_option maxRecDepth 16384

noncomputable section

namespace Cert.Proof.Ref

open Cert.ReferenceIdeal Cert.ReferenceIdeal.Gen
open Idealize.ShloMosaic

/-- Each row's sum, of any mask of rows and any exponentials. -/
def totalOf (kp : IVec S1x1x1024x1 1) (e : FVec Ideal S1x8x1024x16384 .f32) : FVec Ideal S1x8x1024x1 .f32 :=
  select (broadcastInDim S1x8x1024x1 ![0, 1, 2, 3] bcast_S1x1x1024x1_S1x8x1024x1_0_1_2_3 kp)
    (broadcastInDim S1x8x1024x1 ![0, 1, 2] bcast_S1x8x1024_S1x8x1024x1_0_1_2
      (Host.reduceAdd e (constant S_ .f32 0x00000000#32) reducesTo_S1x8x1024x16384_S1x8x1024_d3 h_S_))
    (broadcastInDim S1x8x1024x1 ![] bcast_S_S1x8x1024x1 (id (constant S_ .f32 0x3F800000#32)))

/-- The weights, of any mask of rows, any exponentials and any sums. -/
def weightsOf (kp : IVec S1x1x1024x1 1) (e : FVec Ideal S1x8x1024x16384 .f32) (t : FVec Ideal S1x8x1024x1 .f32) :
    FVec Ideal S1x8x1024x16384 .f32 :=
  select (broadcastInDim S1x8x1024x16384 ![0, 1, 2, 3] bcast_S1x1x1024x1_S1x8x1024x16384_0_1_2_3 kp)
    (Host.divf e (broadcastInDim S1x8x1024x16384 ![0, 1, 2, 3] bcast_S1x8x1024x1_S1x8x1024x16384_0_1_2_3 t))
    (broadcastInDim S1x8x1024x16384 ![] bcast_S_S1x8x1024x16384 (id (constant S_ .f32 0x00000000#32)))

/-- A row that attends to some key: its sum is that of its exponentials. -/
theorem totalOf_at (kp : IVec S1x1x1024x1 1) (e : FVec Ideal S1x8x1024x16384 .f32) (h : Fin 8) (i : Fin 1024)
    (hk : kp (ix4 0 0 i 0) = 1#1) : totalOf kp e (ix4 0 h i 0) = ∑ j, e (ix4 0 h i j) := by
  unfold totalOf
  pointwise
  rw [hk]
  simp [Scalar.select]

/-- A row that attends to some key: its weights are the exponentials by the sum. -/
theorem weightsOf_at (kp : IVec S1x1x1024x1 1) (e : FVec Ideal S1x8x1024x16384 .f32) (t : FVec Ideal S1x8x1024x1 .f32) (h : Fin 8)
    (i : Fin 1024) (j : Fin 16384) (hk : kp (ix4 0 0 i 0) = 1#1) :
    weightsOf kp e t (ix4 0 h i j) = Ideal.div (e (ix4 0 h i j)) (t (ix4 0 h i 0)) := by
  unfold weightsOf
  pointwise
  rw [hk]
  simp [Scalar.select]

variable (x : FVec Ideal S1x1024x1024 .f32) (wq : FVec Ideal S1024x1024 .f32) (k v : FVec Ideal S1x16384x8x128 .f32)
  (wo : FVec Ideal S1024x1024 .f32)

/-- The weight of a key, as a quotient. -/
theorem weights_at (h : Fin 8) (i : Fin 1024) (j : Fin 16384) :
    weights x wq k (ix4 0 h i j) = Ideal.div (exps x wq k (ix4 0 h i j)) (∑ l, exps x wq k (ix4 0 h i l)) := by
  have e : weights x wq k = weightsOf keep (exps x wq k) (totalOf keep (exps x wq k)) := rfl
  rw [e, weightsOf_at _ _ _ _ _ _ (keep_at i), totalOf_at _ _ _ _ (keep_at i)]

/-- A projected query's component: row `r`, head `h`. -/
def qv (r : Fin 1024) (h : Fin 8) (d : Fin 128) : EReal :=
  ∑ t : Fin 1024, x (ix3 0 r t) * wq (ix2 t ⟨h.val * 128 + d.val, by omega⟩)

/-- The masked score of row `r` against key `j`. -/
def sc (r : Fin 1024) (h : Fin 8) (j : Fin 16384) : EReal :=
  Scalar.select (BitVec.ofBool (allowed r.val j.val))
    ((∑ d : Fin 128, qv x wq r h d * k (ix4 0 j h d)) * Ideal.ofBits .f32 0x3DB504F3#32) (Ideal.ofBits .f32 0xCE6E6B28#32)

/-- The projected queries at an index. -/
theorem queries_at (i : Fin 1024) (h : Fin 8) (d : Fin 128) : queries x wq (ix4 0 i h d) = qv x wq i h d := by
  unfold queries qv
  pointwise

/-- The scores at an index. -/
theorem scores_at (h : Fin 8) (i : Fin 1024) (j : Fin 16384) : scores x wq k (ix4 0 h i j) = sc x wq k i h j := by
  unfold scores
  pointwise
  rw [allow_at]
  simp only [queries_at]
  rfl

/-- The greatest score of a row, as a maximum from below every number. -/
theorem top_at (h : Fin 8) (i : Fin 1024) :
    top x wq k (ix3 0 h i) = Finset.univ.fold max (⊥ : EReal) (fun j => sc x wq k i h j) := by
  have e : Ideal.ofBits .f32 0xFF800000#32 = (⊥ : EReal) := by
    simp [Ideal.ofBits, Ideal.ieee]
  unfold top
  pointwise
  rw [e]
  simp only [scores_at]

/-- The exponentials at an index. -/
theorem exps_at (h : Fin 8) (i : Fin 1024) (j : Fin 16384) :
    exps x wq k (ix4 0 h i j) = Ideal.exp (sc x wq k i h j - top x wq k (ix3 0 h i)) := by
  rw [← scores_at]
  unfold exps
  pointwise

/-- The attention of row `i`, head `h`, component `d`: one quotient of two sums over all keys. -/
def att (i : Fin 1024) (h : Fin 8) (d : Fin 128) : EReal :=
  Ideal.div (∑ j, Ideal.exp (sc x wq k i h j) * v (ix4 0 j h d)) (∑ j, Ideal.exp (sc x wq k i h j))

/-- The weighted values are the quotient, when the row's scores are real numbers. -/
theorem mixed_at (h : Fin 8) (d : Fin 128) (i : Fin 1024) (hs : ∀ j, ∃ s : ℝ, sc x wq k i h j = (s : EReal)) :
    mixed x wq k v (ix4 0 h d i) = att x wq k v i h d := by
  obtain ⟨s, hs⟩ := Classical.axiomOfChoice hs
  obtain ⟨m, hm⟩ := fold_max_coe (Finset.univ : Finset (Fin 16384)) Finset.univ_nonempty s
  have ht : top x wq k (ix3 0 h i) = (m : EReal) := by
    rw [top_at, ← hm]
    simp only [hs]
  have hx : ∀ j, exps x wq k (ix4 0 h i j) = Ideal.exp ((s j : EReal) - (m : EReal)) := fun j => by rw [exps_at, ht, hs]
  unfold mixed att
  pointwise
  simp only [weights_at, hx, hs]
  exact (softmax_eq s _ m).symm

/-- The result at an index, by the weighted values. -/
theorem result_at (i n : Fin 1024) :
    result x wq k v wo (ix3 0 i n)
      = ∑ t : Fin 1024, mixed x wq k v (ix4 0 ⟨t.val / 128, by omega⟩ ⟨t.val % 128, by omega⟩ i) * wo (ix2 t n) := by
  unfold result
  pointwise

end Cert.Proof.Ref

end
-- ==== Proof.Finite.lean ====
/- What the precondition says: the tokens, the query projection and the keys are real numbers; and so are then the scores. -/
module

public import proofs.«01_k».proof.Pre_finite_KernelIdeal
public import proofs.«01_k».proof.Pre_finite_ReferenceIdeal
public import proofs.«01_k».proof.Proof.RefValue

@[expose] public section

set_option maxRecDepth 16384

noncomputable section

namespace Cert.Proof

open Idealize.ShloMosaic

/-- The shapes the precondition's broadcasts relate, on one device's blocks. -/
theorem facts_kernel : Cert.Pre_finite_KernelIdeal.Facts := ⟨by decide, by decide, by decide⟩

/-- The same on the whole arrays. -/
theorem facts_reference : Cert.Pre_finite_ReferenceIdeal.Facts := ⟨by decide, by decide, by decide⟩

/-- A number whose absolute value is below the infinite word's is real. -/
theorem real_of_lt (a : Ideal .f32)
    (h : FloatOps.cmpf .olt (FloatOps.absf a) (FloatOps.ofBits .f32 0x7F800000#32 : Ideal .f32) = 1#1) : ∃ s : ℝ, a = ((s : ℝ) : EReal) := by
  have e : Ideal.ofBits .f32 0x7F800000#32 = (⊤ : EReal) := by simp [Ideal.ofBits, Ideal.ieee]
  have h' : max (a : EReal) (-a) < ⊤ := by
    by_contra hn
    change Ideal.cmp .olt (max (a : EReal) (-a)) (Ideal.ofBits .f32 0x7F800000#32) = 1#1 at h
    rw [e] at h
    simp [Ideal.cmp, hn] at h
  induction a using EReal.rec with
  | bot => simp at h'
  | top => simp at h'
  | coe s => exact ⟨s, rfl⟩

section
open Cert.Pre_finite_KernelIdeal

variable [Cert.Pre_finite_KernelIdeal.Facts] (a0 : FVec Ideal S1x256x1024 .f32) (a1 : FVec Ideal S1024x1024 .f32)
  (a2 a3 : FVec Ideal S1x4096x8x128 .f32) (a4 : FVec Ideal S1024x1024 .f32)

/-- The tokens are real. -/
theorem pre_x (h : (fn (F := Ideal) a0 a1 a2 a3 a4).1 = fun _ => 1#1) (i : S1x256x1024.Idx) : ∃ s : ℝ, a0 i = ((s : ℝ) : EReal) :=
  real_of_lt _ (congrFun h i)

/-- The query projection is real. -/
theorem pre_wq (h : (fn (F := Ideal) a0 a1 a2 a3 a4).2.1 = fun _ => 1#1) (i : S1024x1024.Idx) : ∃ s : ℝ, a1 i = ((s : ℝ) : EReal) :=
  real_of_lt _ (congrFun h i)

/-- The keys are real. -/
theorem pre_k (h : (fn (F := Ideal) a0 a1 a2 a3 a4).2.2 = fun _ => 1#1) (i : S1x4096x8x128.Idx) : ∃ s : ℝ, a2 i = ((s : ℝ) : EReal) :=
  real_of_lt _ (congrFun h i)

end

/-- Sums of products of reals are real. -/
theorem real_sum_mul {ι : Type*} [Fintype ι] (f g : ι → EReal) (hf : ∀ j, ∃ s : ℝ, f j = (s : EReal)) (hg : ∀ j, ∃ s : ℝ, g j = (s : EReal)) :
    ∃ s : ℝ, ∑ j, f j * g j = (s : EReal) := by
  obtain ⟨f', hf'⟩ := Classical.axiomOfChoice hf
  obtain ⟨g', hg'⟩ := Classical.axiomOfChoice hg
  refine ⟨∑ j, f' j * g' j, ?_⟩
  rw [← coe_sum]
  exact Finset.sum_congr rfl fun j _ => by rw [hf', hg', EReal.coe_mul]

/-- The scale is a real number. -/
theorem real_scale : ∃ s : ℝ, Ideal.ofBits .f32 0x3DB504F3#32 = ((s : ℝ) : EReal) := ⟨_, rfl⟩

/-- The masked score is a real number. -/
theorem real_masked : ∃ s : ℝ, Ideal.ofBits .f32 0xCE6E6B28#32 = ((s : ℝ) : EReal) := ⟨_, rfl⟩

open Cert.ReferenceIdeal in
/-- The scores are real when the tokens, the projection and the keys are. -/
theorem real_sc (x : FVec Ideal S1x1024x1024 .f32) (wq : FVec Ideal S1024x1024 .f32) (k : FVec Ideal S1x16384x8x128 .f32)
    (hx : ∀ i, ∃ s : ℝ, x i = ((s : ℝ) : EReal)) (hw : ∀ i, ∃ s : ℝ, wq i = ((s : ℝ) : EReal)) (hk : ∀ i, ∃ s : ℝ, k i = ((s : ℝ) : EReal))
    (r : Fin 1024) (h : Fin 8) (j : Fin 16384) : ∃ s : ℝ, Ref.sc x wq k r h j = ((s : ℝ) : EReal) := by
  unfold Ref.sc
  cases allowed r.val j.val
  · exact real_masked
  · obtain ⟨a, ha⟩ := real_sum_mul (fun d => Ref.qv x wq r h d) (fun d => k (ix4 0 j h d))
      (fun d => real_sum_mul _ _ (fun t => hx _) (fun t => hw _)) (fun d => hk _)
    obtain ⟨b, hb⟩ := real_scale
    refine ⟨a * b, ?_⟩
    rw [EReal.coe_mul, ← ha, ← hb]
    rfl

end Cert.Proof

end
-- ==== Proof.Value.lean ====
/- The kernel's result on device `c` is block `c` of the reference's. -/
module

public import proofs.«01_k».proof.Proof.KerValue
public import proofs.«01_k».proof.Proof.Finite
public import Idealize.ShloMosaic.Lib.LayoutAt

@[expose] public section

set_option maxRecDepth 16384

noncomputable section

namespace Cert.Proof

open Idealize.ShloMosaic
open Cert.ReferenceIdeal (S1x1024x1024 S1024x1024 S1x16384x8x128)
open Cert.KernelIdeal (S1x256x1024 S1x4096x8x128)
open Ring (Inputs num den sco mask RES RES_read num_at den_at mask_at qOf qOf_at outOf outOf_at)

/-- The four rounds' devices are all four devices. -/
theorem four_terms (G : Fin 4 → EReal) (c : Fin 4) : G c + G (c + 1) + G (c + 2) + G (c + 3) = ∑ e, G e := by
  rw [Fin.sum_univ_four]
  fin_cases c
  · rfl
  · show G 1 + G 2 + G 3 + G 0 = _
    abel
  · show G 2 + G 3 + G 0 + G 1 = _
    abel
  · show G 3 + G 0 + G 1 + G 2 = _
    abel

/-- A sum over all keys, shard by shard. -/
theorem sum_shards (g : Fin 16384 → EReal) :
    ∑ e : Fin 4, ∑ j : Fin 4096, g ⟨4096 * e.val + j.val, by omega⟩ = ∑ l, g l := by
  rw [← Fintype.sum_prod_type', ← (finProdFinEquiv (m := 4) (n := 4096)).sum_comp]
  refine Finset.sum_congr rfl fun p _ => congrArg g (Fin.ext ?_)
  show 4096 * p.1.val + p.2.val = p.2.val + 4096 * p.1.val
  omega

/-- The device `r` places before the one `r` places after is the first again. -/
theorem round_back (c r : Fin 4) : c + r - r = c := by revert c r; decide

variable (x : FVec Ideal S1x1024x1024 .f32) (wq : FVec Ideal S1024x1024 .f32) (k v : FVec Ideal S1x16384x8x128 .f32)
  (wo : FVec Ideal S1024x1024 .f32)

/-- The whole arrays' blocks are what the devices are handed. -/
structure Handed (X : Inputs Ideal) : Prop where
  q : ∀ (c : Fin 4) (h : Fin 8) (i : Fin 256) (t : Fin 128), X.q c (ix3 h i t) = Ref.qv x wq ⟨256 * c.val + i.val, by omega⟩ h t
  k : ∀ (c : Fin 4) (j : Fin 4096) (h : Fin 8) (t : Fin 128), X.k c (ix4 0 j h t) = k (ix4 0 ⟨4096 * c.val + j.val, by omega⟩ h t)
  v : ∀ (c : Fin 4) (j : Fin 4096) (h : Fin 8) (t : Fin 128), X.v c (ix4 0 j h t) = v (ix4 0 ⟨4096 * c.val + j.val, by omega⟩ h t)

variable {x wq k v} {X : Inputs Ideal} (H : Handed x wq k v X)

include H

/-- The score a device computes in a round is the reference's, of its row and key among all. -/
theorem sco_eq (c r : Fin 4) (h : Fin 8) (i : Fin 256) (j : Fin 4096) :
    sco (mask (c + r) r (ix2 i j)) (fun t => X.q (c + r - r) (ix3 h i t)) (fun t => X.k (c + r) (ix4 0 j h t))
      = Ref.sc x wq k ⟨256 * c.val + i.val, by omega⟩ h ⟨4096 * (c + r).val + j.val, by omega⟩ := by
  rw [mask_at]
  simp only [H.q, H.k]
  rw [round_back]
  rfl

/-- The numerators of round `r` for device `c`'s queries. -/
theorem num_eq (c r : Fin 4) (h : Fin 8) (i : Fin 256) (d : Fin 128) :
    num X (c + r) r h (ix3 0 i d) = ∑ j : Fin 4096,
      Ideal.exp (Ref.sc x wq k ⟨256 * c.val + i.val, by omega⟩ h ⟨4096 * (c + r).val + j.val, by omega⟩)
        * v (ix4 0 ⟨4096 * (c + r).val + j.val, by omega⟩ h d) := by
  rw [num_at]
  exact Finset.sum_congr rfl fun j _ => by rw [sco_eq H, H.v]

/-- The denominators of round `r` for device `c`'s queries. -/
theorem den_eq (c r : Fin 4) (h : Fin 8) (i : Fin 256) :
    den X (c + r) r h (ix2 i h) = ∑ j : Fin 4096,
      Ideal.exp (Ref.sc x wq k ⟨256 * c.val + i.val, by omega⟩ h ⟨4096 * (c + r).val + j.val, by omega⟩) := by
  rw [den_at]
  exact Finset.sum_congr rfl fun j _ => by rw [sco_eq H]

/-- The attention of device `c`'s rows is the reference's. -/
theorem RES_att (c : Fin 4) (h : Fin 8) (i : Fin 256) (d : Fin 128) :
    RES X c (ix3 h i d) = Ref.att x wq k v ⟨256 * c.val + i.val, by omega⟩ h d := by
  have n0 := num_eq H c 0 h i d
  have d0 := den_eq H c 0 h i
  simp only [add_zero] at n0 d0
  rw [RES_read, n0, d0, num_eq H c 1, num_eq H c 2, num_eq H c 3, den_eq H c 1, den_eq H c 2, den_eq H c 3]
  unfold Ref.att
  refine congrArg₂ Ideal.div ?_ ?_
  · refine (four_terms (fun e => ∑ j : Fin 4096,
      Ideal.exp (Ref.sc x wq k ⟨256 * c.val + i.val, by omega⟩ h ⟨4096 * e.val + j.val, by omega⟩)
        * v (ix4 0 ⟨4096 * e.val + j.val, by omega⟩ h d)) c).trans ?_
    exact sum_shards (fun l => Ideal.exp (Ref.sc x wq k ⟨256 * c.val + i.val, by omega⟩ h l) * v (ix4 0 l h d))
  · refine (four_terms (fun e => ∑ j : Fin 4096,
      Ideal.exp (Ref.sc x wq k ⟨256 * c.val + i.val, by omega⟩ h ⟨4096 * e.val + j.val, by omega⟩)) c).trans ?_
    exact sum_shards (fun l => Ideal.exp (Ref.sc x wq k ⟨256 * c.val + i.val, by omega⟩ h l))

/-- The kernel's result on device `c` is block `c` of the reference's, when every score is a real number. -/
theorem out_eq (hs : ∀ r h j, ∃ s : ℝ, Ref.sc x wq k r h j = ((s : ℝ) : EReal)) (c : Fin 4) :
    outOf (RES X c) wo = Layout.block S1x256x1024 S1x1024x1024 1 4 c (Ref.result x wq k v wo) := by
  funext i
  idx_vars i
  obtain rfl : i0 = 0 := Subsingleton.elim _ _
  rw [Layout.block_apply]
  refine (outOf_at _ _ i1 i2).trans ?_
  have e : (Layout.Tiles.idx (S := S1x256x1024) (T := S1x1024x1024) (a := 1) (k := 4) (by decide) c (ix3 0 i1 i2))
      = ix3 0 ⟨256 * c.val + i1.val, by omega⟩ i2 := by
    shard_ext
  refine Eq.trans ?_ (congrArg (Ref.result x wq k v wo) e).symm
  rw [Ref.result_at]
  exact Finset.sum_congr rfl fun t _ => by rw [RES_att H, Ref.mixed_at _ _ _ _ _ _ _ (fun j => hs _ _ j)]

end Cert.Proof

end
-- ==== Proof.Algebra.lean ====
/- The value claim: from devices that hold the blocks of the reference's arrays, the kernel's results are the blocks of the
   reference's result. -/
module

public import proofs.«01_k».proof.Defs
public import proofs.«01_k».proof.Proof.Frames
public import proofs.«01_k».proof.Proof.Value

@[expose] public section

set_option maxRecDepth 16384

noncomputable section

namespace Cert.Proof

open Idealize.ShloMosaic Idealize.SL.Sem
open Cert.ReferenceIdeal (S1x1024x1024 S1024x1024 S1x16384x8x128)
open Cert.KernelIdeal (S1x256x1024 S1x4096x8x128)

/-- An array of tokens is real when each device's block of it is. -/
theorem real_x (x : S1x1024x1024.Idx → EReal)
    (h : ∀ (c : Fin 4) (i : S1x256x1024.Idx), ∃ s : ℝ, (Layout.block S1x256x1024 S1x1024x1024 1 4 c x : S1x256x1024.Idx → EReal) i = ((s : ℝ) : EReal))
    (j : S1x1024x1024.Idx) : ∃ s : ℝ, x j = ((s : ℝ) : EReal) := by
  idx_vars j
  obtain rfl : j0 = 0 := Subsingleton.elim _ _
  obtain ⟨s, hs⟩ := h ⟨j1.val / 256, by omega⟩ (ix3 0 ⟨j1.val % 256, by omega⟩ j2)
  refine ⟨s, hs ▸ ?_⟩
  rw [Layout.block_apply]
  shard_ext

/-- An array of keys is real when each device's block of it is. -/
theorem real_k (k : S1x16384x8x128.Idx → EReal)
    (h : ∀ (c : Fin 4) (i : S1x4096x8x128.Idx), ∃ s : ℝ, (Layout.block S1x4096x8x128 S1x16384x8x128 1 4 c k : S1x4096x8x128.Idx → EReal) i = ((s : ℝ) : EReal))
    (j : S1x16384x8x128.Idx) : ∃ s : ℝ, k j = ((s : ℝ) : EReal) := by
  idx_vars j
  obtain rfl : j0 = 0 := Subsingleton.elim _ _
  obtain ⟨s, hs⟩ := h ⟨j1.val / 4096, by omega⟩ (ix4 0 ⟨j1.val % 4096, by omega⟩ j2 j3)
  refine ⟨s, hs ▸ ?_⟩
  rw [Layout.block_apply]
  shard_ext

/-- A device's block of the tokens, at an index. -/
theorem block_x (x : S1x1024x1024.Idx → EReal) (c : Fin 4) (i : Fin 256) (t : Fin 1024) :
    (Layout.block S1x256x1024 S1x1024x1024 1 4 c x : S1x256x1024.Idx → EReal) (ix3 0 i t) = x (ix3 0 ⟨256 * c.val + i.val, by omega⟩ t) := by
  rw [Layout.block_apply]
  shard_ext

/-- A device's block of the keys or of the values, at an index. -/
theorem block_k (k : S1x16384x8x128.Idx → EReal) (c : Fin 4) (j : Fin 4096) (h : Fin 8) (t : Fin 128) :
    (Layout.block S1x4096x8x128 S1x16384x8x128 1 4 c k : S1x4096x8x128.Idx → EReal) (ix4 0 j h t) = k (ix4 0 ⟨4096 * c.val + j.val, by omega⟩ h t) := by
  rw [Layout.block_apply]
  shard_ext

/-- The kernel computes the reference's result, each device its block. -/
theorem algebraic : Cert.algebraic_KernelIdeal_ReferenceIdeal_pre_finite_KernelIdeal (hKernelIdeal := Cert.KernelIdeal.Gen.facts)
    (hReferenceIdeal := Cert.ReferenceIdeal.Gen.facts) (hPre_finite_KernelIdeal := facts_kernel) := by
  intro m g m' g' hpre hin
  letI := facts_kernel
  let x : FVec Ideal S1x1024x1024 .f32 := m' (((0 : Dev Cert.ReferenceIdeal.nD).tc : Thread Cert.ReferenceIdeal.nD Cert.ReferenceIdeal.τ).loc Cert.ReferenceIdeal.main_arg0)
  let wq : FVec Ideal S1024x1024 .f32 := m' (((0 : Dev Cert.ReferenceIdeal.nD).tc : Thread Cert.ReferenceIdeal.nD Cert.ReferenceIdeal.τ).loc Cert.ReferenceIdeal.main_arg1)
  let k : FVec Ideal S1x16384x8x128 .f32 := m' (((0 : Dev Cert.ReferenceIdeal.nD).tc : Thread Cert.ReferenceIdeal.nD Cert.ReferenceIdeal.τ).loc Cert.ReferenceIdeal.main_arg2)
  let v : FVec Ideal S1x16384x8x128 .f32 := m' (((0 : Dev Cert.ReferenceIdeal.nD).tc : Thread Cert.ReferenceIdeal.nD Cert.ReferenceIdeal.τ).loc Cert.ReferenceIdeal.main_arg3)
  let wo : FVec Ideal S1024x1024 .f32 := m' (((0 : Dev Cert.ReferenceIdeal.nD).tc : Thread Cert.ReferenceIdeal.nD Cert.ReferenceIdeal.τ).loc Cert.ReferenceIdeal.main_arg4)
  have H : Handed x wq k v (Ring.inputs m) := by
    constructor
    · intro c h i t
      refine (congrFun (Ring.inputs_q m c) _).trans ?_
      rw [(hin c).1, (hin c).2.1]
      refine (Ring.qOf_at _ _ h i t).trans ?_
      exact Finset.sum_congr rfl fun a _ => congrArg (· * _) (block_x x c i a)
    · intro c j h t
      refine (congrFun (Ring.inputs_k m c) _).trans ?_
      rw [(hin c).2.2.1]
      exact block_k k c j h t
    · intro c j h t
      refine (congrFun (Ring.inputs_v m c) _).trans ?_
      rw [(hin c).2.2.2.1]
      exact block_k v c j h t
  have hx : ∀ i, ∃ s : ℝ, x i = ((s : ℝ) : EReal) := real_x x fun c i => by
    have := pre_x _ _ _ _ _ (hpre c).1 i
    rw [(hin c).1] at this
    exact this
  have hw : ∀ i, ∃ s : ℝ, wq i = ((s : ℝ) : EReal) := fun i => by
    have := pre_wq _ _ _ _ _ (hpre 0).2.1 i
    rw [(hin 0).2.1] at this
    exact this
  have hk : ∀ i, ∃ s : ℝ, k i = ((s : ℝ) : EReal) := real_k k fun c i => by
    have := pre_k _ _ _ _ _ (hpre c).2.2 i
    rw [(hin c).2.2.1] at this
    exact this
  refine ⟨Ref.result x wq k v wo, ?_, ?_⟩
  · refine (θ_run (Cert.KernelIdeal.defs (F := Ideal)) _ _).mono (fun r h c => ?_) (Ring.run_main true m g (fun _ => Ring.law_ideal))
    obtain ⟨⟨f, hf, hr⟩, hargs⟩ := h.1 c
    refine ⟨?_, hargs⟩
    rw [hr, hf rfl, (hin c).2.2.2.2]
    exact out_eq wo H (real_sc x wq k hx hw hk) c
  · refine (θ_run (Cert.ReferenceIdeal.defs (F := Ideal)) _ _).mono (fun r h => ?_) (Cert.ReferenceIdeal.Value.run m' g')
    obtain ⟨hr, hargs⟩ := h 0
    exact ⟨hr.trans (Ref.res_eq m' 0), hargs⟩

end Cert.Proof

end
-- ==== Proof.lean ====
module

public import proofs.«01_k».proof.Defs
public import proofs.«01_k».proof.Proof.Algebra

@[expose] public section

namespace Cert.Proof

/-- Everything the certificate claims: the frames, with and without the precondition; that the idealization changed nothing; and the
    equality of the results. -/
theorem claim : Cert.Claim :=
  ⟨Cert.Kernel.Gen.facts, Cert.KernelIdeal.Gen.facts, Cert.ReferenceIdeal.Gen.facts, facts_kernel, facts_reference,
    frame_kernel, frame_ideal, fun m g _ => frame_ideal m g trivial, frame_reference, fun m g _ => frame_reference m g trivial,
    trivial, algebraic⟩

end Cert.Proof
